-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel31 [hPre_place31 : Cert.Pre_place31.Facts] (m : (ℓ : Loc Cert.Kernel31.nD Cert.Kernel31.τ Cert.Kernel31.sig) → Buf (Elt Bits) ℓ) : Prop :=
  ∀ c : Dev Cert.Kernel31.nD,
    (Cert.Pre_place31.fn (F := Bits) (m ((c.tc : Thread Cert.Kernel31.nD Cert.Kernel31.τ).loc Cert.Kernel31.main_arg0)) (m ((c.tc : Thread Cert.Kernel31.nD Cert.Kernel31.τ).loc Cert.Kernel31.main_arg1)) (m ((c.tc : Thread Cert.Kernel31.nD Cert.Kernel31.τ).loc Cert.Kernel31.main_arg2))) = (fun _ => 1#1)

def Pre_Kernel31Ideal [hPre_place31 : Cert.Pre_place31.Facts] (m : (ℓ : Loc Cert.Kernel31Ideal.nD Cert.Kernel31Ideal.τ Cert.Kernel31Ideal.sig) → Buf (Elt Ideal) ℓ) : Prop :=
  ∀ c : Dev Cert.Kernel31Ideal.nD,
    (Cert.Pre_place31.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2))) = (fun _ => 1#1)

def Pre_Reference31Ideal (m : (ℓ : Loc Cert.Reference31Ideal.nD Cert.Reference31Ideal.τ Cert.Reference31Ideal.sig) → Buf (Elt Ideal) ℓ) : Prop :=
  True

def Pre_Reference31Ideal_place31 [hPre_place31 : Cert.Pre_place31.Facts] (m : (ℓ : Loc Cert.Reference31Ideal.nD Cert.Reference31Ideal.τ Cert.Reference31Ideal.sig) → Buf (Elt Ideal) ℓ) : Prop :=
  ∀ c : Dev Cert.Reference31Ideal.nD,
    (Cert.Pre_place31.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2))) = (fun _ => 1#1)

def Pre_Kernel32 [hPre_place32 : Cert.Pre_place32.Facts] (m : (ℓ : Loc Cert.Kernel32.nD Cert.Kernel32.τ Cert.Kernel32.sig) → Buf (Elt Bits) ℓ) : Prop :=
  ∀ c : Dev Cert.Kernel32.nD,
    (Cert.Pre_place32.fn (F := Bits) (m ((c.tc : Thread Cert.Kernel32.nD Cert.Kernel32.τ).loc Cert.Kernel32.main_arg0)) (m ((c.tc : Thread Cert.Kernel32.nD Cert.Kernel32.τ).loc Cert.Kernel32.main_arg1)) (m ((c.tc : Thread Cert.Kernel32.nD Cert.Kernel32.τ).loc Cert.Kernel32.main_arg2))) = (fun _ => 1#1)

def Pre_Kernel32Ideal [hPre_place32 : Cert.Pre_place32.Facts] (m : (ℓ : Loc Cert.Kernel32Ideal.nD Cert.Kernel32Ideal.τ Cert.Kernel32Ideal.sig) → Buf (Elt Ideal) ℓ) : Prop :=
  ∀ c : Dev Cert.Kernel32Ideal.nD,
    (Cert.Pre_place32.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2))) = (fun _ => 1#1)

def Pre_Reference32Ideal (m : (ℓ : Loc Cert.Reference32Ideal.nD Cert.Reference32Ideal.τ Cert.Reference32Ideal.sig) → Buf (Elt Ideal) ℓ) : Prop :=
  True

def Pre_Reference32Ideal_place32 [hPre_place32 : Cert.Pre_place32.Facts] (m : (ℓ : Loc Cert.Reference32Ideal.nD Cert.Reference32Ideal.τ Cert.Reference32Ideal.sig) → Buf (Elt Ideal) ℓ) : Prop :=
  ∀ c : Dev Cert.Reference32Ideal.nD,
    (Cert.Pre_place32.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2))) = (fun _ => 1#1)

def Pre_Kernel33 [hPre_place33 : Cert.Pre_place33.Facts] (m : (ℓ : Loc Cert.Kernel33.nD Cert.Kernel33.τ Cert.Kernel33.sig) → Buf (Elt Bits) ℓ) : Prop :=
  ∀ c : Dev Cert.Kernel33.nD,
    (Cert.Pre_place33.fn (F := Bits) (m ((c.tc : Thread Cert.Kernel33.nD Cert.Kernel33.τ).loc Cert.Kernel33.main_arg0)) (m ((c.tc : Thread Cert.Kernel33.nD Cert.Kernel33.τ).loc Cert.Kernel33.main_arg1)) (m ((c.tc : Thread Cert.Kernel33.nD Cert.Kernel33.τ).loc Cert.Kernel33.main_arg2))) = (fun _ => 1#1)

def Pre_Kernel33Ideal [hPre_place33 : Cert.Pre_place33.Facts] (m : (ℓ : Loc Cert.Kernel33Ideal.nD Cert.Kernel33Ideal.τ Cert.Kernel33Ideal.sig) → Buf (Elt Ideal) ℓ) : Prop :=
  ∀ c : Dev Cert.Kernel33Ideal.nD,
    (Cert.Pre_place33.fn (F := Ideal) (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2))) = (fun _ => 1#1)

def Pre_Reference33Ideal (m : (ℓ : Loc Cert.Reference33Ideal.nD Cert.Reference33Ideal.τ Cert.Reference33Ideal.sig) → Buf (Elt Ideal) ℓ) : Prop :=
  True

def Pre_Reference33Ideal_place33 [hPre_place33 : Cert.Pre_place33.Facts] (m : (ℓ : Loc Cert.Reference33Ideal.nD Cert.Reference33Ideal.τ Cert.Reference33Ideal.sig) → Buf (Elt Ideal) ℓ) : Prop :=
  ∀ c : Dev Cert.Reference33Ideal.nD,
    (Cert.Pre_place33.fn (F := Ideal) (m ((c.tc : Thread Cert.Reference33Ideal.nD Cert.Reference33Ideal.τ).loc Cert.Reference33Ideal.main_arg0)) (m ((c.tc : Thread Cert.Reference33Ideal.nD Cert.Reference33Ideal.τ).loc Cert.Reference33Ideal.main_arg1)) (m ((c.tc : Thread Cert.Reference33Ideal.nD Cert.Reference33Ideal.τ).loc Cert.Reference33Ideal.main_arg2))) = (fun _ => 1#1)

def Pre_Kernel34 [hPre_place34 : Cert.Pre_place34.Facts] (m : (ℓ : Loc Cert.Kernel34.nD Cert.Kernel34.τ Cert.Kernel34.sig) → Buf (Elt Bits) ℓ) : Prop :=
  ∀ c : Dev Cert.Kernel34.nD,
    (Cert.Pre_place34.fn (F := Bits) (m ((c.tc : Thread Cert.Kernel34.nD Cert.Kernel34.τ).loc Cert.Kernel34.main_arg0)) (m ((c.tc : Thread Cert.Kernel34.nD Cert.Kernel34.τ).loc Cert.Kernel34.main_arg1)) (m ((c.tc : Thread Cert.Kernel34.nD Cert.Kernel34.τ).loc Cert.Kernel34.main_arg2))) = (fun _ => 1#1)

def Pre_Kernel34Ideal [hPre_place34 : Cert.Pre_place34.Facts] (m : (ℓ : Loc Cert.Kernel34Ideal.nD Cert.Kernel34Ideal.τ Cert.Kernel34Ideal.sig) → Buf (Elt Ideal) ℓ) : Prop :=
  ∀ c : Dev Cert.Kernel34Ideal.nD,
    (Cert.Pre_place34.fn (F := Ideal) (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1)) (m ((c.tc : Thread Cert.Kernel34Ideal.nD Cert.Kernel34Ideal.τ).loc Cert.Kernel34Ideal.main_arg2))) = (fun _ => 1#1)

def Pre_Reference34Ideal (m : (ℓ : Loc Cert.Reference34Ideal.nD Cert.Reference34Ideal.τ Cert.Reference34Ideal.sig) → Buf (Elt Ideal) ℓ) : Prop :=
  True

def Pre_Reference34Ideal_place34 [hPre_place34 : Cert.Pre_place34.Facts] (m : (ℓ : Loc Cert.Reference34Ideal.nD Cert.Reference34Ideal.τ Cert.Reference34Ideal.sig) → Buf (Elt Ideal) ℓ) : Prop :=
  ∀ c : Dev Cert.Reference34Ideal.nD,
    (Cert.Pre_place34.fn (F := Ideal) (m ((c.tc : Thread Cert.Reference34Ideal.nD Cert.Reference34Ideal.τ).loc Cert.Reference34Ideal.main_arg0)) (m ((c.tc : Thread Cert.Reference34Ideal.nD Cert.Reference34Ideal.τ).loc Cert.Reference34Ideal.main_arg1)) (m ((c.tc : Thread Cert.Reference34Ideal.nD Cert.Reference34Ideal.τ).loc Cert.Reference34Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel31 [hKernel31 : Cert.Kernel31.Facts] [hPre_place31 : Cert.Pre_place31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] [hPre_place31 : Cert.Pre_place31.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Reference31Ideal_pre_place31 [hReference31Ideal : Cert.Reference31Ideal.Facts] [hPre_place31 : Cert.Pre_place31.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal_place31 m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] [hPre_place32 : Cert.Pre_place32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] [hPre_place32 : Cert.Pre_place32.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Reference32Ideal_pre_place32 [hReference32Ideal : Cert.Reference32Ideal.Facts] [hPre_place32 : Cert.Pre_place32.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal_place32 m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] [hPre_place33 : Cert.Pre_place33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] [hPre_place33 : Cert.Pre_place33.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Reference33Ideal_pre_place33 [hReference33Ideal : Cert.Reference33Ideal.Facts] [hPre_place33 : Cert.Pre_place33.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal_place33 m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Kernel34 [hKernel34 : Cert.Kernel34.Facts] [hPre_place34 : Cert.Pre_place34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] [hPre_place34 : Cert.Pre_place34.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Reference34Ideal_pre_place34 [hReference34Ideal : Cert.Reference34Ideal.Facts] [hPre_place34 : Cert.Pre_place34.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal_place34 m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def preserves_Kernel_KernelIdeal : Prop :=
  True

def algebraic_KernelIdeal_ReferenceIdeal_on_gate_segments [hKernelIdeal : Cert.KernelIdeal.Facts] [hReferenceIdeal : Cert.ReferenceIdeal.Facts] [hOn_gate_segments : Cert.On_gate_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8256, 1024]⟩ : Shape).Idx, (Cert.On_gate_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v0_0) i = v0 c i)
          ∧ (∀ i : (⟨2, ![8256, 1024]⟩ : Shape).Idx, (Cert.On_gate_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v0_1) i = v1 c i)
          ∧ (∀ i : (⟨3, ![7, 8256, 1024]⟩ : Shape).Idx, (Cert.On_gate_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 i = 1#1 → r.2.mem ((c.tc : Thread Cert.KernelIdeal.nD Cert.KernelIdeal.τ).loc Cert.KernelIdeal.main_v0_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8256, 1024]⟩ : Shape).Idx, (Cert.On_gate_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v36) i = v0 c i)
          ∧ (∀ i : (⟨2, ![8256, 1024]⟩ : Shape).Idx, (Cert.On_gate_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v37) i = v1 c i)
          ∧ (∀ i : (⟨3, ![7, 8256, 1024]⟩ : Shape).Idx, (Cert.On_gate_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 i = 1#1 → r.2.mem ((c.tc : Thread Cert.ReferenceIdeal.nD Cert.ReferenceIdeal.τ).loc Cert.ReferenceIdeal.main_v38) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v9) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_v5) = v1 c
          ∧ r.2.mem ((c.tc : Thread Cert.Reference19Ideal.nD Cert.Reference19Ideal.τ).loc Cert.Reference19Ideal.main_v23) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_v16) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel25_Kernel25Ideal : Prop :=
  IdealRules.named_const.Statement Cert.Kernel25Ideal.κ "corr1" .f32 0x3FC48605#32 ((8388608 / 5463681 : ℝ) : EReal)
  ∧ IdealRules.named_const.Statement Cert.Kernel25Ideal.κ "corr2" .f32 0x42C8E6D3#32 ((268435456 / 2672307 : ℝ) : EReal)

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  IdealRules.named_const.Statement Cert.Kernel26Ideal.κ "corr1" .f32 0x3FC48605#32 ((8388608 / 5463681 : ℝ) : EReal)
  ∧ IdealRules.named_const.Statement Cert.Kernel26Ideal.κ "corr2" .f32 0x42C8E6D3#32 ((268435456 / 2672307 : ℝ) : EReal)

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  IdealRules.named_const.Statement Cert.Kernel27Ideal.κ "corr1" .f32 0x3FC48605#32 ((8388608 / 5463681 : ℝ) : EReal)
  ∧ IdealRules.named_const.Statement Cert.Kernel27Ideal.κ "corr2" .f32 0x42C8E6D3#32 ((268435456 / 2672307 : ℝ) : EReal)

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  IdealRules.named_const.Statement Cert.Kernel28Ideal.κ "corr1" .f32 0x3FC48605#32 ((8388608 / 5463681 : ℝ) : EReal)
  ∧ IdealRules.named_const.Statement Cert.Kernel28Ideal.κ "corr2" .f32 0x42C8E6D3#32 ((268435456 / 2672307 : ℝ) : EReal)

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v0) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v33) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel31_Kernel31Ideal : Prop :=
  True

def algebraic_Kernel31Ideal_Reference31Ideal_on_core_half31 [hKernel31Ideal : Cert.Kernel31Ideal.Facts] [hReference31Ideal : Cert.Reference31Ideal.Facts] [hPre_place31 : Cert.Pre_place31.Facts] [hOn_core_half31 : Cert.On_core_half31.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          (∀ i : (⟨2, ![1024, 1792]⟩ : Shape).Idx, (Cert.On_core_half31.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2))) i = 1#1 → r.2.mem ((c.tc : Thread Cert.Kernel31Ideal.nD Cert.Kernel31Ideal.τ).loc Cert.Kernel31Ideal.main_v0) i = v0 c i)
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          (∀ i : (⟨2, ![1024, 1792]⟩ : Shape).Idx, (Cert.On_core_half31.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2))) i = 1#1 → r.2.mem ((c.tc : Thread Cert.Reference31Ideal.nD Cert.Reference31Ideal.τ).loc Cert.Reference31Ideal.main_v8) i = v0 c i)
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal_on_core_half32 [hKernel32Ideal : Cert.Kernel32Ideal.Facts] [hReference32Ideal : Cert.Reference32Ideal.Facts] [hPre_place32 : Cert.Pre_place32.Facts] [hOn_core_half32 : Cert.On_core_half32.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          (∀ i : (⟨2, ![1024, 1408]⟩ : Shape).Idx, (Cert.On_core_half32.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2))) i = 1#1 → r.2.mem ((c.tc : Thread Cert.Kernel32Ideal.nD Cert.Kernel32Ideal.τ).loc Cert.Kernel32Ideal.main_v0) i = v0 c i)
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          (∀ i : (⟨2, ![1024, 1408]⟩ : Shape).Idx, (Cert.On_core_half32.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2))) i = 1#1 → r.2.mem ((c.tc : Thread Cert.Reference32Ideal.nD Cert.Reference32Ideal.τ).loc Cert.Reference32Ideal.main_v8) i = v0 c i)
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  True

def algebraic_Kernel33Ideal_Reference33Ideal_on_core_half33 [hKernel33Ideal : Cert.Kernel33Ideal.Facts] [hReference33Ideal : Cert.Reference33Ideal.Facts] [hPre_place33 : Cert.Pre_place33.Facts] [hOn_core_half33 : Cert.On_core_half33.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          (∀ i : (⟨2, ![704, 1024]⟩ : Shape).Idx, (Cert.On_core_half33.fn (F := Ideal) (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2))) i = 1#1 → r.2.mem ((c.tc : Thread Cert.Kernel33Ideal.nD Cert.Kernel33Ideal.τ).loc Cert.Kernel33Ideal.main_v0) i = v0 c i)
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          (∀ i : (⟨2, ![704, 1024]⟩ : Shape).Idx, (Cert.On_core_half33.fn (F := Ideal) (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2))) i = 1#1 → r.2.mem ((c.tc : Thread Cert.Reference33Ideal.nD Cert.Reference33Ideal.τ).loc Cert.Reference33Ideal.main_v8) i = v0 c i)
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def preserves_Kernel34_Kernel34Ideal : Prop :=
  True

def algebraic_Kernel34Ideal_Reference34Ideal_on_core_half34 [hKernel34Ideal : Cert.Kernel34Ideal.Facts] [hReference34Ideal : Cert.Reference34Ideal.Facts] [hPre_place34 : Cert.Pre_place34.Facts] [hOn_core_half34 : Cert.On_core_half34.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          (∀ i : (⟨2, ![256, 1024]⟩ : Shape).Idx, (Cert.On_core_half34.fn (F := Ideal) (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1)) (m ((c.tc : Thread Cert.Kernel34Ideal.nD Cert.Kernel34Ideal.τ).loc Cert.Kernel34Ideal.main_arg2))) i = 1#1 → r.2.mem ((c.tc : Thread Cert.Kernel34Ideal.nD Cert.Kernel34Ideal.τ).loc Cert.Kernel34Ideal.main_v0) i = v0 c i)
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          (∀ i : (⟨2, ![256, 1024]⟩ : Shape).Idx, (Cert.On_core_half34.fn (F := Ideal) (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1)) (m ((c.tc : Thread Cert.Kernel34Ideal.nD Cert.Kernel34Ideal.τ).loc Cert.Kernel34Ideal.main_arg2))) i = 1#1 → r.2.mem ((c.tc : Thread Cert.Reference34Ideal.nD Cert.Reference34Ideal.τ).loc Cert.Reference34Ideal.main_v8) i = v0 c i)
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel30 : Cert.Kernel30.Facts) (hKernel30Ideal : Cert.Kernel30Ideal.Facts) (hReference30Ideal : Cert.Reference30Ideal.Facts) (hKernel23 : Cert.Kernel23.Facts) (hKernel23Ideal : Cert.Kernel23Ideal.Facts) (hReference23Ideal : Cert.Reference23Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hPre_finite3 : Cert.Pre_finite3.Facts) (hPre_finite4 : Cert.Pre_finite4.Facts) (hPre_place31 : Cert.Pre_place31.Facts) (hPre_place32 : Cert.Pre_place32.Facts) (hPre_place33 : Cert.Pre_place33.Facts) (hPre_place34 : Cert.Pre_place34.Facts) (hOn_gate_segments : Cert.On_gate_segments.Facts) (hOn_core_half31 : Cert.On_core_half31.Facts) (hOn_core_half32 : Cert.On_core_half32.Facts) (hOn_core_half33 : Cert.On_core_half33.Facts) (hOn_core_half34 : Cert.On_core_half34.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel31 (hKernel31 := hKernel31) (hPre_place31 := hPre_place31)
    ∧ quiescent_Kernel31Ideal (hKernel31Ideal := hKernel31Ideal) (hPre_place31 := hPre_place31)
    ∧ quiescent_Reference31Ideal (hReference31Ideal := hReference31Ideal)
    ∧ quiescent_Reference31Ideal_pre_place31 (hReference31Ideal := hReference31Ideal) (hPre_place31 := hPre_place31)
    ∧ quiescent_Kernel32 (hKernel32 := hKernel32) (hPre_place32 := hPre_place32)
    ∧ quiescent_Kernel32Ideal (hKernel32Ideal := hKernel32Ideal) (hPre_place32 := hPre_place32)
    ∧ quiescent_Reference32Ideal (hReference32Ideal := hReference32Ideal)
    ∧ quiescent_Reference32Ideal_pre_place32 (hReference32Ideal := hReference32Ideal) (hPre_place32 := hPre_place32)
    ∧ quiescent_Kernel33 (hKernel33 := hKernel33) (hPre_place33 := hPre_place33)
    ∧ quiescent_Kernel33Ideal (hKernel33Ideal := hKernel33Ideal) (hPre_place33 := hPre_place33)
    ∧ quiescent_Reference33Ideal (hReference33Ideal := hReference33Ideal)
    ∧ quiescent_Reference33Ideal_pre_place33 (hReference33Ideal := hReference33Ideal) (hPre_place33 := hPre_place33)
    ∧ quiescent_Kernel34 (hKernel34 := hKernel34) (hPre_place34 := hPre_place34)
    ∧ quiescent_Kernel34Ideal (hKernel34Ideal := hKernel34Ideal) (hPre_place34 := hPre_place34)
    ∧ quiescent_Reference34Ideal (hReference34Ideal := hReference34Ideal)
    ∧ quiescent_Reference34Ideal_pre_place34 (hReference34Ideal := hReference34Ideal) (hPre_place34 := hPre_place34)
    ∧ preserves_Kernel_KernelIdeal
    ∧ algebraic_KernelIdeal_ReferenceIdeal_on_gate_segments (hKernelIdeal := hKernelIdeal) (hReferenceIdeal := hReferenceIdeal) (hOn_gate_segments := hOn_gate_segments)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel30_Kernel30Ideal
    ∧ algebraic_Kernel30Ideal_Reference30Ideal (hKernel30Ideal := hKernel30Ideal) (hReference30Ideal := hReference30Ideal)
    ∧ preserves_Kernel23_Kernel23Ideal
    ∧ algebraic_Kernel23Ideal_Reference23Ideal (hKernel23Ideal := hKernel23Ideal) (hReference23Ideal := hReference23Ideal)
    ∧ preserves_Kernel31_Kernel31Ideal
    ∧ algebraic_Kernel31Ideal_Reference31Ideal_on_core_half31 (hKernel31Ideal := hKernel31Ideal) (hReference31Ideal := hReference31Ideal) (hPre_place31 := hPre_place31) (hOn_core_half31 := hOn_core_half31)
    ∧ preserves_Kernel32_Kernel32Ideal
    ∧ algebraic_Kernel32Ideal_Reference32Ideal_on_core_half32 (hKernel32Ideal := hKernel32Ideal) (hReference32Ideal := hReference32Ideal) (hPre_place32 := hPre_place32) (hOn_core_half32 := hOn_core_half32)
    ∧ preserves_Kernel33_Kernel33Ideal
    ∧ algebraic_Kernel33Ideal_Reference33Ideal_on_core_half33 (hKernel33Ideal := hKernel33Ideal) (hReference33Ideal := hReference33Ideal) (hPre_place33 := hPre_place33) (hOn_core_half33 := hOn_core_half33)
    ∧ preserves_Kernel34_Kernel34Ideal
    ∧ algebraic_Kernel34Ideal_Reference34Ideal_on_core_half34 (hKernel34Ideal := hKernel34Ideal) (hReference34Ideal := hReference34Ideal) (hPre_place34 := hPre_place34) (hOn_core_half34 := hOn_core_half34)
-- ==== On_core_half31.lean ====
abbrev S2 : Shape := ⟨1, ![2]⟩
abbrev S4x512x1792 : Shape := ⟨3, ![4, 512, 1792]⟩
abbrev S1024x1792 : Shape := ⟨2, ![1024, 1792]⟩
abbrev S_ : Shape := ⟨0, ![]⟩
abbrev S1 : Shape := ⟨1, ![1]⟩

class Facts : Prop where
  bcast_S_S1024x1792 : S_.BroadcastsInDim S1024x1792 (![] : Fin 0 → Fin S1024x1792.rank)
  slices_S2_S1_1 : S2.Slices ![1] S1
  shapeCasts_S1_S_ : S1.ShapeCasts S_

variable [Facts]

def fn {F : FTy → Type} [FloatOps F] (main_arg0 : IVec S2 32) (main_arg1 : FVec F S4x512x1792 .bf16) (main_arg2 : FVec F S4x512x1792 .bf16) : IVec S1024x1792 1 :=
  let main_v0 : IVec S1024x1792 32 := iotaInDim S1024x1792 32 0
  let main_c : IVec S_ 32 := constantI S_ 32 512#32
  let main_v1 : IVec S1024x1792 32 := broadcastInDim S1024x1792 ![] bcast_S_S1024x1792 main_c
  let main_v2 : IVec S1024x1792 1 := cmpi .sge main_v0 main_v1
  let main_v3 : IVec S1 32 := (extractStridedSlice S1 ![1] · slices_S2_S1_1) main_arg0
  let main_v4 : IVec S_ 32 := shapeCast S_ main_v3 shapeCasts_S1_S_
  let main_c_0 : IVec S_ 32 := constantI S_ 32 1#32
  let main_v5 : IVec S_ 1 := cmpi .sge main_v4 main_c_0
  let main_v6 : IVec S1024x1792 1 := broadcastInDim S1024x1792 ![] bcast_S_S1024x1792 main_v5
  let main_v7 : IVec S1024x1792 1 := cmpi .eq main_v2 main_v6
  main_v7
-- ==== On_core_half32.lean ====
abbrev S2 : Shape := ⟨1, ![2]⟩
abbrev S4x512x1408 : Shape := ⟨3, ![4, 512, 1408]⟩
abbrev S1024x1408 : Shape := ⟨2, ![1024, 1408]⟩
abbrev S_ : Shape := ⟨0, ![]⟩
abbrev S1 : Shape := ⟨1, ![1]⟩

class Facts : Prop where
  bcast_S_S1024x1408 : S_.BroadcastsInDim S1024x1408 (![] : Fin 0 → Fin S1024x1408.rank)
  slices_S2_S1_1 : S2.Slices ![1] S1
  shapeCasts_S1_S_ : S1.ShapeCasts S_

variable [Facts]

def fn {F : FTy → Type} [FloatOps F] (main_arg0 : IVec S2 32) (main_arg1 : FVec F S4x512x1408 .bf16) (main_arg2 : FVec F S4x512x1408 .bf16) : IVec S1024x1408 1 :=
  let main_v0 : IVec S1024x1408 32 := iotaInDim S1024x1408 32 0
  let main_c : IVec S_ 32 := constantI S_ 32 512#32
  let main_v1 : IVec S1024x1408 32 := broadcastInDim S1024x1408 ![] bcast_S_S1024x1408 main_c
  let main_v2 : IVec S1024x1408 1 := cmpi .sge main_v0 main_v1
  let main_v3 : IVec S1 32 := (extractStridedSlice S1 ![1] · slices_S2_S1_1) main_arg0
  let main_v4 : IVec S_ 32 := shapeCast S_ main_v3 shapeCasts_S1_S_
  let main_c_0 : IVec S_ 32 := constantI S_ 32 1#32
  let main_v5 : IVec S_ 1 := cmpi .sge main_v4 main_c_0
  let main_v6 : IVec S1024x1408 1 := broadcastInDim S1024x1408 ![] bcast_S_S1024x1408 main_v5
  let main_v7 : IVec S1024x1408 1 := cmpi .eq main_v2 main_v6
  main_v7
-- ==== On_core_half33.lean ====
abbrev S2 : Shape := ⟨1, ![2]⟩
abbrev S4x352x1024 : Shape := ⟨3, ![4, 352, 1024]⟩
abbrev S704x1024 : Shape := ⟨2, ![704, 1024]⟩
abbrev S_ : Shape := ⟨0, ![]⟩
abbrev S1 : Shape := ⟨1, ![1]⟩

class Facts : Prop where
  bcast_S_S704x1024 : S_.BroadcastsInDim S704x1024 (![] : Fin 0 → Fin S704x1024.rank)
  slices_S2_S1_1 : S2.Slices ![1] S1
  shapeCasts_S1_S_ : S1.ShapeCasts S_

variable [Facts]

def fn {F : FTy → Type} [FloatOps F] (main_arg0 : IVec S2 32) (main_arg1 : FVec F S4x352x1024 .bf16) (main_arg2 : FVec F S4x352x1024 .bf16) : IVec S704x1024 1 :=
  let main_v0 : IVec S704x1024 32 := iotaInDim S704x1024 32 0
  let main_c : IVec S_ 32 := constantI S_ 32 352#32
  let main_v1 : IVec S704x1024 32 := broadcastInDim S704x1024 ![] bcast_S_S704x1024 main_c
  let main_v2 : IVec S704x1024 1 := cmpi .sge main_v0 main_v1
  let main_v3 : IVec S1 32 := (extractStridedSlice S1 ![1] · slices_S2_S1_1) main_arg0
  let main_v4 : IVec S_ 32 := shapeCast S_ main_v3 shapeCasts_S1_S_
  let main_c_0 : IVec S_ 32 := constantI S_ 32 1#32
  let main_v5 : IVec S_ 1 := cmpi .sge main_v4 main_c_0
  let main_v6 : IVec S704x1024 1 := broadcastInDim S704x1024 ![] bcast_S_S704x1024 main_v5
  let main_v7 : IVec S704x1024 1 := cmpi .eq main_v2 main_v6
  main_v7
-- ==== On_core_half34.lean ====
abbrev S2 : Shape := ⟨1, ![2]⟩
abbrev S4x128x1024 : Shape := ⟨3, ![4, 128, 1024]⟩
abbrev S256x1024 : Shape := ⟨2, ![256, 1024]⟩
abbrev S_ : Shape := ⟨0, ![]⟩
abbrev S1 : Shape := ⟨1, ![1]⟩

class Facts : Prop where
  bcast_S_S256x1024 : S_.BroadcastsInDim S256x1024 (![] : Fin 0 → Fin S256x1024.rank)
  slices_S2_S1_1 : S2.Slices ![1] S1
  shapeCasts_S1_S_ : S1.ShapeCasts S_

variable [Facts]

def fn {F : FTy → Type} [FloatOps F] (main_arg0 : IVec S2 32) (main_arg1 : FVec F S4x128x1024 .bf16) (main_arg2 : FVec F S4x128x1024 .bf16) : IVec S256x1024 1 :=
  let main_v0 : IVec S256x1024 32 := iotaInDim S256x1024 32 0
  let main_c : IVec S_ 32 := constantI S_ 32 128#32
  let main_v1 : IVec S256x1024 32 := broadcastInDim S256x1024 ![] bcast_S_S256x1024 main_c
  let main_v2 : IVec S256x1024 1 := cmpi .sge main_v0 main_v1
  let main_v3 : IVec S1 32 := (extractStridedSlice S1 ![1] · slices_S2_S1_1) main_arg0
  let main_v4 : IVec S_ 32 := shapeCast S_ main_v3 shapeCasts_S1_S_
  let main_c_0 : IVec S_ 32 := constantI S_ 32 1#32
  let main_v5 : IVec S_ 1 := cmpi .sge main_v4 main_c_0
  let main_v6 : IVec S256x1024 1 := broadcastInDim S256x1024 ![] bcast_S_S256x1024 main_v5
  let main_v7 : IVec S256x1024 1 := cmpi .eq main_v2 main_v6
  main_v7
-- ==== On_gate_segments.lean ====
abbrev S8256x1024 : Shape := ⟨2, ![8256, 1024]⟩
abbrev S1024x1024 : Shape := ⟨2, ![1024, 1024]⟩
abbrev S8256x7168 : Shape := ⟨2, ![8256, 7168]⟩
abbrev S7x8256x1024 : Shape := ⟨3, ![7, 8256, 1024]⟩
abbrev S_ : Shape := ⟨0, ![]⟩

class Facts : Prop where
  bcast_S_S8256x1024 : S_.BroadcastsInDim S8256x1024 (![] : Fin 0 → Fin S8256x1024.rank)
  bcast_S_S7x8256x1024 : S_.BroadcastsInDim S7x8256x1024 (![] : Fin 0 → Fin S7x8256x1024.rank)

variable [Facts]

def fn {F : FTy → Type} [FloatOps F] (main_arg0 : FVec F S8256x1024 .f32) (main_arg1 : FVec F S1024x1024 .bf16) (main_arg2 : FVec F S8256x7168 .f32) (main_arg3 : FVec F S8256x1024 .f32) (main_arg4 : FVec F S8256x1024 .f32) : IVec S8256x1024 1 × IVec S8256x1024 1 × IVec S7x8256x1024 1 :=
  let main_v0 : IVec S7x8256x1024 32 := iotaInDim S7x8256x1024 32 0
  let main_v1 : IVec S8256x1024 32 := iotaInDim S8256x1024 32 0
  let main_c : IVec S_ 32 := constantI S_ 32 0#32
  let main_v2 : IVec S8256x1024 32 := broadcastInDim S8256x1024 ![] bcast_S_S8256x1024 main_c
  let main_v3 : IVec S8256x1024 1 := cmpi .sge main_v1 main_v2
  let main_c_0 : IVec S_ 32 := constantI S_ 32 4#32
  let main_v4 : IVec S7x8256x1024 32 := broadcastInDim S7x8256x1024 ![] bcast_S_S7x8256x1024 main_c_0
  let main_v5 : IVec S7x8256x1024 1 := cmpi .sge main_v0 main_v4
  let main_c_1 : IVec S_ 32 := constantI S_ 32 5#32
  let main_v6 : IVec S7x8256x1024 32 := broadcastInDim S7x8256x1024 ![] bcast_S_S7x8256x1024 main_c_1
  let main_v7 : IVec S7x8256x1024 1 := cmpi .sle main_v0 main_v6
  let main_v8 : IVec S7x8256x1024 1 := andi main_v5 main_v7
  (main_v3, main_v3, main_v8)
-- ==== Pre_finite3.lean ====
abbrev S7x8256x1024 : Shape := ⟨3, ![7, 8256, 1024]⟩
abbrev S1024x7168 : Shape := ⟨2, ![1024, 7168]⟩
abbrev S8256x1024 : Shape := ⟨2, ![8256, 1024]⟩
abbrev S1x1024 : Shape := ⟨2, ![1, 1024]⟩
abbrev S_ : Shape := ⟨0, ![]⟩

class Facts : Prop where
  bitsLt_bf16_f32 : FTy.bits .bf16 < FTy.bits .f32
  bcast_S_S7x8256x1024 : S_.BroadcastsInDim S7x8256x1024 (![] : Fin 0 → Fin S7x8256x1024.rank)
  reducesTo_S7x8256x1024_S_d0_1_2 : S7x8256x1024.ReducesTo [0, 1, 2] S_
  h_S_ : 0 < S_.numel
  bcast_S_S1024x7168 : S_.BroadcastsInDim S1024x7168 (![] : Fin 0 → Fin S1024x7168.rank)
  reducesTo_S1024x7168_S_d0_1 : S1024x7168.ReducesTo [0, 1] S_
  bcast_S_S8256x1024 : S_.BroadcastsInDim S8256x1024 (![] : Fin 0 → Fin S8256x1024.rank)
  reducesTo_S8256x1024_S_d0_1 : S8256x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  main_v20

def fn {F : FTy → Type} [FloatOps F] (main_arg0 : FVec F S7x8256x1024 .bf16) (main_arg1 : FVec F S1024x7168 .bf16) (main_arg2 : FVec F S8256x1024 .f32) (main_arg3 : FVec F S1x1024 .f32) (main_arg4 : FVec F S8256x1024 .f32) : IVec S_ 1 :=
  let main_v0 : FVec F S7x8256x1024 .f32 := (extf .f32 · bitsLt_bf16_f32) main_arg0
  let main_v1 : FVec F S7x8256x1024 .f32 := Host.absf main_v0
  let main_cst : FVec F S_ .f32 := constant S_ .f32 0x7F800000#32
  let main_v2 : FVec F S7x8256x1024 .f32 := broadcastInDim S7x8256x1024 ![] bcast_S_S7x8256x1024 main_cst
  let main_v3 : IVec S7x8256x1024 1 := cmpf .olt main_v1 main_v2
  let main_c : IVec S_ 1 := constantI S_ 1 1#1
  let main_v4 : IVec S_ 1 := (fun x v => Host.reduce IntOp.andi x v reducesTo_S7x8256x1024_S_d0_1_2 h_S_) main_v3 main_c
  let main_v5 : FVec F S1024x7168 .f32 := (extf .f32 · bitsLt_bf16_f32) main_arg1
  let main_v6 : FVec F S1024x7168 .f32 := Host.absf main_v5
  let main_cst_0 : FVec F S_ .f32 := constant S_ .f32 0x7F800000#32
  let main_v7 : FVec F S1024x7168 .f32 := broadcastInDim S1024x7168 ![] bcast_S_S1024x7168 main_cst_0
  let main_v8 : IVec S1024x7168 1 := cmpf .olt main_v6 main_v7
  let main_c_1 : IVec S_ 1 := constantI S_ 1 1#1
  let main_v9 : IVec S_ 1 := (fun x v => Host.reduce IntOp.andi x v reducesTo_S1024x7168_S_d0_1 h_S_) main_v8 main_c_1
  let main_v10 : IVec S_ 1 := andi main_v4 main_v9
  let main_v11 : FVec F S8256x1024 .f32 := Host.absf main_arg2
  let main_cst_2 : FVec F S_ .f32 := constant S_ .f32 0x7F800000#32
  let main_v12 : FVec F S8256x1024 .f32 := broadcastInDim S8256x1024 ![] bcast_S_S8256x1024 main_cst_2
  let main_v13 : IVec S8256x1024 1 := cmpf .olt main_v11 main_v12
  let main_c_3 : IVec S_ 1 := constantI S_ 1 1#1
  let main_v14 : IVec S_ 1 := (fun x v => Host.reduce IntOp.andi x v reducesTo_S8256x1024_S_d0_1 h_S_) main_v13 main_c_3
  let main_v15 : IVec S_ 1 := andi main_v10 main_v14
  let main_v16 : FVec F S1x1024 .f32 := Host.absf main_arg3
  let main_cst_4 : FVec F S_ .f32 := constant S_ .f32 0x7F800000#32
  fn_part1 (F := F) main_v15 main_v16 main_cst_4
-- ==== Pre_finite4.lean ====
abbrev S2x8256x2816 : Shape := ⟨3, ![2, 8256, 2816]⟩
abbrev S1024x5632 : Shape := ⟨2, ![1024, 5632]⟩
abbrev S8256x1024 : Shape := ⟨2, ![8256, 1024]⟩
abbrev S1x1024 : Shape := ⟨2, ![1, 1024]⟩
abbrev S_ : Shape := ⟨0, ![]⟩

class Facts : Prop where
  bitsLt_bf16_f32 : FTy.bits .bf16 < FTy.bits .f32
  bcast_S_S2x8256x2816 : S_.BroadcastsInDim S2x8256x2816 (![] : Fin 0 → Fin S2x8256x2816.rank)
  reducesTo_S2x8256x2816_S_d0_1_2 : S2x8256x2816.ReducesTo [0, 1, 2] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S8256x1024 : S_.BroadcastsInDim S8256x1024 (![] : Fin 0 → Fin S8256x1024.rank)
  reducesTo_S8256x1024_S_d0_1 : S8256x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  main_v20

def fn {F : FTy → Type} [FloatOps F] (main_arg0 : FVec F S2x8256x2816 .bf16) (main_arg1 : FVec F S1024x5632 .bf16) (main_arg2 : FVec F S8256x1024 .f32) (main_arg3 : FVec F S1x1024 .f32) (main_arg4 : FVec F S8256x1024 .f32) : IVec S_ 1 :=
  let main_v0 : FVec F S2x8256x2816 .f32 := (extf .f32 · bitsLt_bf16_f32) main_arg0
  let main_v1 : FVec F S2x8256x2816 .f32 := Host.absf main_v0
  let main_cst : FVec F S_ .f32 := constant S_ .f32 0x7F800000#32
  let main_v2 : FVec F S2x8256x2816 .f32 := broadcastInDim S2x8256x2816 ![] bcast_S_S2x8256x2816 main_cst
  let main_v3 : IVec S2x8256x2816 1 := cmpf .olt main_v1 main_v2
  let main_c : IVec S_ 1 := constantI S_ 1 1#1
  let main_v4 : IVec S_ 1 := (fun x v => Host.reduce IntOp.andi x v reducesTo_S2x8256x2816_S_d0_1_2 h_S_) main_v3 main_c
  let main_v5 : FVec F S1024x5632 .f32 := (extf .f32 · bitsLt_bf16_f32) main_arg1
  let main_v6 : FVec F S1024x5632 .f32 := Host.absf main_v5
  let main_cst_0 : FVec F S_ .f32 := constant S_ .f32 0x7F800000#32
  let main_v7 : FVec F S1024x5632 .f32 := broadcastInDim S1024x5632 ![] bcast_S_S1024x5632 main_cst_0
  let main_v8 : IVec S1024x5632 1 := cmpf .olt main_v6 main_v7
  let main_c_1 : IVec S_ 1 := constantI S_ 1 1#1
  let main_v9 : IVec S_ 1 := (fun x v => Host.reduce IntOp.andi x v reducesTo_S1024x5632_S_d0_1 h_S_) main_v8 main_c_1
  let main_v10 : IVec S_ 1 := andi main_v4 main_v9
  let main_v11 : FVec F S8256x1024 .f32 := Host.absf main_arg2
  let main_cst_2 : FVec F S_ .f32 := constant S_ .f32 0x7F800000#32
  let main_v12 : FVec F S8256x1024 .f32 := broadcastInDim S8256x1024 ![] bcast_S_S8256x1024 main_cst_2
  let main_v13 : IVec S8256x1024 1 := cmpf .olt main_v11 main_v12
  let main_c_3 : IVec S_ 1 := constantI S_ 1 1#1
  let main_v14 : IVec S_ 1 := (fun x v => Host.reduce IntOp.andi x v reducesTo_S8256x1024_S_d0_1 h_S_) main_v13 main_c_3
  let main_v15 : IVec S_ 1 := andi main_v10 main_v14
  let main_v16 : FVec F S1x1024 .f32 := Host.absf main_arg3
  let main_cst_4 : FVec F S_ .f32 := constant S_ .f32 0x7F800000#32
  fn_part1 (F := F) main_v15 main_v16 main_cst_4
-- ==== Pre_place31.lean ====
abbrev S2 : Shape := ⟨1, ![2]⟩
abbrev S4x512x1792 : Shape := ⟨3, ![4, 512, 1792]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : IVec S2 32) (main_arg1 : FVec F S4x512x1792 .bf16) (main_arg2 : FVec F S4x512x1792 .bf16) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![1] · slices_S2_S1_1) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![1] · slices_S2_S1_1) main_arg0
  let main_v12 : IVec S_ 32 := shapeCast S_ main_v11 shapeCasts_S1_S_
  let main_c_2 : IVec S_ 32 := constantI S_ 32 2#32
  let main_v13 : IVec S_ 1 := cmpi .slt main_v12 main_c_2
  let main_v14 : IVec S_ 1 := andi main_v10 main_v13
  main_v14
-- ==== Pre_place32.lean ====
abbrev S2 : Shape := ⟨1, ![2]⟩
abbrev S4x512x1408 : Shape := ⟨3, ![4, 512, 1408]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : IVec S2 32) (main_arg1 : FVec F S4x512x1408 .bf16) (main_arg2 : FVec F S4x512x1408 .bf16) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![1] · slices_S2_S1_1) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![1] · slices_S2_S1_1) main_arg0
  let main_v12 : IVec S_ 32 := shapeCast S_ main_v11 shapeCasts_S1_S_
  let main_c_2 : IVec S_ 32 := constantI S_ 32 2#32
  let main_v13 : IVec S_ 1 := cmpi .slt main_v12 main_c_2
  let main_v14 : IVec S_ 1 := andi main_v10 main_v13
  main_v14
-- ==== Pre_place33.lean ====
abbrev S2 : Shape := ⟨1, ![2]⟩
abbrev S4x352x1024 : Shape := ⟨3, ![4, 352, 1024]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : IVec S2 32) (main_arg1 : FVec F S4x352x1024 .bf16) (main_arg2 : FVec F S4x352x1024 .bf16) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![1] · slices_S2_S1_1) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![1] · slices_S2_S1_1) main_arg0
  let main_v12 : IVec S_ 32 := shapeCast S_ main_v11 shapeCasts_S1_S_
  let main_c_2 : IVec S_ 32 := constantI S_ 32 2#32
  let main_v13 : IVec S_ 1 := cmpi .slt main_v12 main_c_2
  let main_v14 : IVec S_ 1 := andi main_v10 main_v13
  main_v14
-- ==== Pre_place34.lean ====
abbrev S2 : Shape := ⟨1, ![2]⟩
abbrev S4x128x1024 : Shape := ⟨3, ![4, 128, 1024]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : IVec S2 32) (main_arg1 : FVec F S4x128x1024 .bf16) (main_arg2 : FVec F S4x128x1024 .bf16) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![1] · slices_S2_S1_1) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![1] · slices_S2_S1_1) main_arg0
  let main_v12 : IVec S_ 32 := shapeCast S_ main_v11 shapeCasts_S1_S_
  let main_c_2 : IVec S_ 32 := constantI S_ 32 2#32
  let main_v13 : IVec S_ 1 := cmpi .slt main_v12 main_c_2
  let main_v14 : IVec S_ 1 := andi main_v10 main_v13
  main_v14
-- ==== Kernel.lean ====
abbrev S8256x1024 : Shape := ⟨2, ![8256, 1024]⟩
abbrev S1024x1024 : Shape := ⟨2, ![1024, 1024]⟩
abbrev S8256x7168 : Shape := ⟨2, ![8256, 7168]⟩
abbrev S7x8256x1024 : Shape := ⟨3, ![7, 8256, 1024]⟩
abbrev S344x1024 : Shape := ⟨2, ![344, 1024]⟩
abbrev S2x344x1024 : Shape := ⟨3, ![2, 344, 1024]⟩
abbrev S1x344x1024 : Shape := ⟨3, ![1, 344, 1024]⟩

abbrev nBuf : Space → Nat
  | .hbm => 8
  | .vmem => 17
  | .smem => 0
  | _ => 0

abbrev bufTy : (tb : Table) → Fin (tcTables nBuf tb) → BufTy
  | .hbm, ⟨0, _⟩ => ⟨S8256x1024, .f32⟩
  | .hbm, ⟨1, _⟩ => ⟨S1024x1024, .bf16⟩
  | .hbm, ⟨2, _⟩ => ⟨S8256x7168, .f32⟩
  | .hbm, ⟨3, _⟩ => ⟨S8256x1024, .f32⟩
  | .hbm, ⟨4, _⟩ => ⟨S8256x1024, .f32⟩
  | .hbm, ⟨5, _⟩ => ⟨S8256x1024, .bf16⟩
  | .hbm, ⟨6, _⟩ => ⟨S8256x1024, .bf16⟩
  | .hbm, ⟨7, _⟩ => ⟨S7x8256x1024, .bf16⟩
  | .local _ .vmem, ⟨0, _⟩ => ⟨S344x1024, .f32⟩
  | .local _ .vmem, ⟨1, _⟩ => ⟨S344x1024, .f32⟩
  | .local _ .vmem, ⟨2, _⟩ => ⟨S1024x1024, .bf16⟩
  | .local _ .vmem, ⟨3, _⟩ => ⟨S344x1024, .f32⟩
  | .local _ .vmem, ⟨4, _⟩ => ⟨S344x1024, .f32⟩
  | .local _ .vmem, ⟨5, _⟩ => ⟨S344x1024, .f32⟩
  | .local _ .vmem, ⟨6, _⟩ => ⟨S344x1024, .f32⟩
  | .local _ .vmem, ⟨7, _⟩ => ⟨S344x1024, .f32⟩
  | .local _ .vmem, ⟨8, _⟩ => ⟨S344x1024, .f32⟩
  | .local _ .vmem, ⟨9, _⟩ => ⟨S344x1024, .f32⟩
  | .local _ .vmem, ⟨10, _⟩ => ⟨S344x1024, .f32⟩
  | .local _ .vmem, ⟨11, _⟩ => ⟨S344x1024, .bf16⟩
  | .local _ .vmem, ⟨12, _⟩ => ⟨S344x1024, .bf16⟩
  | .local _ .vmem, ⟨13, _⟩ => ⟨S344x1024, .bf16⟩
  | .local _ .vmem, ⟨14, _⟩ => ⟨S344x1024, .bf16⟩
  | .local _ .vmem, ⟨15, _⟩ => ⟨S2x344x1024, .bf16⟩
  | .local _ .vmem, ⟨16, _⟩ => ⟨S2x344x1024, .bf16⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![24, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat, arg1.toNat]

abbrev stage0_0 : Fin 2 → Memref sig .tc .vmem S344x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S344x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S344x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S344x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S344x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S344x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S344x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x344x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8256x1024 : Shape := ⟨2, ![8256, 1024]⟩
abbrev S1024x1024 : Shape := ⟨2, ![1024, 1024]⟩
abbrev S8256x7168 : Shape := ⟨2, ![8256, 7168]⟩
abbrev S_ : Shape := ⟨0, ![]⟩
abbrev S1x8256x1024 : Shape := ⟨3, ![1, 8256, 1024]⟩
abbrev S2x8256x1024 : Shape := ⟨3, ![2, 8256, 1024]⟩
abbrev S7x8256x1024 : Shape := ⟨3, ![7, 8256, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S1024x1024, .bf16⟩
  | .hbm, ⟨2, _⟩ => ⟨S8256x7168, .f32⟩
  | .hbm, ⟨3, _⟩ => ⟨S8256x1024, .f32⟩
  | .hbm, ⟨4, _⟩ => ⟨S8256x1024, .f32⟩
  | .hbm, ⟨5, _⟩ => ⟨S8256x1024, .f32⟩
  | .hbm, ⟨6, _⟩ => ⟨S8256x1024, .f32⟩
  | .hbm, ⟨7, _⟩ => ⟨S1024x1024, .f32⟩
  | .hbm, ⟨8, _⟩ => ⟨S8256x1024, .f32⟩
  | .hbm, ⟨9, _⟩ => ⟨S8256x1024, .f32⟩
  | .hbm, ⟨10, _⟩ => ⟨S_, .f32⟩
  | .hbm, ⟨11, _⟩ => ⟨S8256x1024, .f32⟩
  | .hbm, ⟨12, _⟩ => ⟨S8256x1024, .f32⟩
  | .hbm, ⟨13, _⟩ => ⟨S_, .f32⟩
  | .hbm, ⟨14, _⟩ => ⟨S8256x1024, .f32⟩
  | .hbm, ⟨15, _⟩ => ⟨S8256x1024, .f32⟩
  | .hbm, ⟨16, _⟩ => ⟨S_, .f32⟩
  | .hbm, ⟨17, _⟩ => ⟨S8256x1024, .f32⟩
  | .hbm, ⟨18, _⟩ => ⟨S8256x1024, .f32⟩
  | .hbm, ⟨19, _⟩ => ⟨S8256x1024, .f32⟩
  | .hbm, ⟨20, _⟩ => ⟨S8256x1024, .f32⟩
  | .hbm, ⟨21, _⟩ => ⟨S8256x1024, .f32⟩
  | .hbm, ⟨22, _⟩ => ⟨S8256x1024, .f32⟩
  | .hbm, ⟨23, _⟩ => ⟨S_, .f32⟩
  | .hbm, ⟨24, _⟩ => ⟨S8256x1024, .f32⟩
  | .hbm, ⟨25, _⟩ => ⟨S8256x1024, .f32⟩
  | .hbm, ⟨26, _⟩ => ⟨S_, .f32⟩
  | .hbm, ⟨27, _⟩ => ⟨S8256x1024, .f32⟩
  | .hbm, ⟨28, _⟩ => ⟨S8256x1024, .f32⟩
  | .hbm, ⟨29, _⟩ => ⟨S_, .f32⟩
  | .hbm, ⟨30, _⟩ => ⟨S8256x1024, .f32⟩
  | .hbm, ⟨31, _⟩ => ⟨S8256x1024, .f32⟩
  | .hbm, ⟨32, _⟩ => ⟨S8256x1024, .f32⟩
  | .hbm, ⟨33, _⟩ => ⟨S8256x1024, .f32⟩
  | .hbm, ⟨34, _⟩ => ⟨S8256x1024, .f32⟩
  | .hbm, ⟨35, _⟩ => ⟨S8256x1024, .f32⟩
  | .hbm, ⟨36, _⟩ => ⟨S8256x1024, .f32⟩
  | .hbm, ⟨37, _⟩ => ⟨S8256x1024, .f32⟩
  | .hbm, ⟨38, _⟩ => ⟨S8256x1024, .f32⟩
  | .hbm, ⟨39, _⟩ => ⟨S8256x1024, .f32⟩
  | .hbm, ⟨40, _⟩ => ⟨S8256x1024, .f32⟩
  | .hbm, ⟨41, _⟩ => ⟨S8256x1024, .f32⟩
  | .hbm, ⟨42, _⟩ => ⟨S8256x1024, .f32⟩
  | .hbm, ⟨43, _⟩ => ⟨S1x8256x1024, .f32⟩
  | .hbm, ⟨44, _⟩ => ⟨S1x8256x1024, .f32⟩
  | .hbm, ⟨45, _⟩ => ⟨S2x8256x1024, .f32⟩
  | .hbm, ⟨46, _⟩ => ⟨S_, .f32⟩
  | .hbm, ⟨47, _⟩ => ⟨S7x8256x1024, .f32⟩
  | .hbm, ⟨48, _⟩ => ⟨S8256x1024, .bf16⟩
  | .hbm, ⟨49, _⟩ => ⟨S8256x1024, .bf16⟩
  | .hbm, ⟨50, _⟩ => ⟨S7x8256x1024, .bf16⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel2.lean ====
abbrev S8256x1024 : Shape := ⟨2, ![8256, 1024]⟩
abbrev S1024x1024 : Shape := ⟨2, ![1024, 1024]⟩
abbrev S688x1024 : Shape := ⟨2, ![688, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8256x1024, .bf16⟩
  | .hbm, ⟨1, _⟩ => ⟨S1024x1024, .bf16⟩
  | .hbm, ⟨2, _⟩ => ⟨S8256x1024, .f32⟩
  | .hbm, ⟨3, _⟩ => ⟨S8256x1024, .f32⟩
  | .hbm, ⟨4, _⟩ => ⟨S8256x1024, .bf16⟩
  | .hbm, ⟨5, _⟩ => ⟨S8256x1024, .f32⟩
  | .local _ .vmem, ⟨0, _⟩ => ⟨S688x1024, .bf16⟩
  | .local _ .vmem, ⟨1, _⟩ => ⟨S688x1024, .bf16⟩
  | .local _ .vmem, ⟨2, _⟩ => ⟨S1024x1024, .bf16⟩
  | .local _ .vmem, ⟨3, _⟩ => ⟨S688x1024, .f32⟩
  | .local _ .vmem, ⟨4, _⟩ => ⟨S688x1024, .f32⟩
  | .local _ .vmem, ⟨5, _⟩ => ⟨S688x1024, .f32⟩
  | .local _ .vmem, ⟨6, _⟩ => ⟨S688x1024, .f32⟩
  | .local _ .vmem, ⟨7, _⟩ => ⟨S688x1024, .bf16⟩
  | .local _ .vmem, ⟨8, _⟩ => ⟨S688x1024, .bf16⟩
  | .local _ .vmem, ⟨9, _⟩ => ⟨S688x1024, .f32⟩
  | .local _ .vmem, ⟨10, _⟩ => ⟨S688x1024, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![12, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S688x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8256x1024 : Shape := ⟨2, ![8256, 1024]⟩
abbrev S1024x1024 : Shape := ⟨2, ![1024, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S1024x1024, .bf16⟩
  | .hbm, ⟨2, _⟩ => ⟨S8256x1024, .f32⟩
  | .hbm, ⟨3, _⟩ => ⟨S8256x1024, .f32⟩
  | .hbm, ⟨4, _⟩ => ⟨S1024x1024, .f32⟩
  | .hbm, ⟨5, _⟩ => ⟨S8256x1024, .f32⟩
  | .hbm, ⟨6, _⟩ => ⟨S8256x1024, .f32⟩
  | .hbm, ⟨7, _⟩ => ⟨S_, .f32⟩
  | .hbm, ⟨8, _⟩ => ⟨S8256x1024, .f32⟩
  | .hbm, ⟨9, _⟩ => ⟨S8256x1024, .f32⟩
  | .hbm, ⟨10, _⟩ => ⟨S_, .f32⟩
  | .hbm, ⟨11, _⟩ => ⟨S8256x1024, .f32⟩
  | .hbm, ⟨12, _⟩ => ⟨S8256x1024, .f32⟩
  | .hbm, ⟨13, _⟩ => ⟨S_, .f32⟩
  | .hbm, ⟨14, _⟩ => ⟨S8256x1024, .f32⟩
  | .hbm, ⟨15, _⟩ => ⟨S8256x1024, .f32⟩
  | .hbm, ⟨16, _⟩ => ⟨S8256x1024, .f32⟩
  | .hbm, ⟨17, _⟩ => ⟨S8256x1024, .f32⟩
  | .hbm, ⟨18, _⟩ => ⟨S8256x1024, .f32⟩
  | .hbm, ⟨19, _⟩ => ⟨S8256x1024, .f32⟩
  | .hbm, ⟨20, _⟩ => ⟨S8256x1024, .f32⟩
  | .hbm, ⟨21, _⟩ => ⟨S8256x1024, .f32⟩
  | .hbm, ⟨22, _⟩ => ⟨S8256x1024, .f32⟩
  | .hbm, ⟨23, _⟩ => ⟨S8256x1024, .f32⟩
  | .hbm, ⟨24, _⟩ => ⟨S8256x1024, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel3.lean ====
abbrev S7x8256x1024 : Shape := ⟨3, ![7, 8256, 1024]⟩
abbrev S1024x7168 : Shape := ⟨2, ![1024, 7168]⟩
abbrev S8256x1024 : Shape := ⟨2, ![8256, 1024]⟩
abbrev S1x1024 : Shape := ⟨2, ![1, 1024]⟩
abbrev S1x1032x1024 : Shape := ⟨3, ![1, 1032, 1024]⟩
abbrev S1024x1024 : Shape := ⟨2, ![1024, 1024]⟩
abbrev S1032x1024 : Shape := ⟨2, ![1032, 1024]⟩
abbrev S1032 : Shape := ⟨1, ![1032]⟩
abbrev S1032x1 : Shape := ⟨2, ![1032, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S7x8256x1024, .bf16⟩
  | .hbm, ⟨1, _⟩ => ⟨S1024x7168, .bf16⟩
  | .hbm, ⟨2, _⟩ => ⟨S8256x1024, .f32⟩
  | .hbm, ⟨3, _⟩ => ⟨S1x1024, .f32⟩
  | .hbm, ⟨4, _⟩ => ⟨S8256x1024, .f32⟩
  | .hbm, ⟨5, _⟩ => ⟨S8256x1024, .f32⟩
  | .hbm, ⟨6, _⟩ => ⟨S1x1024, .f32⟩
  | .local _ .vmem, ⟨0, _⟩ => ⟨S1x1032x1024, .bf16⟩
  | .local _ .vmem, ⟨1, _⟩ => ⟨S1x1032x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1032x1024, .f32⟩
  | .local _ .vmem, ⟨5, _⟩ => ⟨S1032x1024, .f32⟩
  | .local _ .vmem, ⟨6, _⟩ => ⟨S1x1024, .f32⟩
  | .local _ .vmem, ⟨7, _⟩ => ⟨S1032x1024, .f32⟩
  | .local _ .vmem, ⟨8, _⟩ => ⟨S1032x1024, .f32⟩
  | .local _ .vmem, ⟨9, _⟩ => ⟨S1032x1024, .f32⟩
  | .local _ .vmem, ⟨10, _⟩ => ⟨S1032x1024, .f32⟩
  | .local _ .vmem, ⟨11, _⟩ => ⟨S1x1024, .f32⟩
  | .local _ .vmem, ⟨12, _⟩ => ⟨S1032x1024, .f32⟩
  | _, _ => ⟨S7x8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 7], ![false, false, false]⟩

def k0_cond3 (i : grid0.Coords) : BitVec 1 :=
  let arg2 : BitVec 32 := BitVec.ofNat 32 (i 2).val
  let c6_i32 : BitVec 32 := 6#32
  let v17 : BitVec 1 := Scalar.cmpi .eq arg2 c6_i32
  let v18 : BitVec 32 := Scalar.extui v17
  let c0_i32_12 : BitVec 32 := 0#32
  let v19 : BitVec 1 := Scalar.cmpi .ne v18 c0_i32_12
  v19

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg2 : BitVec 32 := BitVec.ofNat 32 (i 2).val
  let c0_i32_2 : BitVec 32 := 0#32
  let v4 : BitVec 1 := Scalar.cmpi .eq arg2 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1032x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1032x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1032x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1032x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference3Ideal.lean ====
abbrev S7x8256x1024 : Shape := ⟨3, ![7, 8256, 1024]⟩
abbrev S1024x7168 : Shape := ⟨2, ![1024, 7168]⟩
abbrev S8256x1024 : Shape := ⟨2, ![8256, 1024]⟩
abbrev S1x1024 : Shape := ⟨2, ![1, 1024]⟩
abbrev S8256x7x1024 : Shape := ⟨3, ![8256, 7, 1024]⟩
abbrev S8256x7168 : Shape := ⟨2, ![8256, 7168]⟩
abbrev S_ : Shape := ⟨0, ![]⟩
abbrev S8256 : Shape := ⟨1, ![8256]⟩
abbrev S8256x1 : Shape := ⟨2, ![8256, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S7x8256x1024, .bf16⟩
  | .hbm, ⟨1, _⟩ => ⟨S1024x7168, .bf16⟩
  | .hbm, ⟨2, _⟩ => ⟨S8256x1024, .f32⟩
  | .hbm, ⟨3, _⟩ => ⟨S1x1024, .f32⟩
  | .hbm, ⟨4, _⟩ => ⟨S8256x1024, .f32⟩
  | .hbm, ⟨5, _⟩ => ⟨S1024x7168, .f32⟩
  | .hbm, ⟨6, _⟩ => ⟨S7x8256x1024, .f32⟩
  | .hbm, ⟨7, _⟩ => ⟨S8256x7x1024, .f32⟩
  | .hbm, ⟨8, _⟩ => ⟨S8256x7168, .f32⟩
  | .hbm, ⟨9, _⟩ => ⟨S8256x1024, .f32⟩
  | .hbm, ⟨10, _⟩ => ⟨S_, .f32⟩
  | .hbm, ⟨11, _⟩ => ⟨S8256, .f32⟩
  | .hbm, ⟨12, _⟩ => ⟨S8256x1, .f32⟩
  | .hbm, ⟨13, _⟩ => ⟨S_, .f32⟩
  | .hbm, ⟨14, _⟩ => ⟨S8256x1, .f32⟩
  | .hbm, ⟨15, _⟩ => ⟨S8256x1, .f32⟩
  | .hbm, ⟨16, _⟩ => ⟨S_, .f32⟩
  | .hbm, ⟨17, _⟩ => ⟨S8256x1, .f32⟩
  | .hbm, ⟨18, _⟩ => ⟨S8256x1, .f32⟩
  | .hbm, ⟨19, _⟩ => ⟨S8256x1, .f32⟩
  | .hbm, ⟨20, _⟩ => ⟨S8256x1, .f32⟩
  | .hbm, ⟨21, _⟩ => ⟨S_, .f32⟩
  | .hbm, ⟨22, _⟩ => ⟨S8256x1, .f32⟩
  | .hbm, ⟨23, _⟩ => ⟨S8256x1, .f32⟩
  | .hbm, ⟨24, _⟩ => ⟨S8256x1024, .f32⟩
  | .hbm, ⟨25, _⟩ => ⟨S8256x1024, .f32⟩
  | .hbm, ⟨26, _⟩ => ⟨S8256x1024, .f32⟩
  | .hbm, ⟨27, _⟩ => ⟨S8256x1024, .f32⟩
  | .hbm, ⟨28, _⟩ => ⟨S8256x7168, .f32⟩
  | .hbm, ⟨29, _⟩ => ⟨S8256x1024, .f32⟩
  | .hbm, ⟨30, _⟩ => ⟨S8256x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8256x1024, .f32⟩
  | .hbm, ⟨35, _⟩ => ⟨S8256x1024, .f32⟩
  | .hbm, ⟨36, _⟩ => ⟨S8256x1024, .f32⟩
  | .hbm, ⟨37, _⟩ => ⟨S_, .f32⟩
  | .hbm, ⟨38, _⟩ => ⟨S8256, .f32⟩
  | .hbm, ⟨39, _⟩ => ⟨S8256x1, .f32⟩
  | .hbm, ⟨40, _⟩ => ⟨S8256x1024, .f32⟩
  | .hbm, ⟨41, _⟩ => ⟨S8256x1024, .f32⟩
  | .hbm, ⟨42, _⟩ => ⟨S8256x1024, .f32⟩
  | .hbm, ⟨43, _⟩ => ⟨S8256x1, .f32⟩
  | .hbm, ⟨44, _⟩ => ⟨S_, .f32⟩
  | .hbm, ⟨45, _⟩ => ⟨S8256x1, .f32⟩
  | .hbm, ⟨46, _⟩ => ⟨S8256x1, .f32⟩
  | .hbm, ⟨47, _⟩ => ⟨S_, .f32⟩
  | .hbm, ⟨48, _⟩ => ⟨S8256, .f32⟩
  | .hbm, ⟨49, _⟩ => ⟨S8256x1024, .f32⟩
  | .hbm, ⟨50, _⟩ => ⟨S8256x1024, .f32⟩
  | .hbm, ⟨51, _⟩ => ⟨S8256x1024, .f32⟩
  | .hbm, ⟨52, _⟩ => ⟨S8256x1024, .f32⟩
  | .hbm, ⟨53, _⟩ => ⟨S8256x1024, .f32⟩
  | _, _ => ⟨S7x8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel4.lean ====
abbrev S2x8256x2816 : Shape := ⟨3, ![2, 8256, 2816]⟩
abbrev S1024x5632 : Shape := ⟨2, ![1024, 5632]⟩
abbrev S8256x1024 : Shape := ⟨2, ![8256, 1024]⟩
abbrev S1x1024 : Shape := ⟨2, ![1, 1024]⟩
abbrev S1x1032x1408 : Shape := ⟨3, ![1, 1032, 1408]⟩
abbrev S1024x1408 : Shape := ⟨2, ![1024, 1408]⟩
abbrev S1032x1024 : Shape := ⟨2, ![1032, 1024]⟩
abbrev S1032x1408 : Shape := ⟨2, ![1032, 1408]⟩
abbrev S1032 : Shape := ⟨1, ![1032]⟩
abbrev S1032x1 : Shape := ⟨2, ![1032, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S2x8256x2816, .bf16⟩
  | .hbm, ⟨1, _⟩ => ⟨S1024x5632, .bf16⟩
  | .hbm, ⟨2, _⟩ => ⟨S8256x1024, .f32⟩
  | .hbm, ⟨3, _⟩ => ⟨S1x1024, .f32⟩
  | .hbm, ⟨4, _⟩ => ⟨S8256x1024, .f32⟩
  | .hbm, ⟨5, _⟩ => ⟨S8256x1024, .f32⟩
  | .hbm, ⟨6, _⟩ => ⟨S1x1024, .f32⟩
  | .local _ .vmem, ⟨0, _⟩ => ⟨S1x1032x1408, .bf16⟩
  | .local _ .vmem, ⟨1, _⟩ => ⟨S1x1032x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1032x1024, .f32⟩
  | .local _ .vmem, ⟨5, _⟩ => ⟨S1032x1024, .f32⟩
  | .local _ .vmem, ⟨6, _⟩ => ⟨S1x1024, .f32⟩
  | .local _ .vmem, ⟨7, _⟩ => ⟨S1032x1024, .f32⟩
  | .local _ .vmem, ⟨8, _⟩ => ⟨S1032x1024, .f32⟩
  | .local _ .vmem, ⟨9, _⟩ => ⟨S1032x1024, .f32⟩
  | .local _ .vmem, ⟨10, _⟩ => ⟨S1032x1024, .f32⟩
  | .local _ .vmem, ⟨11, _⟩ => ⟨S1x1024, .f32⟩
  | .local _ .vmem, ⟨12, _⟩ => ⟨S1032x1024, .f32⟩
  | _, _ => ⟨S2x8256x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_12 : BitVec 32 := 0#32
  let v19 : BitVec 1 := Scalar.cmpi .ne v18 c0_i32_12
  v19

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg2 : BitVec 32 := BitVec.ofNat 32 (i 2).val
  let c0_i32_2 : BitVec 32 := 0#32
  let v4 : BitVec 1 := Scalar.cmpi .eq arg2 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1032x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1032x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1032x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1032x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference4Ideal.lean ====
abbrev S2x8256x2816 : Shape := ⟨3, ![2, 8256, 2816]⟩
abbrev S1024x5632 : Shape := ⟨2, ![1024, 5632]⟩
abbrev S8256x1024 : Shape := ⟨2, ![8256, 1024]⟩
abbrev S1x1024 : Shape := ⟨2, ![1, 1024]⟩
abbrev S8256x2x2816 : Shape := ⟨3, ![8256, 2, 2816]⟩
abbrev S8256x5632 : Shape := ⟨2, ![8256, 5632]⟩
abbrev S_ : Shape := ⟨0, ![]⟩
abbrev S8256 : Shape := ⟨1, ![8256]⟩
abbrev S8256x1 : Shape := ⟨2, ![8256, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S2x8256x2816, .bf16⟩
  | .hbm, ⟨1, _⟩ => ⟨S1024x5632, .bf16⟩
  | .hbm, ⟨2, _⟩ => ⟨S8256x1024, .f32⟩
  | .hbm, ⟨3, _⟩ => ⟨S1x1024, .f32⟩
  | .hbm, ⟨4, _⟩ => ⟨S8256x1024, .f32⟩
  | .hbm, ⟨5, _⟩ => ⟨S1024x5632, .f32⟩
  | .hbm, ⟨6, _⟩ => ⟨S2x8256x2816, .f32⟩
  | .hbm, ⟨7, _⟩ => ⟨S8256x2x2816, .f32⟩
  | .hbm, ⟨8, _⟩ => ⟨S8256x5632, .f32⟩
  | .hbm, ⟨9, _⟩ => ⟨S8256x1024, .f32⟩
  | .hbm, ⟨10, _⟩ => ⟨S_, .f32⟩
  | .hbm, ⟨11, _⟩ => ⟨S8256, .f32⟩
  | .hbm, ⟨12, _⟩ => ⟨S8256x1, .f32⟩
  | .hbm, ⟨13, _⟩ => ⟨S_, .f32⟩
  | .hbm, ⟨14, _⟩ => ⟨S8256x1, .f32⟩
  | .hbm, ⟨15, _⟩ => ⟨S8256x1, .f32⟩
  | .hbm, ⟨16, _⟩ => ⟨S_, .f32⟩
  | .hbm, ⟨17, _⟩ => ⟨S8256x1, .f32⟩
  | .hbm, ⟨18, _⟩ => ⟨S8256x1, .f32⟩
  | .hbm, ⟨19, _⟩ => ⟨S8256x1, .f32⟩
  | .hbm, ⟨20, _⟩ => ⟨S8256x1, .f32⟩
  | .hbm, ⟨21, _⟩ => ⟨S_, .f32⟩
  | .hbm, ⟨22, _⟩ => ⟨S8256x1, .f32⟩
  | .hbm, ⟨23, _⟩ => ⟨S8256x1, .f32⟩
  | .hbm, ⟨24, _⟩ => ⟨S8256x1024, .f32⟩
  | .hbm, ⟨25, _⟩ => ⟨S8256x1024, .f32⟩
  | .hbm, ⟨26, _⟩ => ⟨S8256x1024, .f32⟩
  | .hbm, ⟨27, _⟩ => ⟨S8256x1024, .f32⟩
  | .hbm, ⟨28, _⟩ => ⟨S8256x5632, .f32⟩
  | .hbm, ⟨29, _⟩ => ⟨S8256x1024, .f32⟩
  | .hbm, ⟨30, _⟩ => ⟨S8256x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8256x1024, .f32⟩
  | .hbm, ⟨35, _⟩ => ⟨S8256x1024, .f32⟩
  | .hbm, ⟨36, _⟩ => ⟨S8256x1024, .f32⟩
  | .hbm, ⟨37, _⟩ => ⟨S_, .f32⟩
  | .hbm, ⟨38, _⟩ => ⟨S8256, .f32⟩
  | .hbm, ⟨39, _⟩ => ⟨S8256x1, .f32⟩
  | .hbm, ⟨40, _⟩ => ⟨S8256x1024, .f32⟩
  | .hbm, ⟨41, _⟩ => ⟨S8256x1024, .f32⟩
  | .hbm, ⟨42, _⟩ => ⟨S8256x1024, .f32⟩
  | .hbm, ⟨43, _⟩ => ⟨S8256x1, .f32⟩
  | .hbm, ⟨44, _⟩ => ⟨S_, .f32⟩
  | .hbm, ⟨45, _⟩ => ⟨S8256x1, .f32⟩
  | .hbm, ⟨46, _⟩ => ⟨S8256x1, .f32⟩
  | .hbm, ⟨47, _⟩ => ⟨S_, .f32⟩
  | .hbm, ⟨48, _⟩ => ⟨S8256, .f32⟩
  | .hbm, ⟨49, _⟩ => ⟨S8256x1024, .f32⟩
  | .hbm, ⟨50, _⟩ => ⟨S8256x1024, .f32⟩
  | .hbm, ⟨51, _⟩ => ⟨S8256x1024, .f32⟩
  | .hbm, ⟨52, _⟩ => ⟨S8256x1024, .f32⟩
  | .hbm, ⟨53, _⟩ => ⟨S8256x1024, .f32⟩
  | _, _ => ⟨S2x8256x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel6.lean ====
abbrev S8256x1024 : Shape := ⟨2, ![8256, 1024]⟩
abbrev S7x8256x1024 : Shape := ⟨3, ![7, 8256, 1024]⟩
abbrev S7x1024x1024 : Shape := ⟨3, ![7, 1024, 1024]⟩
abbrev S1376x1024 : Shape := ⟨2, ![1376, 1024]⟩
abbrev S1x1376x1024 : Shape := ⟨3, ![1, 1376, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8256x1024, .bf16⟩
  | .hbm, ⟨1, _⟩ => ⟨S7x8256x1024, .bf16⟩
  | .hbm, ⟨2, _⟩ => ⟨S7x1024x1024, .f32⟩
  | .local _ .vmem, ⟨0, _⟩ => ⟨S1376x1024, .bf16⟩
  | .local _ .vmem, ⟨1, _⟩ => ⟨S1376x1024, .bf16⟩
  | .local _ .vmem, ⟨2, _⟩ => ⟨S1x1376x1024, .bf16⟩
  | .local _ .vmem, ⟨3, _⟩ => ⟨S1x1376x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 6], ![false, false, false]⟩

def k0_cond2 (i : grid0.Coords) : BitVec 1 :=
  let arg2 : BitVec 32 := BitVec.ofNat 32 (i 2).val
  let c5_i32 : BitVec 32 := 5#32
  let v12 : BitVec 1 := Scalar.cmpi .eq arg2 c5_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1376x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference6Ideal.lean ====
abbrev S8256x1024 : Shape := ⟨2, ![8256, 1024]⟩
abbrev S7x8256x1024 : Shape := ⟨3, ![7, 8256, 1024]⟩
abbrev S8256x7x1024 : Shape := ⟨3, ![8256, 7, 1024]⟩
abbrev S8256x7168 : Shape := ⟨2, ![8256, 7168]⟩
abbrev S_ : Shape := ⟨0, ![]⟩
abbrev S1024x7168 : Shape := ⟨2, ![1024, 7168]⟩
abbrev S7168x1024 : Shape := ⟨2, ![7168, 1024]⟩
abbrev S1024x7x1024 : Shape := ⟨3, ![1024, 7, 1024]⟩
abbrev S7x1024x1024 : Shape := ⟨3, ![7, 1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S7x8256x1024, .bf16⟩
  | .hbm, ⟨2, _⟩ => ⟨S8256x1024, .f32⟩
  | .hbm, ⟨3, _⟩ => ⟨S7x8256x1024, .f32⟩
  | .hbm, ⟨4, _⟩ => ⟨S8256x7x1024, .f32⟩
  | .hbm, ⟨5, _⟩ => ⟨S8256x7168, .f32⟩
  | .hbm, ⟨6, _⟩ => ⟨S_, .f32⟩
  | .hbm, ⟨7, _⟩ => ⟨S1024x7168, .f32⟩
  | .hbm, ⟨8, _⟩ => ⟨S8256x7168, .f32⟩
  | .hbm, ⟨9, _⟩ => ⟨S7168x1024, .f32⟩
  | .hbm, ⟨10, _⟩ => ⟨S1024x7168, .f32⟩
  | .hbm, ⟨11, _⟩ => ⟨S1024x7x1024, .f32⟩
  | .hbm, ⟨12, _⟩ => ⟨S7x1024x1024, .f32⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel7.lean ====
abbrev S8256x1024 : Shape := ⟨2, ![8256, 1024]⟩
abbrev S2x8256x2816 : Shape := ⟨3, ![2, 8256, 2816]⟩
abbrev S4x1024x1408 : Shape := ⟨3, ![4, 1024, 1408]⟩
abbrev S1376x1024 : Shape := ⟨2, ![1376, 1024]⟩
abbrev S1x1376x1408 : Shape := ⟨3, ![1, 1376, 1408]⟩
abbrev S1x1024x1408 : Shape := ⟨3, ![1, 1024, 1408]⟩
abbrev S1024x1408 : Shape := ⟨2, ![1024, 1408]⟩
abbrev S1376x1408 : Shape := ⟨2, ![1376, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8256x1024, .bf16⟩
  | .hbm, ⟨1, _⟩ => ⟨S2x8256x2816, .bf16⟩
  | .hbm, ⟨2, _⟩ => ⟨S4x1024x1408, .f32⟩
  | .local _ .vmem, ⟨0, _⟩ => ⟨S1376x1024, .bf16⟩
  | .local _ .vmem, ⟨1, _⟩ => ⟨S1376x1024, .bf16⟩
  | .local _ .vmem, ⟨2, _⟩ => ⟨S1x1376x1408, .bf16⟩
  | .local _ .vmem, ⟨3, _⟩ => ⟨S1x1376x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 6], ![false, false, false]⟩

def k0_cond2 (i : grid0.Coords) : BitVec 1 :=
  let arg2 : BitVec 32 := BitVec.ofNat 32 (i 2).val
  let c5_i32 : BitVec 32 := 5#32
  let v12 : BitVec 1 := Scalar.cmpi .eq arg2 c5_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1376x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference7Ideal.lean ====
abbrev S8256x1024 : Shape := ⟨2, ![8256, 1024]⟩
abbrev S2x8256x2816 : Shape := ⟨3, ![2, 8256, 2816]⟩
abbrev S8256x2x2816 : Shape := ⟨3, ![8256, 2, 2816]⟩
abbrev S8256x5632 : Shape := ⟨2, ![8256, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 13
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S2x8256x2816, .bf16⟩
  | .hbm, ⟨2, _⟩ => ⟨S8256x1024, .f32⟩
  | .hbm, ⟨3, _⟩ => ⟨S2x8256x2816, .f32⟩
  | .hbm, ⟨4, _⟩ => ⟨S8256x2x2816, .f32⟩
  | .hbm, ⟨5, _⟩ => ⟨S8256x5632, .f32⟩
  | .hbm, ⟨6, _⟩ => ⟨S_, .f32⟩
  | .hbm, ⟨7, _⟩ => ⟨S1024x5632, .f32⟩
  | .hbm, ⟨8, _⟩ => ⟨S8256x5632, .f32⟩
  | .hbm, ⟨9, _⟩ => ⟨S5632x1024, .f32⟩
  | .hbm, ⟨10, _⟩ => ⟨S1024x5632, .f32⟩
  | .hbm, ⟨11, _⟩ => ⟨S1024x4x1408, .f32⟩
  | .hbm, ⟨12, _⟩ => ⟨S4x1024x1408, .f32⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel8.lean ====
abbrev S8256x1024 : Shape := ⟨2, ![8256, 1024]⟩
abbrev S2816x1024 : Shape := ⟨2, ![2816, 1024]⟩
abbrev S8256x2816 : Shape := ⟨2, ![8256, 2816]⟩
abbrev S1032x1024 : Shape := ⟨2, ![1032, 1024]⟩
abbrev S1408x1024 : Shape := ⟨2, ![1408, 1024]⟩
abbrev S1032x1408 : Shape := ⟨2, ![1032, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8256x1024, .f32⟩
  | .hbm, ⟨1, _⟩ => ⟨S2816x1024, .bf16⟩
  | .hbm, ⟨2, _⟩ => ⟨S8256x2816, .f32⟩
  | .local _ .vmem, ⟨0, _⟩ => ⟨S1032x1024, .f32⟩
  | .local _ .vmem, ⟨1, _⟩ => ⟨S1032x1024, .f32⟩
  | .local _ .vmem, ⟨2, _⟩ => ⟨S1408x1024, .bf16⟩
  | .local _ .vmem, ⟨3, _⟩ => ⟨S1408x1024, .bf16⟩
  | .local _ .vmem, ⟨4, _⟩ => ⟨S1032x1408, .f32⟩
  | .local _ .vmem, ⟨5, _⟩ => ⟨S1032x1408, .f32⟩
  | .local _ .vmem, ⟨6, _⟩ => ⟨S1032x1408, .f32⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1032x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1032x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8256x1024 : Shape := ⟨2, ![8256, 1024]⟩
abbrev S2816x1024 : Shape := ⟨2, ![2816, 1024]⟩
abbrev S_ : Shape := ⟨0, ![]⟩
abbrev S8256x2816 : Shape := ⟨2, ![8256, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S2816x1024, .bf16⟩
  | .hbm, ⟨2, _⟩ => ⟨S_, .f32⟩
  | .hbm, ⟨3, _⟩ => ⟨S8256x2816, .f32⟩
  | .hbm, ⟨4, _⟩ => ⟨S2816x1024, .f32⟩
  | .hbm, ⟨5, _⟩ => ⟨S8256x1024, .f32⟩
  | .hbm, ⟨6, _⟩ => ⟨S8256x2816, .f32⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S8256x2816 : Shape := ⟨2, ![8256, 2816]⟩
abbrev S8256x1024 : Shape := ⟨2, ![8256, 1024]⟩
abbrev S2816x1024 : Shape := ⟨2, ![2816, 1024]⟩
abbrev S688x2816 : Shape := ⟨2, ![688, 2816]⟩
abbrev S688x512 : Shape := ⟨2, ![688, 512]⟩
abbrev S2816x512 : Shape := ⟨2, ![2816, 512]⟩

abbrev nBuf : Space → Nat
  | .hbm => 3
  | .vmem => 7
  | .smem => 0
  | _ => 0

abbrev bufTy : (tb : Table) → Fin (tcTables nBuf tb) → BufTy
  | .hbm, ⟨0, _⟩ => ⟨S8256x2816, .bf16⟩
  | .hbm, ⟨1, _⟩ => ⟨S8256x1024, .f32⟩
  | .hbm, ⟨2, _⟩ => ⟨S2816x1024, .f32⟩
  | .local _ .vmem, ⟨0, _⟩ => ⟨S688x2816, .bf16⟩
  | .local _ .vmem, ⟨1, _⟩ => ⟨S688x2816, .bf16⟩
  | .local _ .vmem, ⟨2, _⟩ => ⟨S688x512, .f32⟩
  | .local _ .vmem, ⟨3, _⟩ => ⟨S688x512, .f32⟩
  | .local _ .vmem, ⟨4, _⟩ => ⟨S2816x512, .f32⟩
  | .local _ .vmem, ⟨5, _⟩ => ⟨S2816x512, .f32⟩
  | .local _ .vmem, ⟨6, _⟩ => ⟨S2816x512, .f32⟩
  | _, _ => ⟨S8256x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 12], ![false, false, false]⟩

def k0_cond2 (i : grid0.Coords) : BitVec 1 :=
  let arg2 : BitVec 32 := BitVec.ofNat 32 (i 2).val
  let c11_i32 : BitVec 32 := 11#32
  let v12 : BitVec 1 := Scalar.cmpi .eq arg2 c11_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S688x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S688x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference11Ideal.lean ====
abbrev S8256x2816 : Shape := ⟨2, ![8256, 2816]⟩
abbrev S8256x1024 : Shape := ⟨2, ![8256, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8256x2816, .bf16⟩
  | .hbm, ⟨1, _⟩ => ⟨S8256x1024, .f32⟩
  | .hbm, ⟨2, _⟩ => ⟨S8256x2816, .f32⟩
  | .hbm, ⟨3, _⟩ => ⟨S_, .f32⟩
  | .hbm, ⟨4, _⟩ => ⟨S2816x1024, .f32⟩
  | .hbm, ⟨5, _⟩ => ⟨S8256x1024, .f32⟩
  | .hbm, ⟨6, _⟩ => ⟨S1024x2816, .f32⟩
  | .hbm, ⟨7, _⟩ => ⟨S2816x1024, .f32⟩
  | _, _ => ⟨S8256x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S8256x1024 : Shape := ⟨2, ![8256, 1024]⟩
abbrev S1024x1024 : Shape := ⟨2, ![1024, 1024]⟩
abbrev S1376x1024 : Shape := ⟨2, ![1376, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .f32⟩
  | .hbm, ⟨2, _⟩ => ⟨S1024x1024, .f32⟩
  | .local _ .vmem, ⟨0, _⟩ => ⟨S1376x1024, .bf16⟩
  | .local _ .vmem, ⟨1, _⟩ => ⟨S1376x1024, .bf16⟩
  | .local _ .vmem, ⟨2, _⟩ => ⟨S1376x1024, .f32⟩
  | .local _ .vmem, ⟨3, _⟩ => ⟨S1376x1024, .f32⟩
  | .local _ .vmem, ⟨4, _⟩ => ⟨S1024x1024, .f32⟩
  | .local _ .vmem, ⟨5, _⟩ => ⟨S1024x1024, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond2 (i : grid0.Coords) : BitVec 1 :=
  let arg2 : BitVec 32 := BitVec.ofNat 32 (i 2).val
  let c5_i32 : BitVec 32 := 5#32
  let v12 : BitVec 1 := Scalar.cmpi .eq arg2 c5_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1376x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]
-- ==== Reference12Ideal.lean ====
abbrev S8256x1024 : Shape := ⟨2, ![8256, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .f32⟩
  | .hbm, ⟨2, _⟩ => ⟨S8256x1024, .f32⟩
  | .hbm, ⟨3, _⟩ => ⟨S_, .f32⟩
  | .hbm, ⟨4, _⟩ => ⟨S1024x1024, .f32⟩
  | .hbm, ⟨5, _⟩ => ⟨S8256x1024, .f32⟩
  | .hbm, ⟨6, _⟩ => ⟨S1024x1024, .f32⟩
  | .hbm, ⟨7, _⟩ => ⟨S1024x1024, .f32⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8256x1024 : Shape := ⟨2, ![8256, 1024]⟩
abbrev S1024x1024 : Shape := ⟨2, ![1024, 1024]⟩
abbrev S1376x1024 : Shape := ⟨2, ![1376, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S1024x1024, .f32⟩
  | .local _ .vmem, ⟨0, _⟩ => ⟨S1376x1024, .bf16⟩
  | .local _ .vmem, ⟨1, _⟩ => ⟨S1376x1024, .bf16⟩
  | .local _ .vmem, ⟨2, _⟩ => ⟨S1376x1024, .bf16⟩
  | .local _ .vmem, ⟨3, _⟩ => ⟨S1376x1024, .bf16⟩
  | .local _ .vmem, ⟨4, _⟩ => ⟨S1024x1024, .f32⟩
  | .local _ .vmem, ⟨5, _⟩ => ⟨S1024x1024, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1376x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]
-- ==== Reference13Ideal.lean ====
abbrev S8256x1024 : Shape := ⟨2, ![8256, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S8256x1024, .f32⟩
  | .hbm, ⟨3, _⟩ => ⟨S_, .f32⟩
  | .hbm, ⟨4, _⟩ => ⟨S1024x1024, .f32⟩
  | .hbm, ⟨5, _⟩ => ⟨S8256x1024, .f32⟩
  | .hbm, ⟨6, _⟩ => ⟨S8256x1024, .f32⟩
  | .hbm, ⟨7, _⟩ => ⟨S1024x1024, .f32⟩
  | .hbm, ⟨8, _⟩ => ⟨S1024x1024, .f32⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S8256x1024 : Shape := ⟨2, ![8256, 1024]⟩
abbrev S1024x1024 : Shape := ⟨2, ![1024, 1024]⟩
abbrev S1376x1024 : Shape := ⟨2, ![1376, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S1024x1024, .f32⟩
  | .local _ .vmem, ⟨0, _⟩ => ⟨S1376x1024, .bf16⟩
  | .local _ .vmem, ⟨1, _⟩ => ⟨S1376x1024, .bf16⟩
  | .local _ .vmem, ⟨2, _⟩ => ⟨S1376x1024, .bf16⟩
  | .local _ .vmem, ⟨3, _⟩ => ⟨S1376x1024, .bf16⟩
  | .local _ .vmem, ⟨4, _⟩ => ⟨S1024x1024, .f32⟩
  | .local _ .vmem, ⟨5, _⟩ => ⟨S1024x1024, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1376x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]
-- ==== Reference14Ideal.lean ====
abbrev S8256x1024 : Shape := ⟨2, ![8256, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S8256x1024, .f32⟩
  | .hbm, ⟨3, _⟩ => ⟨S_, .f32⟩
  | .hbm, ⟨4, _⟩ => ⟨S1024x1024, .f32⟩
  | .hbm, ⟨5, _⟩ => ⟨S8256x1024, .f32⟩
  | .hbm, ⟨6, _⟩ => ⟨S8256x1024, .f32⟩
  | .hbm, ⟨7, _⟩ => ⟨S1024x1024, .f32⟩
  | .hbm, ⟨8, _⟩ => ⟨S1024x1024, .f32⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S8256x1024 : Shape := ⟨2, ![8256, 1024]⟩
abbrev S1024x1024 : Shape := ⟨2, ![1024, 1024]⟩
abbrev S1376x1024 : Shape := ⟨2, ![1376, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8256x1024, .f32⟩
  | .hbm, ⟨1, _⟩ => ⟨S8256x1024, .bf16⟩
  | .hbm, ⟨2, _⟩ => ⟨S1024x1024, .f32⟩
  | .local _ .vmem, ⟨0, _⟩ => ⟨S1376x1024, .f32⟩
  | .local _ .vmem, ⟨1, _⟩ => ⟨S1376x1024, .f32⟩
  | .local _ .vmem, ⟨2, _⟩ => ⟨S1376x1024, .bf16⟩
  | .local _ .vmem, ⟨3, _⟩ => ⟨S1376x1024, .bf16⟩
  | .local _ .vmem, ⟨4, _⟩ => ⟨S1024x1024, .f32⟩
  | .local _ .vmem, ⟨5, _⟩ => ⟨S1024x1024, .f32⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond2 (i : grid0.Coords) : BitVec 1 :=
  let arg2 : BitVec 32 := BitVec.ofNat 32 (i 2).val
  let c5_i32 : BitVec 32 := 5#32
  let v12 : BitVec 1 := Scalar.cmpi .eq arg2 c5_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1376x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1376x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]
-- ==== Reference15Ideal.lean ====
abbrev S8256x1024 : Shape := ⟨2, ![8256, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S8256x1024, .bf16⟩
  | .hbm, ⟨2, _⟩ => ⟨S_, .f32⟩
  | .hbm, ⟨3, _⟩ => ⟨S1024x1024, .f32⟩
  | .hbm, ⟨4, _⟩ => ⟨S8256x1024, .f32⟩
  | .hbm, ⟨5, _⟩ => ⟨S8256x1024, .f32⟩
  | .hbm, ⟨6, _⟩ => ⟨S1024x1024, .f32⟩
  | .hbm, ⟨7, _⟩ => ⟨S1024x1024, .f32⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S8256x1024 : Shape := ⟨2, ![8256, 1024]⟩
abbrev S1024x1024 : Shape := ⟨2, ![1024, 1024]⟩
abbrev S1032x1024 : Shape := ⟨2, ![1032, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8256x1024, .bf16⟩
  | .hbm, ⟨1, _⟩ => ⟨S1024x1024, .bf16⟩
  | .hbm, ⟨2, _⟩ => ⟨S8256x1024, .f32⟩
  | .local _ .vmem, ⟨0, _⟩ => ⟨S1032x1024, .bf16⟩
  | .local _ .vmem, ⟨1, _⟩ => ⟨S1032x1024, .bf16⟩
  | .local _ .vmem, ⟨2, _⟩ => ⟨S1024x1024, .bf16⟩
  | .local _ .vmem, ⟨3, _⟩ => ⟨S1032x1024, .f32⟩
  | .local _ .vmem, ⟨4, _⟩ => ⟨S1032x1024, .f32⟩
  | .local _ .vmem, ⟨5, _⟩ => ⟨S1032x1024, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1032x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1032x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8256x1024 : Shape := ⟨2, ![8256, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S1024x1024, .bf16⟩
  | .hbm, ⟨2, _⟩ => ⟨S_, .f32⟩
  | .hbm, ⟨3, _⟩ => ⟨S8256x1024, .f32⟩
  | .hbm, ⟨4, _⟩ => ⟨S1024x1024, .f32⟩
  | .hbm, ⟨5, _⟩ => ⟨S8256x1024, .f32⟩
  | .hbm, ⟨6, _⟩ => ⟨S8256x1024, .f32⟩
  | .hbm, ⟨7, _⟩ => ⟨S8256x1024, .f32⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S8256x1024 : Shape := ⟨2, ![8256, 1024]⟩
abbrev S1024x1024 : Shape := ⟨2, ![1024, 1024]⟩
abbrev S1032x1024 : Shape := ⟨2, ![1032, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8256x1024, .bf16⟩
  | .hbm, ⟨1, _⟩ => ⟨S1024x1024, .bf16⟩
  | .hbm, ⟨2, _⟩ => ⟨S8256x1024, .f32⟩
  | .hbm, ⟨3, _⟩ => ⟨S8256x1024, .f32⟩
  | .local _ .vmem, ⟨0, _⟩ => ⟨S1032x1024, .bf16⟩
  | .local _ .vmem, ⟨1, _⟩ => ⟨S1032x1024, .bf16⟩
  | .local _ .vmem, ⟨2, _⟩ => ⟨S1024x1024, .bf16⟩
  | .local _ .vmem, ⟨3, _⟩ => ⟨S1032x1024, .f32⟩
  | .local _ .vmem, ⟨4, _⟩ => ⟨S1032x1024, .f32⟩
  | .local _ .vmem, ⟨5, _⟩ => ⟨S1032x1024, .f32⟩
  | .local _ .vmem, ⟨6, _⟩ => ⟨S1032x1024, .f32⟩
  | .local _ .vmem, ⟨7, _⟩ => ⟨S1032x1024, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1032x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1032x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1032x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S8256x1024 : Shape := ⟨2, ![8256, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S1024x1024, .bf16⟩
  | .hbm, ⟨2, _⟩ => ⟨S8256x1024, .f32⟩
  | .hbm, ⟨3, _⟩ => ⟨S_, .f32⟩
  | .hbm, ⟨4, _⟩ => ⟨S8256x1024, .f32⟩
  | .hbm, ⟨5, _⟩ => ⟨S1024x1024, .f32⟩
  | .hbm, ⟨6, _⟩ => ⟨S8256x1024, .f32⟩
  | .hbm, ⟨7, _⟩ => ⟨S8256x1024, .f32⟩
  | .hbm, ⟨8, _⟩ => ⟨S8256x1024, .f32⟩
  | .hbm, ⟨9, _⟩ => ⟨S8256x1024, .f32⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel9.lean ====
abbrev S8256x1024 : Shape := ⟨2, ![8256, 1024]⟩
abbrev S1024x5632 : Shape := ⟨2, ![1024, 5632]⟩
abbrev S8256x5632 : Shape := ⟨2, ![8256, 5632]⟩
abbrev S2064x1024 : Shape := ⟨2, ![2064, 1024]⟩
abbrev S1024x1408 : Shape := ⟨2, ![1024, 1408]⟩
abbrev S2064x1408 : Shape := ⟨2, ![2064, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8256x1024, .bf16⟩
  | .hbm, ⟨1, _⟩ => ⟨S1024x5632, .bf16⟩
  | .hbm, ⟨2, _⟩ => ⟨S8256x5632, .f32⟩
  | .local _ .vmem, ⟨0, _⟩ => ⟨S2064x1024, .bf16⟩
  | .local _ .vmem, ⟨1, _⟩ => ⟨S2064x1024, .bf16⟩
  | .local _ .vmem, ⟨2, _⟩ => ⟨S1024x1408, .bf16⟩
  | .local _ .vmem, ⟨3, _⟩ => ⟨S1024x1408, .bf16⟩
  | .local _ .vmem, ⟨4, _⟩ => ⟨S2064x1408, .f32⟩
  | .local _ .vmem, ⟨5, _⟩ => ⟨S2064x1408, .f32⟩
  | .local _ .vmem, ⟨6, _⟩ => ⟨S2064x1408, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2064x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2064x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8256x1024 : Shape := ⟨2, ![8256, 1024]⟩
abbrev S1024x5632 : Shape := ⟨2, ![1024, 5632]⟩
abbrev S8256x5632 : Shape := ⟨2, ![8256, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S1024x5632, .bf16⟩
  | .hbm, ⟨2, _⟩ => ⟨S8256x1024, .f32⟩
  | .hbm, ⟨3, _⟩ => ⟨S1024x5632, .f32⟩
  | .hbm, ⟨4, _⟩ => ⟨S8256x5632, .f32⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S8256x2816 : Shape := ⟨2, ![8256, 2816]⟩
abbrev S2816x1024 : Shape := ⟨2, ![2816, 1024]⟩
abbrev S8256x1024 : Shape := ⟨2, ![8256, 1024]⟩
abbrev S1032x1408 : Shape := ⟨2, ![1032, 1408]⟩
abbrev S1408x1024 : Shape := ⟨2, ![1408, 1024]⟩
abbrev S1032x1024 : Shape := ⟨2, ![1032, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8256x2816, .bf16⟩
  | .hbm, ⟨1, _⟩ => ⟨S2816x1024, .bf16⟩
  | .hbm, ⟨2, _⟩ => ⟨S8256x1024, .f32⟩
  | .hbm, ⟨3, _⟩ => ⟨S8256x1024, .f32⟩
  | .local _ .vmem, ⟨0, _⟩ => ⟨S1032x1408, .bf16⟩
  | .local _ .vmem, ⟨1, _⟩ => ⟨S1032x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1032x1024, .f32⟩
  | .local _ .vmem, ⟨5, _⟩ => ⟨S1032x1024, .f32⟩
  | .local _ .vmem, ⟨6, _⟩ => ⟨S1032x1024, .f32⟩
  | .local _ .vmem, ⟨7, _⟩ => ⟨S1032x1024, .f32⟩
  | .local _ .vmem, ⟨8, _⟩ => ⟨S1032x1024, .f32⟩
  | _, _ => ⟨S8256x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1032x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1032x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1032x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S8256x2816 : Shape := ⟨2, ![8256, 2816]⟩
abbrev S2816x1024 : Shape := ⟨2, ![2816, 1024]⟩
abbrev S8256x1024 : Shape := ⟨2, ![8256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8256x2816, .bf16⟩
  | .hbm, ⟨1, _⟩ => ⟨S2816x1024, .bf16⟩
  | .hbm, ⟨2, _⟩ => ⟨S8256x1024, .f32⟩
  | .hbm, ⟨3, _⟩ => ⟨S8256x2816, .f32⟩
  | .hbm, ⟨4, _⟩ => ⟨S2816x1024, .f32⟩
  | .hbm, ⟨5, _⟩ => ⟨S8256x1024, .f32⟩
  | .hbm, ⟨6, _⟩ => ⟨S8256x1024, .f32⟩
  | _, _ => ⟨S8256x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S8256x1024 : Shape := ⟨2, ![8256, 1024]⟩
abbrev S1024x1024 : Shape := ⟨2, ![1024, 1024]⟩
abbrev S688x1024 : Shape := ⟨2, ![688, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8256x1024, .f32⟩
  | .hbm, ⟨1, _⟩ => ⟨S1024x1024, .bf16⟩
  | .hbm, ⟨2, _⟩ => ⟨S8256x1024, .f32⟩
  | .hbm, ⟨3, _⟩ => ⟨S8256x1024, .bf16⟩
  | .local _ .vmem, ⟨0, _⟩ => ⟨S688x1024, .f32⟩
  | .local _ .vmem, ⟨1, _⟩ => ⟨S688x1024, .f32⟩
  | .local _ .vmem, ⟨2, _⟩ => ⟨S1024x1024, .bf16⟩
  | .local _ .vmem, ⟨3, _⟩ => ⟨S688x1024, .f32⟩
  | .local _ .vmem, ⟨4, _⟩ => ⟨S688x1024, .f32⟩
  | .local _ .vmem, ⟨5, _⟩ => ⟨S688x1024, .f32⟩
  | .local _ .vmem, ⟨6, _⟩ => ⟨S688x1024, .f32⟩
  | .local _ .vmem, ⟨7, _⟩ => ⟨S688x1024, .bf16⟩
  | .local _ .vmem, ⟨8, _⟩ => ⟨S688x1024, .bf16⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![12, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S688x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference18Ideal.lean ====
abbrev S8256x1024 : Shape := ⟨2, ![8256, 1024]⟩
abbrev S1024x1024 : Shape := ⟨2, ![1024, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S1024x1024, .bf16⟩
  | .hbm, ⟨2, _⟩ => ⟨S1024x1024, .f32⟩
  | .hbm, ⟨3, _⟩ => ⟨S8256x1024, .f32⟩
  | .hbm, ⟨4, _⟩ => ⟨S8256x1024, .f32⟩
  | .hbm, ⟨5, _⟩ => ⟨S8256x1024, .f32⟩
  | .hbm, ⟨6, _⟩ => ⟨S_, .f32⟩
  | .hbm, ⟨7, _⟩ => ⟨S8256x1024, .f32⟩
  | .hbm, ⟨8, _⟩ => ⟨S8256x1024, .f32⟩
  | .hbm, ⟨9, _⟩ => ⟨S_, .f32⟩
  | .hbm, ⟨10, _⟩ => ⟨S8256x1024, .f32⟩
  | .hbm, ⟨11, _⟩ => ⟨S8256x1024, .f32⟩
  | .hbm, ⟨12, _⟩ => ⟨S8256x1024, .f32⟩
  | .hbm, ⟨13, _⟩ => ⟨S8256x1024, .bf16⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel19.lean ====
abbrev S8256x1024 : Shape := ⟨2, ![8256, 1024]⟩
abbrev S1024x1024 : Shape := ⟨2, ![1024, 1024]⟩
abbrev S8256x7168 : Shape := ⟨2, ![8256, 7168]⟩
abbrev S688x1024 : Shape := ⟨2, ![688, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S1024x1024, .bf16⟩
  | .hbm, ⟨3, _⟩ => ⟨S1024x1024, .bf16⟩
  | .hbm, ⟨4, _⟩ => ⟨S8256x7168, .f32⟩
  | .hbm, ⟨5, _⟩ => ⟨S8256x1024, .f32⟩
  | .hbm, ⟨6, _⟩ => ⟨S8256x1024, .f32⟩
  | .hbm, ⟨7, _⟩ => ⟨S8256x1024, .bf16⟩
  | .local _ .vmem, ⟨0, _⟩ => ⟨S688x1024, .bf16⟩
  | .local _ .vmem, ⟨1, _⟩ => ⟨S688x1024, .bf16⟩
  | .local _ .vmem, ⟨2, _⟩ => ⟨S1024x1024, .bf16⟩
  | .local _ .vmem, ⟨3, _⟩ => ⟨S688x1024, .bf16⟩
  | .local _ .vmem, ⟨4, _⟩ => ⟨S688x1024, .bf16⟩
  | .local _ .vmem, ⟨5, _⟩ => ⟨S1024x1024, .bf16⟩
  | .local _ .vmem, ⟨6, _⟩ => ⟨S688x1024, .f32⟩
  | .local _ .vmem, ⟨7, _⟩ => ⟨S688x1024, .f32⟩
  | .local _ .vmem, ⟨8, _⟩ => ⟨S688x1024, .f32⟩
  | .local _ .vmem, ⟨9, _⟩ => ⟨S688x1024, .f32⟩
  | .local _ .vmem, ⟨10, _⟩ => ⟨S688x1024, .f32⟩
  | .local _ .vmem, ⟨11, _⟩ => ⟨S688x1024, .f32⟩
  | .local _ .vmem, ⟨12, _⟩ => ⟨S688x1024, .f32⟩
  | .local _ .vmem, ⟨13, _⟩ => ⟨S688x1024, .f32⟩
  | .local _ .vmem, ⟨14, _⟩ => ⟨S688x1024, .bf16⟩
  | .local _ .vmem, ⟨15, _⟩ => ⟨S688x1024, .bf16⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![12, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S688x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S688x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S688x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference19Ideal.lean ====
abbrev S8256x1024 : Shape := ⟨2, ![8256, 1024]⟩
abbrev S1024x1024 : Shape := ⟨2, ![1024, 1024]⟩
abbrev S8256x7168 : Shape := ⟨2, ![8256, 7168]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S1024x1024, .bf16⟩
  | .hbm, ⟨3, _⟩ => ⟨S1024x1024, .bf16⟩
  | .hbm, ⟨4, _⟩ => ⟨S8256x7168, .f32⟩
  | .hbm, ⟨5, _⟩ => ⟨S8256x1024, .f32⟩
  | .hbm, ⟨6, _⟩ => ⟨S1024x1024, .f32⟩
  | .hbm, ⟨7, _⟩ => ⟨S8256x1024, .f32⟩
  | .hbm, ⟨8, _⟩ => ⟨S8256x1024, .f32⟩
  | .hbm, ⟨9, _⟩ => ⟨S1024x1024, .f32⟩
  | .hbm, ⟨10, _⟩ => ⟨S8256x1024, .f32⟩
  | .hbm, ⟨11, _⟩ => ⟨S8256x1024, .f32⟩
  | .hbm, ⟨12, _⟩ => ⟨S8256x1024, .f32⟩
  | .hbm, ⟨13, _⟩ => ⟨S8256x1024, .f32⟩
  | .hbm, ⟨14, _⟩ => ⟨S_, .f32⟩
  | .hbm, ⟨15, _⟩ => ⟨S8256x1024, .f32⟩
  | .hbm, ⟨16, _⟩ => ⟨S8256x1024, .f32⟩
  | .hbm, ⟨17, _⟩ => ⟨S_, .f32⟩
  | .hbm, ⟨18, _⟩ => ⟨S8256x1024, .f32⟩
  | .hbm, ⟨19, _⟩ => ⟨S8256x1024, .f32⟩
  | .hbm, ⟨20, _⟩ => ⟨S8256x1024, .f32⟩
  | .hbm, ⟨21, _⟩ => ⟨S8256x1024, .f32⟩
  | .hbm, ⟨22, _⟩ => ⟨S8256x1024, .f32⟩
  | .hbm, ⟨23, _⟩ => ⟨S8256x1024, .f32⟩
  | .hbm, ⟨24, _⟩ => ⟨S_, .f32⟩
  | .hbm, ⟨25, _⟩ => ⟨S8256x1024, .f32⟩
  | .hbm, ⟨26, _⟩ => ⟨S8256x1024, .f32⟩
  | .hbm, ⟨27, _⟩ => ⟨S_, .f32⟩
  | .hbm, ⟨28, _⟩ => ⟨S8256x1024, .f32⟩
  | .hbm, ⟨29, _⟩ => ⟨S8256x1024, .f32⟩
  | .hbm, ⟨30, _⟩ => ⟨S8256x1024, .f32⟩
  | .hbm, ⟨31, _⟩ => ⟨S8256x1024, .f32⟩
  | .hbm, ⟨32, _⟩ => ⟨S8256x1024, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel20.lean ====
abbrev S8256x1024 : Shape := ⟨2, ![8256, 1024]⟩
abbrev S1024x1024 : Shape := ⟨2, ![1024, 1024]⟩
abbrev S1x1024 : Shape := ⟨2, ![1, 1024]⟩
abbrev S688x1024 : Shape := ⟨2, ![688, 1024]⟩
abbrev S688 : Shape := ⟨1, ![688]⟩
abbrev S688x1 : Shape := ⟨2, ![688, 1]⟩

abbrev nBuf : Space → Nat
  | .hbm => 6
  | .vmem => 10
  | .smem => 0
  | _ => 0

abbrev bufTy : (tb : Table) → Fin (tcTables nBuf tb) → BufTy
  | .hbm, ⟨0, _⟩ => ⟨S8256x1024, .bf16⟩
  | .hbm, ⟨1, _⟩ => ⟨S1024x1024, .bf16⟩
  | .hbm, ⟨2, _⟩ => ⟨S8256x1024, .f32⟩
  | .hbm, ⟨3, _⟩ => ⟨S1x1024, .f32⟩
  | .hbm, ⟨4, _⟩ => ⟨S8256x1024, .f32⟩
  | .hbm, ⟨5, _⟩ => ⟨S8256x1024, .bf16⟩
  | .local _ .vmem, ⟨0, _⟩ => ⟨S688x1024, .bf16⟩
  | .local _ .vmem, ⟨1, _⟩ => ⟨S688x1024, .bf16⟩
  | .local _ .vmem, ⟨2, _⟩ => ⟨S1024x1024, .bf16⟩
  | .local _ .vmem, ⟨3, _⟩ => ⟨S688x1024, .f32⟩
  | .local _ .vmem, ⟨4, _⟩ => ⟨S688x1024, .f32⟩
  | .local _ .vmem, ⟨5, _⟩ => ⟨S1x1024, .f32⟩
  | .local _ .vmem, ⟨6, _⟩ => ⟨S688x1024, .f32⟩
  | .local _ .vmem, ⟨7, _⟩ => ⟨S688x1024, .f32⟩
  | .local _ .vmem, ⟨8, _⟩ => ⟨S688x1024, .bf16⟩
  | .local _ .vmem, ⟨9, _⟩ => ⟨S688x1024, .bf16⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![12, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S688x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference20Ideal.lean ====
abbrev S8256x1024 : Shape := ⟨2, ![8256, 1024]⟩
abbrev S1024x1024 : Shape := ⟨2, ![1024, 1024]⟩
abbrev S1x1024 : Shape := ⟨2, ![1, 1024]⟩
abbrev S_ : Shape := ⟨0, ![]⟩
abbrev S8256 : Shape := ⟨1, ![8256]⟩
abbrev S8256x1 : Shape := ⟨2, ![8256, 1]⟩

abbrev nBuf : Space → Nat
  | .hbm => 24
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S1024x1024, .bf16⟩
  | .hbm, ⟨2, _⟩ => ⟨S8256x1024, .f32⟩
  | .hbm, ⟨3, _⟩ => ⟨S1x1024, .f32⟩
  | .hbm, ⟨4, _⟩ => ⟨S8256x1024, .f32⟩
  | .hbm, ⟨5, _⟩ => ⟨S1024x1024, .f32⟩
  | .hbm, ⟨6, _⟩ => ⟨S8256x1024, .f32⟩
  | .hbm, ⟨7, _⟩ => ⟨S8256x1024, .f32⟩
  | .hbm, ⟨8, _⟩ => ⟨S8256x1024, .f32⟩
  | .hbm, ⟨9, _⟩ => ⟨S_, .f32⟩
  | .hbm, ⟨10, _⟩ => ⟨S8256, .f32⟩
  | .hbm, ⟨11, _⟩ => ⟨S8256x1, .f32⟩
  | .hbm, ⟨12, _⟩ => ⟨S_, .f32⟩
  | .hbm, ⟨13, _⟩ => ⟨S8256x1, .f32⟩
  | .hbm, ⟨14, _⟩ => ⟨S8256x1, .f32⟩
  | .hbm, ⟨15, _⟩ => ⟨S_, .f32⟩
  | .hbm, ⟨16, _⟩ => ⟨S8256x1, .f32⟩
  | .hbm, ⟨17, _⟩ => ⟨S8256x1, .f32⟩
  | .hbm, ⟨18, _⟩ => ⟨S8256x1, .f32⟩
  | .hbm, ⟨19, _⟩ => ⟨S8256x1024, .f32⟩
  | .hbm, ⟨20, _⟩ => ⟨S8256x1024, .f32⟩
  | .hbm, ⟨21, _⟩ => ⟨S8256x1024, .f32⟩
  | .hbm, ⟨22, _⟩ => ⟨S8256x1024, .f32⟩
  | .hbm, ⟨23, _⟩ => ⟨S8256x1024, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel25.lean ====
abbrev S1024x1792 : Shape := ⟨2, ![1024, 1792]⟩
abbrev S256x1792 : Shape := ⟨2, ![256, 1792]⟩

abbrev nBuf : Space → Nat
  | .hbm => 7
  | .vmem => 14
  | .smem => 0
  | _ => 0

abbrev bufTy : (tb : Table) → Fin (tcTables nBuf tb) → BufTy
  | .hbm, ⟨0, _⟩ => ⟨S1024x1792, .f32⟩
  | .hbm, ⟨1, _⟩ => ⟨S1024x1792, .f32⟩
  | .hbm, ⟨2, _⟩ => ⟨S1024x1792, .f32⟩
  | .hbm, ⟨3, _⟩ => ⟨S1024x1792, .f32⟩
  | .hbm, ⟨4, _⟩ => ⟨S1024x1792, .f32⟩
  | .hbm, ⟨5, _⟩ => ⟨S1024x1792, .f32⟩
  | .hbm, ⟨6, _⟩ => ⟨S1024x1792, .f32⟩
  | .local _ .vmem, ⟨0, _⟩ => ⟨S256x1792, .f32⟩
  | .local _ .vmem, ⟨1, _⟩ => ⟨S256x1792, .f32⟩
  | .local _ .vmem, ⟨2, _⟩ => ⟨S256x1792, .f32⟩
  | .local _ .vmem, ⟨3, _⟩ => ⟨S256x1792, .f32⟩
  | .local _ .vmem, ⟨4, _⟩ => ⟨S256x1792, .f32⟩
  | .local _ .vmem, ⟨5, _⟩ => ⟨S256x1792, .f32⟩
  | .local _ .vmem, ⟨6, _⟩ => ⟨S256x1792, .f32⟩
  | .local _ .vmem, ⟨7, _⟩ => ⟨S256x1792, .f32⟩
  | .local _ .vmem, ⟨8, _⟩ => ⟨S256x1792, .f32⟩
  | .local _ .vmem, ⟨9, _⟩ => ⟨S256x1792, .f32⟩
  | .local _ .vmem, ⟨10, _⟩ => ⟨S256x1792, .f32⟩
  | .local _ .vmem, ⟨11, _⟩ => ⟨S256x1792, .f32⟩
  | .local _ .vmem, ⟨12, _⟩ => ⟨S256x1792, .f32⟩
  | .local _ .vmem, ⟨13, _⟩ => ⟨S256x1792, .f32⟩
  | _, _ => ⟨S1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel25Ideal.lean ====
variable {F : FTy → Type} [FloatOps F] [Named F]
def κ : String → Option EReal := fun
  | "corr1" => some ((8388608 / 5463681 : ℝ) : EReal)
  | "corr2" => some ((268435456 / 2672307 : ℝ) : EReal)
  | _ => none
-- ==== Reference25Ideal.lean ====
abbrev S1024x1792 : Shape := ⟨2, ![1024, 1792]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1792, .f32⟩
  | .hbm, ⟨1, _⟩ => ⟨S1024x1792, .f32⟩
  | .hbm, ⟨2, _⟩ => ⟨S1024x1792, .f32⟩
  | .hbm, ⟨3, _⟩ => ⟨S1024x1792, .f32⟩
  | .hbm, ⟨4, _⟩ => ⟨S_, .f32⟩
  | .hbm, ⟨5, _⟩ => ⟨S1024x1792, .f32⟩
  | .hbm, ⟨6, _⟩ => ⟨S1024x1792, .f32⟩
  | .hbm, ⟨7, _⟩ => ⟨S_, .f32⟩
  | .hbm, ⟨8, _⟩ => ⟨S1024x1792, .f32⟩
  | .hbm, ⟨9, _⟩ => ⟨S1024x1792, .f32⟩
  | .hbm, ⟨10, _⟩ => ⟨S1024x1792, .f32⟩
  | .hbm, ⟨11, _⟩ => ⟨S_, .f32⟩
  | .hbm, ⟨12, _⟩ => ⟨S1024x1792, .f32⟩
  | .hbm, ⟨13, _⟩ => ⟨S1024x1792, .f32⟩
  | .hbm, ⟨14, _⟩ => ⟨S1024x1792, .f32⟩
  | .hbm, ⟨15, _⟩ => ⟨S_, .f32⟩
  | .hbm, ⟨16, _⟩ => ⟨S1024x1792, .f32⟩
  | .hbm, ⟨17, _⟩ => ⟨S1024x1792, .f32⟩
  | .hbm, ⟨18, _⟩ => ⟨S1024x1792, .f32⟩
  | .hbm, ⟨19, _⟩ => ⟨S_, .f32⟩
  | .hbm, ⟨20, _⟩ => ⟨S1024x1792, .f32⟩
  | .hbm, ⟨21, _⟩ => ⟨S1024x1792, .f32⟩
  | .hbm, ⟨22, _⟩ => ⟨S_, .f32⟩
  | .hbm, ⟨23, _⟩ => ⟨S1024x1792, .f32⟩
  | .hbm, ⟨24, _⟩ => ⟨S1024x1792, .f32⟩
  | .hbm, ⟨25, _⟩ => ⟨S1024x1792, .f32⟩
  | .hbm, ⟨26, _⟩ => ⟨S_, .f32⟩
  | .hbm, ⟨27, _⟩ => ⟨S1024x1792, .f32⟩
  | .hbm, ⟨28, _⟩ => ⟨S1024x1792, .f32⟩
  | .hbm, ⟨29, _⟩ => ⟨S1024x1792, .f32⟩
  | .hbm, ⟨30, _⟩ => ⟨S_, .f32⟩
  | .hbm, ⟨31, _⟩ => ⟨S1024x1792, .f32⟩
  | .hbm, ⟨32, _⟩ => ⟨S1024x1792, .f32⟩
  | .hbm, ⟨33, _⟩ => ⟨S1024x1792, .f32⟩
  | .hbm, ⟨34, _⟩ => ⟨S_, .f32⟩
  | .hbm, ⟨35, _⟩ => ⟨S1024x1792, .f32⟩
  | .hbm, ⟨36, _⟩ => ⟨S1024x1792, .f32⟩
  | _, _ => ⟨S1024x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel26Ideal.lean ====
variable {F : FTy → Type} [FloatOps F] [Named F]
def κ : String → Option EReal := fun
  | "corr1" => some ((8388608 / 5463681 : ℝ) : EReal)
  | "corr2" => some ((268435456 / 2672307 : ℝ) : EReal)
  | _ => none
-- ==== Reference26Ideal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel27Ideal.lean ====
variable {F : FTy → Type} [FloatOps F] [Named F]
def κ : String → Option EReal := fun
  | "corr1" => some ((8388608 / 5463681 : ℝ) : EReal)
  | "corr2" => some ((268435456 / 2672307 : ℝ) : EReal)
  | _ => none
-- ==== Reference27Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel28Ideal.lean ====
variable {F : FTy → Type} [FloatOps F] [Named F]
def κ : String → Option EReal := fun
  | "corr1" => some ((8388608 / 5463681 : ℝ) : EReal)
  | "corr2" => some ((268435456 / 2672307 : ℝ) : EReal)
  | _ => none
-- ==== Reference28Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S8x2560x128 : Shape := ⟨3, ![8, 2560, 128]⟩
abbrev S2560x128 : Shape := ⟨2, ![2560, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x2560x128, .f32⟩
  | .hbm, ⟨1, _⟩ => ⟨S2560x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | _, _ => ⟨S8x2560x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference30Ideal.lean ====
abbrev S8x2560x128 : Shape := ⟨3, ![8, 2560, 128]⟩
abbrev S_ : Shape := ⟨0, ![]⟩
abbrev S2560x128 : Shape := ⟨2, ![2560, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2560x128, .f32⟩
  | .hbm, ⟨1, _⟩ => ⟨S_, .f32⟩
  | .hbm, ⟨2, _⟩ => ⟨S2560x128, .f32⟩
  | _, _ => ⟨S8x2560x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel23.lean ====
abbrev S8256x5632 : Shape := ⟨2, ![8256, 5632]⟩
abbrev S3x5632 : Shape := ⟨2, ![3, 5632]⟩
abbrev S1x5632 : Shape := ⟨2, ![1, 5632]⟩
abbrev S8256x2816 : Shape := ⟨2, ![8256, 2816]⟩
abbrev S2064x256 : Shape := ⟨2, ![2064, 256]⟩
abbrev S3x256 : Shape := ⟨2, ![3, 256]⟩
abbrev S1x256 : Shape := ⟨2, ![1, 256]⟩
abbrev S16x256 : Shape := ⟨2, ![16, 256]⟩

abbrev nBuf : Space → Nat
  | .hbm => 4
  | .vmem => 14
  | .smem => 0
  | _ => 0

abbrev bufTy : (tb : Table) → Fin (tcTables nBuf tb) → BufTy
  | .hbm, ⟨0, _⟩ => ⟨S8256x5632, .f32⟩
  | .hbm, ⟨1, _⟩ => ⟨S3x5632, .f32⟩
  | .hbm, ⟨2, _⟩ => ⟨S1x5632, .f32⟩
  | .hbm, ⟨3, _⟩ => ⟨S8256x2816, .bf16⟩
  | .local _ .vmem, ⟨0, _⟩ => ⟨S2064x256, .f32⟩
  | .local _ .vmem, ⟨1, _⟩ => ⟨S2064x256, .f32⟩
  | .local _ .vmem, ⟨2, _⟩ => ⟨S2064x256, .f32⟩
  | .local _ .vmem, ⟨3, _⟩ => ⟨S2064x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2064x256, .bf16⟩
  | .local _ .vmem, ⟨13, _⟩ => ⟨S2064x256, .bf16⟩
  | _, _ => ⟨S8256x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2064x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2064x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2064x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference23Ideal.lean ====
abbrev S8256x5632 : Shape := ⟨2, ![8256, 5632]⟩
abbrev S3x5632 : Shape := ⟨2, ![3, 5632]⟩
abbrev S1x5632 : Shape := ⟨2, ![1, 5632]⟩
abbrev S4x2064x5632 : Shape := ⟨3, ![4, 2064, 5632]⟩
abbrev S5632 : Shape := ⟨1, ![5632]⟩
abbrev S4x2x5632 : Shape := ⟨3, ![4, 2, 5632]⟩
abbrev S_ : Shape := ⟨0, ![]⟩
abbrev S4x2066x5632 : Shape := ⟨3, ![4, 2066, 5632]⟩
abbrev S1x1x5632 : Shape := ⟨3, ![1, 1, 5632]⟩
abbrev S4x2064x2816 : Shape := ⟨3, ![4, 2064, 2816]⟩
abbrev S8256x2816 : Shape := ⟨2, ![8256, 2816]⟩

abbrev nBuf : Space → Nat
  | .hbm => 46
  | .vmem => 0
  | .smem => 0
  | _ => 0

abbrev bufTy : (tb : Table) → Fin (tcTables nBuf tb) → BufTy
  | .hbm, ⟨0, _⟩ => ⟨S8256x5632, .f32⟩
  | .hbm, ⟨1, _⟩ => ⟨S3x5632, .f32⟩
  | .hbm, ⟨2, _⟩ => ⟨S1x5632, .f32⟩
  | .hbm, ⟨3, _⟩ => ⟨S4x2064x5632, .f32⟩
  | .hbm, ⟨4, _⟩ => ⟨S5632, .f32⟩
  | .hbm, ⟨5, _⟩ => ⟨S4x2x5632, .f32⟩
  | .hbm, ⟨6, _⟩ => ⟨S_, .f32⟩
  | .hbm, ⟨7, _⟩ => ⟨S4x2x5632, .f32⟩
  | .hbm, ⟨8, _⟩ => ⟨S4x2066x5632, .f32⟩
  | .hbm, ⟨9, _⟩ => ⟨S4x2064x5632, .f32⟩
  | .hbm, ⟨10, _⟩ => ⟨S1x5632, .f32⟩
  | .hbm, ⟨11, _⟩ => ⟨S5632, .f32⟩
  | .hbm, ⟨12, _⟩ => ⟨S1x1x5632, .f32⟩
  | .hbm, ⟨13, _⟩ => ⟨S4x2064x5632, .f32⟩
  | .hbm, ⟨14, _⟩ => ⟨S4x2064x5632, .f32⟩
  | .hbm, ⟨15, _⟩ => ⟨S1x1x5632, .f32⟩
  | .hbm, ⟨16, _⟩ => ⟨S4x2064x5632, .f32⟩
  | .hbm, ⟨17, _⟩ => ⟨S4x2064x5632, .f32⟩
  | .hbm, ⟨18, _⟩ => ⟨S4x2064x5632, .f32⟩
  | .hbm, ⟨19, _⟩ => ⟨S1x5632, .f32⟩
  | .hbm, ⟨20, _⟩ => ⟨S5632, .f32⟩
  | .hbm, ⟨21, _⟩ => ⟨S1x1x5632, .f32⟩
  | .hbm, ⟨22, _⟩ => ⟨S4x2064x5632, .f32⟩
  | .hbm, ⟨23, _⟩ => ⟨S4x2064x5632, .f32⟩
  | .hbm, ⟨24, _⟩ => ⟨S4x2064x5632, .f32⟩
  | .hbm, ⟨25, _⟩ => ⟨S4x2064x5632, .f32⟩
  | .hbm, ⟨26, _⟩ => ⟨S1x5632, .f32⟩
  | .hbm, ⟨27, _⟩ => ⟨S5632, .f32⟩
  | .hbm, ⟨28, _⟩ => ⟨S1x1x5632, .f32⟩
  | .hbm, ⟨29, _⟩ => ⟨S4x2064x5632, .f32⟩
  | .hbm, ⟨30, _⟩ => ⟨S4x2064x5632, .f32⟩
  | .hbm, ⟨31, _⟩ => ⟨S4x2064x5632, .f32⟩
  | .hbm, ⟨32, _⟩ => ⟨S4x2064x2816, .f32⟩
  | .hbm, ⟨33, _⟩ => ⟨S4x2064x2816, .f32⟩
  | .hbm, ⟨34, _⟩ => ⟨S4x2064x2816, .f32⟩
  | .hbm, ⟨35, _⟩ => ⟨S_, .f32⟩
  | .hbm, ⟨36, _⟩ => ⟨S4x2064x2816, .f32⟩
  | .hbm, ⟨37, _⟩ => ⟨S4x2064x2816, .f32⟩
  | .hbm, ⟨38, _⟩ => ⟨S_, .f32⟩
  | .hbm, ⟨39, _⟩ => ⟨S4x2064x2816, .f32⟩
  | .hbm, ⟨40, _⟩ => ⟨S4x2064x2816, .f32⟩
  | .hbm, ⟨41, _⟩ => ⟨S4x2064x2816, .f32⟩
  | .hbm, ⟨42, _⟩ => ⟨S4x2064x2816, .f32⟩
  | .hbm, ⟨43, _⟩ => ⟨S4x2064x2816, .f32⟩
  | .hbm, ⟨44, _⟩ => ⟨S8256x2816, .f32⟩
  | .hbm, ⟨45, _⟩ => ⟨S8256x2816, .bf16⟩
  | _, _ => ⟨S8256x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel31.lean ====
abbrev S2 : Shape := ⟨1, ![2]⟩
abbrev S4x512x1792 : Shape := ⟨3, ![4, 512, 1792]⟩
abbrev S1024x1792 : Shape := ⟨2, ![1024, 1792]⟩
abbrev S1x512x1792 : Shape := ⟨3, ![1, 512, 1792]⟩
abbrev S1 : Shape := ⟨1, ![1]⟩
abbrev S512x1792 : Shape := ⟨2, ![512, 1792]⟩

abbrev nBuf : Space → Nat
  | .hbm => 3
  | .vmem => 5
  | .smem => 1
  | _ => 0

abbrev bufTy : (tb : Table) → Fin (tcTables nBuf tb) → BufTy
  | .hbm, ⟨0, _⟩ => ⟨S4x512x1792, .bf16⟩
  | .hbm, ⟨1, _⟩ => ⟨S4x512x1792, .bf16⟩
  | .hbm, ⟨2, _⟩ => ⟨S1024x1792, .f32⟩
  | .local _ .vmem, ⟨0, _⟩ => ⟨S1x512x1792, .bf16⟩
  | .local _ .vmem, ⟨1, _⟩ => ⟨S1x512x1792, .bf16⟩
  | .local _ .vmem, ⟨2, _⟩ => ⟨S1x512x1792, .bf16⟩
  | .local _ .vmem, ⟨3, _⟩ => ⟨S1x512x1792, .bf16⟩
  | .local _ .vmem, ⟨4, _⟩ => ⟨S512x1792, .f32⟩
  | .local _ .smem, ⟨0, _⟩ => ⟨S2, .i32⟩
  | _, _ => ⟨S4x512x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_2 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_3 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_4 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

abbrev stage0_0 : Fin 1 → Memref sig .tc .vmem S1x512x1792 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference31Ideal.lean ====
abbrev S2 : Shape := ⟨1, ![2]⟩
abbrev S4x512x1792 : Shape := ⟨3, ![4, 512, 1792]⟩
abbrev S1 : Shape := ⟨1, ![1]⟩
abbrev S_ : Shape := ⟨0, ![]⟩
abbrev S512x1792 : Shape := ⟨2, ![512, 1792]⟩
abbrev S1024x1792 : Shape := ⟨2, ![1024, 1792]⟩

abbrev nBuf : Space → Nat
  | .hbm => 13
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x512x1792, .bf16⟩
  | .hbm, ⟨2, _⟩ => ⟨S4x512x1792, .bf16⟩
  | .hbm, ⟨3, _⟩ => ⟨S4x512x1792, .i32⟩
  | .hbm, ⟨4, _⟩ => ⟨S1, .i32⟩
  | .hbm, ⟨5, _⟩ => ⟨S_, .i32⟩
  | .hbm, ⟨6, _⟩ => ⟨S4x512x1792, .i32⟩
  | .hbm, ⟨7, _⟩ => ⟨S4x512x1792, .i1⟩
  | .hbm, ⟨8, _⟩ => ⟨S4x512x1792, .bf16⟩
  | .hbm, ⟨9, _⟩ => ⟨S4x512x1792, .f32⟩
  | .hbm, ⟨10, _⟩ => ⟨S_, .f32⟩
  | .hbm, ⟨11, _⟩ => ⟨S512x1792, .f32⟩
  | .hbm, ⟨12, _⟩ => ⟨S1024x1792, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel32.lean ====
abbrev S2 : Shape := ⟨1, ![2]⟩
abbrev S4x512x1408 : Shape := ⟨3, ![4, 512, 1408]⟩
abbrev S1024x1408 : Shape := ⟨2, ![1024, 1408]⟩
abbrev S1x512x1408 : Shape := ⟨3, ![1, 512, 1408]⟩
abbrev S1 : Shape := ⟨1, ![1]⟩
abbrev S512x1408 : Shape := ⟨2, ![512, 1408]⟩

abbrev nBuf : Space → Nat
  | .hbm => 3
  | .vmem => 5
  | .smem => 1
  | _ => 0

abbrev bufTy : (tb : Table) → Fin (tcTables nBuf tb) → BufTy
  | .hbm, ⟨0, _⟩ => ⟨S4x512x1408, .bf16⟩
  | .hbm, ⟨1, _⟩ => ⟨S4x512x1408, .bf16⟩
  | .hbm, ⟨2, _⟩ => ⟨S1024x1408, .f32⟩
  | .local _ .vmem, ⟨0, _⟩ => ⟨S1x512x1408, .bf16⟩
  | .local _ .vmem, ⟨1, _⟩ => ⟨S1x512x1408, .bf16⟩
  | .local _ .vmem, ⟨2, _⟩ => ⟨S1x512x1408, .bf16⟩
  | .local _ .vmem, ⟨3, _⟩ => ⟨S1x512x1408, .bf16⟩
  | .local _ .vmem, ⟨4, _⟩ => ⟨S512x1408, .f32⟩
  | .local _ .smem, ⟨0, _⟩ => ⟨S2, .i32⟩
  | _, _ => ⟨S4x512x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_2 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_3 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_4 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

abbrev stage0_0 : Fin 1 → Memref sig .tc .vmem S1x512x1408 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference32Ideal.lean ====
abbrev S2 : Shape := ⟨1, ![2]⟩
abbrev S4x512x1408 : Shape := ⟨3, ![4, 512, 1408]⟩
abbrev S1 : Shape := ⟨1, ![1]⟩
abbrev S_ : Shape := ⟨0, ![]⟩
abbrev S512x1408 : Shape := ⟨2, ![512, 1408]⟩
abbrev S1024x1408 : Shape := ⟨2, ![1024, 1408]⟩

abbrev nBuf : Space → Nat
  | .hbm => 13
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x512x1408, .bf16⟩
  | .hbm, ⟨2, _⟩ => ⟨S4x512x1408, .bf16⟩
  | .hbm, ⟨3, _⟩ => ⟨S4x512x1408, .i32⟩
  | .hbm, ⟨4, _⟩ => ⟨S1, .i32⟩
  | .hbm, ⟨5, _⟩ => ⟨S_, .i32⟩
  | .hbm, ⟨6, _⟩ => ⟨S4x512x1408, .i32⟩
  | .hbm, ⟨7, _⟩ => ⟨S4x512x1408, .i1⟩
  | .hbm, ⟨8, _⟩ => ⟨S4x512x1408, .bf16⟩
  | .hbm, ⟨9, _⟩ => ⟨S4x512x1408, .f32⟩
  | .hbm, ⟨10, _⟩ => ⟨S_, .f32⟩
  | .hbm, ⟨11, _⟩ => ⟨S512x1408, .f32⟩
  | .hbm, ⟨12, _⟩ => ⟨S1024x1408, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel33.lean ====
abbrev S2 : Shape := ⟨1, ![2]⟩
abbrev S4x352x1024 : Shape := ⟨3, ![4, 352, 1024]⟩
abbrev S704x1024 : Shape := ⟨2, ![704, 1024]⟩
abbrev S1x352x1024 : Shape := ⟨3, ![1, 352, 1024]⟩
abbrev S1 : Shape := ⟨1, ![1]⟩
abbrev S352x1024 : Shape := ⟨2, ![352, 1024]⟩

abbrev nBuf : Space → Nat
  | .hbm => 3
  | .vmem => 5
  | .smem => 1
  | _ => 0

abbrev bufTy : (tb : Table) → Fin (tcTables nBuf tb) → BufTy
  | .hbm, ⟨0, _⟩ => ⟨S4x352x1024, .bf16⟩
  | .hbm, ⟨1, _⟩ => ⟨S4x352x1024, .bf16⟩
  | .hbm, ⟨2, _⟩ => ⟨S704x1024, .f32⟩
  | .local _ .vmem, ⟨0, _⟩ => ⟨S1x352x1024, .bf16⟩
  | .local _ .vmem, ⟨1, _⟩ => ⟨S1x352x1024, .bf16⟩
  | .local _ .vmem, ⟨2, _⟩ => ⟨S1x352x1024, .bf16⟩
  | .local _ .vmem, ⟨3, _⟩ => ⟨S1x352x1024, .bf16⟩
  | .local _ .vmem, ⟨4, _⟩ => ⟨S352x1024, .f32⟩
  | .local _ .smem, ⟨0, _⟩ => ⟨S2, .i32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_2 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_3 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_4 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

abbrev stage0_0 : Fin 1 → Memref sig .tc .vmem S1x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference33Ideal.lean ====
abbrev S2 : Shape := ⟨1, ![2]⟩
abbrev S4x352x1024 : Shape := ⟨3, ![4, 352, 1024]⟩
abbrev S1 : Shape := ⟨1, ![1]⟩
abbrev S_ : Shape := ⟨0, ![]⟩
abbrev S352x1024 : Shape := ⟨2, ![352, 1024]⟩
abbrev S704x1024 : Shape := ⟨2, ![704, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x352x1024, .bf16⟩
  | .hbm, ⟨2, _⟩ => ⟨S4x352x1024, .bf16⟩
  | .hbm, ⟨3, _⟩ => ⟨S4x352x1024, .i32⟩
  | .hbm, ⟨4, _⟩ => ⟨S1, .i32⟩
  | .hbm, ⟨5, _⟩ => ⟨S_, .i32⟩
  | .hbm, ⟨6, _⟩ => ⟨S4x352x1024, .i32⟩
  | .hbm, ⟨7, _⟩ => ⟨S4x352x1024, .i1⟩
  | .hbm, ⟨8, _⟩ => ⟨S4x352x1024, .bf16⟩
  | .hbm, ⟨9, _⟩ => ⟨S4x352x1024, .f32⟩
  | .hbm, ⟨10, _⟩ => ⟨S_, .f32⟩
  | .hbm, ⟨11, _⟩ => ⟨S352x1024, .f32⟩
  | .hbm, ⟨12, _⟩ => ⟨S704x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel34.lean ====
abbrev S2 : Shape := ⟨1, ![2]⟩
abbrev S4x128x1024 : Shape := ⟨3, ![4, 128, 1024]⟩
abbrev S256x1024 : Shape := ⟨2, ![256, 1024]⟩
abbrev S1x128x1024 : Shape := ⟨3, ![1, 128, 1024]⟩
abbrev S1 : Shape := ⟨1, ![1]⟩
abbrev S128x1024 : Shape := ⟨2, ![128, 1024]⟩

abbrev nBuf : Space → Nat
  | .hbm => 3
  | .vmem => 5
  | .smem => 1
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S256x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S128x1024, .f32⟩
  | .local _ .smem, ⟨0, _⟩ => ⟨S2, .i32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_2 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_3 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_4 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference34Ideal.lean ====
abbrev S2 : Shape := ⟨1, ![2]⟩
abbrev S4x128x1024 : Shape := ⟨3, ![4, 128, 1024]⟩
abbrev S1 : Shape := ⟨1, ![1]⟩
abbrev S_ : Shape := ⟨0, ![]⟩
abbrev S128x1024 : Shape := ⟨2, ![128, 1024]⟩
abbrev S256x1024 : Shape := ⟨2, ![256, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x128x1024, .bf16⟩
  | .hbm, ⟨2, _⟩ => ⟨S4x128x1024, .bf16⟩
  | .hbm, ⟨3, _⟩ => ⟨S4x128x1024, .i32⟩
  | .hbm, ⟨4, _⟩ => ⟨S1, .i32⟩
  | .hbm, ⟨5, _⟩ => ⟨S_, .i32⟩
  | .hbm, ⟨6, _⟩ => ⟨S4x128x1024, .i32⟩
  | .hbm, ⟨7, _⟩ => ⟨S4x128x1024, .i1⟩
  | .hbm, ⟨8, _⟩ => ⟨S4x128x1024, .bf16⟩
  | .hbm, ⟨9, _⟩ => ⟨S4x128x1024, .f32⟩
  | .hbm, ⟨10, _⟩ => ⟨S_, .f32⟩
  | .hbm, ⟨11, _⟩ => ⟨S128x1024, .f32⟩
  | .hbm, ⟨12, _⟩ => ⟨S256x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Merge.lean ====
module

public import proofs.«01_k».proof.Proof.Gen.KernelIdeal.Value
public import proofs.«01_k».proof.Proof.Gen.ReferenceIdeal.Read
public import Idealize.ShloMosaic.Lib.Pointwise

@[expose] public section

noncomputable section

namespace Cert.KernelIdeal.Merge

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

theorem hz2 : (![0, 0] : Fin 2 → Nat) = fun _ => 0 := funext fun a => by fin_cases a <;> rfl

/-- The arguments as the call finds them. -/
abbrev dh1 (c : Dev nD) : S8256x1024.Idx → EReal := m ((c : Thread nD τ).loc main_arg0)
abbrev wOut (c : Dev nD) : S1024x1024.Idx → EReal := m ((c : Thread nD τ).loc main_arg1)
abbrev p (c : Dev nD) : S8256x7168.Idx → EReal := m ((c : Thread nD τ).loc main_arg2)
abbrev pa (c : Dev nD) : S8256x1024.Idx → EReal := m ((c : Thread nD τ).loc main_arg3)
abbrev pb (c : Dev nD) : S8256x1024.Idx → EReal := m ((c : Thread nD τ).loc main_arg4)

theorem N24 : cfg0.N = 24 := N_0

/-- Row `r` of row block `t`. -/
def row (t : Fin cfg0.N) (r : Fin 344) : Fin 8256 :=
  ⟨344 * t.val + r.val, by have := t.isLt; have := N24; have := r.isLt; omega⟩

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 4 :=
  (by decide +kernel : ∀ t : Fin grid0.N, win0_2.index t 0 = t.val ∧ win0_2.index t 1 = 4)
theorem index3 : ∀ t : Fin cfg0.N, win0_3.index t 0 = t.val ∧ win0_3.index t 1 = 5 :=
  (by decide +kernel : ∀ t : Fin grid0.N, win0_3.index t 0 = t.val ∧ win0_3.index t 1 = 5)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)

theorem blk0 (c : Dev nD) (t : Fin cfg0.N) (r : Fin 344) (k : Fin 1024) :
    (iblk m c 0 t : Vec Ideal S344x1024 .f32) (ix2 r k) = dh1 m c (ix2 (row t r) k) := by
  unfold iblk
  rw [View.read_apply]
  refine congrArg (dh1 m c) (funext fun a => Fin.ext ?_)
  match a with
  | ⟨0, _⟩ => show win0_0.index t 0 * 344 + 1 * r.val = 344 * t.val + r.val; rw [(index0 t).1]; omega
  | ⟨1, _⟩ => show win0_0.index t 1 * 1024 + 1 * k.val = k.val; rw [(index0 t).2]; omega

theorem blk1 (c : Dev nD) (t : Fin cfg0.N) (r : Fin 1024) (k : Fin 1024) :
    (iblk m c 1 t : Vec Ideal S1024x1024 .bf16) (ix2 r k) = wOut m c (ix2 r k) := by
  unfold iblk
  rw [View.read_apply]
  refine congrArg (wOut m c) (funext fun a => Fin.ext ?_)
  match a with
  | ⟨0, _⟩ => show win0_1.index t 0 * 1024 + 1 * r.val = r.val; rw [(index1 t).1]; omega
  | ⟨1, _⟩ => show win0_1.index t 1 * 1024 + 1 * k.val = k.val; rw [(index1 t).2]; omega

theorem blk2 (c : Dev nD) (t : Fin cfg0.N) (r : Fin 344) (k : Fin 1024) :
    (iblk m c 2 t : Vec Ideal S344x1024 .f32) (ix2 r k) = p m c (ix2 (row t r) ⟨4096 + k.val, by have := k.isLt; omega⟩) := by
  unfold iblk
  rw [View.read_apply]
  refine congrArg (p m c) (funext fun a => Fin.ext ?_)
  match a with
  | ⟨0, _⟩ => show win0_2.index t 0 * 344 + 1 * r.val = 344 * t.val + r.val; rw [(index2 t).1]; omega
  | ⟨1, _⟩ => show win0_2.index t 1 * 1024 + 1 * k.val = 4096 + k.val; rw [(index2 t).2]; omega

theorem index7 : ∀ t : Fin cfg0.N, win0_7.index t 0 = t.val ∧ win0_7.index t 1 = 0 :=
  (by decide +kernel : ∀ t : Fin grid0.N, win0_7.index t 0 = t.val ∧ win0_7.index t 1 = 0)
theorem index8 : ∀ t : Fin cfg0.N, win0_8.index t 0 = 2 ∧ win0_8.index t 1 = t.val ∧ win0_8.index t 2 = 0 :=
  (by decide +kernel : ∀ t : Fin grid0.N, win0_8.index t 0 = 2 ∧ win0_8.index t 1 = t.val ∧ win0_8.index t 2 = 0)

theorem blk3 (c : Dev nD) (t : Fin cfg0.N) (r : Fin 344) (k : Fin 1024) :
    (iblk m c 3 t : Vec Ideal S344x1024 .f32) (ix2 r k) = p m c (ix2 (row t r) ⟨5120 + k.val, by have := k.isLt; omega⟩) := by
  unfold iblk
  rw [View.read_apply]
  refine congrArg (p m c) (funext fun a => Fin.ext ?_)
  match a with
  | ⟨0, _⟩ => show win0_3.index t 0 * 344 + 1 * r.val = 344 * t.val + r.val; rw [(index3 t).1]; omega
  | ⟨1, _⟩ => show win0_3.index t 1 * 1024 + 1 * k.val = 5120 + k.val; rw [(index3 t).2]; omega

theorem blk4 (c : Dev nD) (t : Fin cfg0.N) (r : Fin 344) (k : Fin 1024) :
    (iblk m c 4 t : Vec Ideal S344x1024 .f32) (ix2 r k) = pa m c (ix2 (row t r) k) := by
  unfold iblk
  rw [View.read_apply]
  refine congrArg (pa m c) (funext fun a => Fin.ext ?_)
  match a with
  | ⟨0, _⟩ => show win0_4.index t 0 * 344 + 1 * r.val = 344 * t.val + r.val; rw [(index4 t).1]; omega
  | ⟨1, _⟩ => show win0_4.index t 1 * 1024 + 1 * k.val = k.val; rw [(index4 t).2]; omega

theorem blk5 (c : Dev nD) (t : Fin cfg0.N) (r : Fin 344) (k : Fin 1024) :
    (iblk m c 5 t : Vec Ideal S344x1024 .f32) (ix2 r k) = pb m c (ix2 (row t r) k) := by
  unfold iblk
  rw [View.read_apply]
  refine congrArg (pb m c) (funext fun a => Fin.ext ?_)
  match a with
  | ⟨0, _⟩ => show win0_5.index t 0 * 344 + 1 * r.val = 344 * t.val + r.val; rw [(index5 t).1]; omega
  | ⟨1, _⟩ => show win0_5.index t 1 * 1024 + 1 * k.val = k.val; rw [(index5 t).2]; omega

/-! ## What the call's results are, element by element -/

/-- The logistic function on the extended reals, as both programs compute it. -/
abbrev logis (x : EReal) : EReal := Ideal.div 1 (1 + Ideal.exp (-x))

/-- `dh1 · w_outᵀ` at a row and a column: the gradient of the merged value. -/
def dMerged (c : Dev nD) (r : Fin 8256) (k : Fin 1024) : EReal := ∑ x : Fin 1024, dh1 m c (ix2 r x) * wOut m c (ix2 k x)

/-- The two gate segments of the projected activations. -/
def ga (c : Dev nD) (r : Fin 8256) (k : Fin 1024) : EReal := p m c (ix2 r ⟨4096 + k.val, by have := k.isLt; omega⟩)
def gb (c : Dev nD) (r : Fin 8256) (k : Fin 1024) : EReal := p m c (ix2 r ⟨5120 + k.val, by have := k.isLt; omega⟩)

/-- First result: the gradient of `pa`. -/
def G6 (c : Dev nD) : S8256x1024.Idx → EReal := fun i => dMerged m c (i 0) (i 1) * logis (ga m c (i 0) (i 1))
/-- Second result: the gradient of `pb`. -/
def G7 (c : Dev nD) : S8256x1024.Idx → EReal := fun i => dMerged m c (i 0) (i 1) * logis (gb m c (i 0) (i 1))
/-- The gradients of the two gates. -/
def dga (c : Dev nD) (r : Fin 8256) (k : Fin 1024) : EReal :=
  dMerged m c r k * pa m c (ix2 r k) * logis (ga m c r k) * (1 - logis (ga m c r k))
def dgb (c : Dev nD) (r : Fin 8256) (k : Fin 1024) : EReal :=
  dMerged m c r k * pb m c (ix2 r k) * logis (gb m c r k) * (1 - logis (gb m c r k))
/-- Third result, on the segments the call writes: segment 4 the gradient of the first gate, segment 5 of the second. -/
def G8 (c : Dev nD) : S7x8256x1024.Idx → EReal := fun i => if (i 0).val = 4 then dga m c (i 1) (i 2) else dgb m c (i 1) (i 2)

/-! ## What one grid point writes back -/

theorem flushed6_eq (c : Dev nD) (t : Fin cfg0.N) :
    (dats m 0 c).flushed 6 t = ((cfg0.win 6).blk t).view.read (Elt Ideal) (G6 m c) := by
  rw [Value.flushed6]
  funext j
  obtain ⟨r, k, rfl⟩ : ∃ (r : Fin 344) (k : Fin 1024), j = ix2 r k := ⟨j 0, j 1, eq_ix2 j⟩
  rw [View.read_apply]
  have he : ((cfg0.win 6).blk t).view.emb (ix2 r k) = (ix2 (row t r) k : S8256x1024.Idx) := funext fun a => Fin.ext (by
    match a with
    | ⟨0, _⟩ => show win0_6.index t 0 * 344 + 1 * r.val = 344 * t.val + r.val; rw [(index6 t).1]; omega
    | ⟨1, _⟩ => show win0_6.index t 1 * 1024 + 1 * k.val = k.val; rw [(index6 t).2]; omega)
  rw [he]
  show out0_6 (iblk m c 0 t) (iblk m c 1 t) (iblk m c 2 t) (iblk m c 3 t) (iblk m c 4 t) (iblk m c 5 t) (ix2 r k) = G6 m c (ix2 (row t r) k)
  unfold out0_6
  rw [View.canon_unit_zero hz2]
  simp only [View.ld_unit_zero (S := S344x1024) hz2, View.ld_unit_zero (S := S1024x1024) hz2]
  unfold_payloads
  pointwise [blk0, blk1, blk2, G6, logis, dMerged, ga, zero_sub]

theorem flushed7_eq (c : Dev nD) (t : Fin cfg0.N) :
    (dats m 0 c).flushed 7 t = ((cfg0.win 7).blk t).view.read (Elt Ideal) (G7 m c) := by
  rw [Value.flushed7]
  funext j
  obtain ⟨r, k, rfl⟩ : ∃ (r : Fin 344) (k : Fin 1024), j = ix2 r k := ⟨j 0, j 1, eq_ix2 j⟩
  rw [View.read_apply]
  have he : ((cfg0.win 7).blk t).view.emb (ix2 r k) = (ix2 (row t r) k : S8256x1024.Idx) := funext fun a => Fin.ext (by
    match a with
    | ⟨0, _⟩ => show win0_7.index t 0 * 344 + 1 * r.val = 344 * t.val + r.val; rw [(index7 t).1]; omega
    | ⟨1, _⟩ => show win0_7.index t 1 * 1024 + 1 * k.val = k.val; rw [(index7 t).2]; omega)
  rw [he]
  show out0_7 (iblk m c 0 t) (iblk m c 1 t) (iblk m c 2 t) (iblk m c 3 t) (iblk m c 4 t) (iblk m c 5 t) (ix2 r k) = G7 m c (ix2 (row t r) k)
  unfold out0_7
  rw [View.canon_unit_zero hz2]
  simp only [View.ld_unit_zero (S := S344x1024) hz2, View.ld_unit_zero (S := S1024x1024) hz2]
  unfold_payloads
  pointwise [blk0, blk1, blk3, G7, logis, dMerged, gb, zero_sub]

theorem out8_eq (c : Dev nD) (t : Fin cfg0.N) (s : Fin 2) (r : Fin 344) (k : Fin 1024) :
    out0_8 (iblk m c 0 t) (iblk m c 1 t) (iblk m c 2 t) (iblk m c 3 t) (iblk m c 4 t) (iblk m c 5 t) (ix3 s r k)
      = G8 m c (ix3 ⟨4 + s.val, by have := s.isLt; omega⟩ (row t r) k) := by
  unfold out0_8
  simp only [View.ld_unit_zero (S := S344x1024) hz2, View.ld_unit_zero (S := S1024x1024) hz2]
  match s with
  | ⟨0, _⟩ =>
    rw [View.canon_cons_of_not_mem _ _ (by
      rw [Rect.mem_set_unit]; intro h; have := (h 0).1; simp at this)]
    have hx : (ix3 ⟨0, by decide⟩ r k : S2x344x1024.Idx) = r0_2.emb (ix3 0 r k : S1x344x1024.Idx) := funext fun a => Fin.ext (by
      match a with
      | ⟨0, _⟩ => rfl
      | ⟨1, _⟩ => show r.val = 0 + 1 * r.val; omega
      | ⟨2, _⟩ => show k.val = 0 + 1 * k.val; omega)
    rw [hx, View.canon_cons_emb]
    unfold_payloads
    pointwise [blk0, blk1, blk2, blk4, G8, dga, logis, dMerged, ga, zero_sub]
  | ⟨1, _⟩ =>
    have hx : (ix3 ⟨1, by decide⟩ r k : S2x344x1024.Idx) = r0_3.emb (ix3 0 r k : S1x344x1024.Idx) := funext fun a => Fin.ext (by
      match a with
      | ⟨0, _⟩ => rfl
      | ⟨1, _⟩ => show r.val = 0 + 1 * r.val; omega
      | ⟨2, _⟩ => show k.val = 0 + 1 * k.val; omega)
    rw [hx, View.canon_cons_emb]
    unfold_payloads
    pointwise [blk0, blk1, blk3, blk5, G8, dgb, logis, dMerged, gb, zero_sub]

theorem flushed8_eq (c : Dev nD) (t : Fin cfg0.N) :
    (dats m 0 c).flushed 8 t = ((cfg0.win 8).blk t).view.read (Elt Ideal) (G8 m c) := by
  rw [Value.flushed8]
  refine funext fun j => ?_
  rw [View.read_apply]
  obtain ⟨s, r, k, hj⟩ : ∃ (s : Fin 2) (r : Fin 344) (k : Fin 1024), (cfg0.win 8).xinj (grid0.coords t) j = (ix3 s r k : S2x344x1024.Idx) :=
    ⟨_, _, _, eq_ix3 ((cfg0.win 8).xinj (grid0.coords t) j : S2x344x1024.Idx)⟩
  have hs : (j 0).val = s.val := congrArg (fun q : S2x344x1024.Idx => (q 0).val) hj
  have hr : (j 1).val = r.val := congrArg (fun q : S2x344x1024.Idx => (q 1).val) hj
  have hk : (j 2).val = k.val := congrArg (fun q : S2x344x1024.Idx => (q 2).val) hj
  have he : ((cfg0.win 8).blk t).view.emb j = (ix3 ⟨4 + s.val, by have := s.isLt; omega⟩ (row t r) k : S7x8256x1024.Idx) := funext fun a => Fin.ext (by
    match a with
    | ⟨0, _⟩ => show win0_8.index t 0 * 2 + 1 * (j 0).val = 4 + s.val; rw [(index8 t).1, hs]; omega
    | ⟨1, _⟩ => show win0_8.index t 1 * 344 + 1 * (j 1).val = 344 * t.val + r.val; rw [(index8 t).2.1, hr]; omega
    | ⟨2, _⟩ => show win0_8.index t 2 * 1024 + 1 * (j 2).val = k.val; rw [(index8 t).2.2, hk]; omega)
  rw [he]
  exact (congrArg (out0_8 (iblk m c 0 t) (iblk m c 1 t) (iblk m c 2 t) (iblk m c 3 t) (iblk m c 4 t) (iblk m c 5 t)) hj).trans (out8_eq m c t s r k)

/-! ## The result arrays after the run -/

/-- The row block that holds a row. -/
def blockOf (r : Fin 8256) : Fin cfg0.N := ⟨r.val / 344, by have := N24; have := r.isLt; omega⟩

theorem final6 (c : Dev nD) : (dats m 0 c).arrAt 6 cfg0.N = G6 m c :=
  (dats m 0 c).arrAt_eq_of_cover 6 (G6 m c) (fun t _ => flushed6_eq m c t) fun i =>
    ⟨blockOf (i 0), flush0_6 _, by
      show i ∈ ((View.whole main_v0_0).slice (win0_6.rect (blockOf (i 0)))).set
      rw [View.set_slice_whole, Rect.mem_set_unit]
      intro a
      have h0 : (i 0 : Nat) < 8256 := (i 0).isLt
      have h1 : (i 1 : Nat) < 1024 := (i 1).isLt
      have hb : (blockOf (i 0)).val = (i 0 : Nat) / 344 := rfl
      match a with
      | ⟨0, _⟩ =>
        show win0_6.index (blockOf (i 0)) 0 * 344 ≤ (i 0 : Nat) ∧ (i 0 : Nat) < win0_6.index (blockOf (i 0)) 0 * 344 + 344
        rw [(index6 _).1]; omega
      | ⟨1, _⟩ =>
        show win0_6.index (blockOf (i 0)) 1 * 1024 ≤ (i 1 : Nat) ∧ (i 1 : Nat) < win0_6.index (blockOf (i 0)) 1 * 1024 + 1024
        rw [(index6 _).2]; omega⟩

theorem final7 (c : Dev nD) : (dats m 0 c).arrAt 7 cfg0.N = G7 m c :=
  (dats m 0 c).arrAt_eq_of_cover 7 (G7 m c) (fun t _ => flushed7_eq m c t) fun i =>
    ⟨blockOf (i 0), flush0_7 _, by
      show i ∈ ((View.whole main_v0_1).slice (win0_7.rect (blockOf (i 0)))).set
      rw [View.set_slice_whole, Rect.mem_set_unit]
      intro a
      have h0 : (i 0 : Nat) < 8256 := (i 0).isLt
      have h1 : (i 1 : Nat) < 1024 := (i 1).isLt
      have hb : (blockOf (i 0)).val = (i 0 : Nat) / 344 := rfl
      match a with
      | ⟨0, _⟩ =>
        show win0_7.index (blockOf (i 0)) 0 * 344 ≤ (i 0 : Nat) ∧ (i 0 : Nat) < win0_7.index (blockOf (i 0)) 0 * 344 + 344
        rw [(index7 _).1]; omega
      | ⟨1, _⟩ =>
        show win0_7.index (blockOf (i 0)) 1 * 1024 ≤ (i 1 : Nat) ∧ (i 1 : Nat) < win0_7.index (blockOf (i 0)) 1 * 1024 + 1024
        rw [(index7 _).2]; omega⟩

/-- The third array where the call writes it: on segments 4 and 5. -/
theorem final8 (c : Dev nD) (i : S7x8256x1024.Idx) (hi : 4 ≤ (i 0).val ∧ (i 0).val ≤ 5) :
    (dats m 0 c).arrAt 8 cfg0.N i = G8 m c i := by
  have hmem : i ∈ ((cfg0.win 8).blk (blockOf (i 1))).view.set := by
    show i ∈ ((View.whole main_v0_2).slice (win0_8.rect (blockOf (i 1)))).set
    rw [View.set_slice_whole, Rect.mem_set_unit]
    intro a
    have h1 : (i 1 : Nat) < 8256 := (i 1).isLt
    have h2 : (i 2 : Nat) < 1024 := (i 2).isLt
    have hb : (blockOf (i 1)).val = (i 1 : Nat) / 344 := rfl
    have e0 := index8 (blockOf (i 1))
    have x0 : ∀ t : Fin cfg0.N, win0_8.xsize (grid0.coords t) 0 = 2 :=
      (by decide +kernel : ∀ t : Fin grid0.N, win0_8.xsize (grid0.coords t) 0 = 2)
    have x1 : ∀ t : Fin cfg0.N, win0_8.xsize (grid0.coords t) 1 = 344 :=
      (by decide +kernel : ∀ t : Fin grid0.N, win0_8.xsize (grid0.coords t) 1 = 344)
    have x2 : ∀ t : Fin cfg0.N, win0_8.xsize (grid0.coords t) 2 = 1024 :=
      (by decide +kernel : ∀ t : Fin grid0.N, win0_8.xsize (grid0.coords t) 2 = 1024)
    match a with
    | ⟨0, _⟩ =>
      show win0_8.index (blockOf (i 1)) 0 * 2 ≤ (i 0 : Nat) ∧ (i 0 : Nat) < win0_8.index (blockOf (i 1)) 0 * 2 + win0_8.xsize (grid0.coords (blockOf (i 1))) 0
      rw [e0.1, x0]; omega
    | ⟨1, _⟩ =>
      show win0_8.index (blockOf (i 1)) 1 * 344 ≤ (i 1 : Nat) ∧ (i 1 : Nat) < win0_8.index (blockOf (i 1)) 1 * 344 + win0_8.xsize (grid0.coords (blockOf (i 1))) 1
      rw [e0.2.1, x1]; omega
    | ⟨2, _⟩ =>
      show win0_8.index (blockOf (i 1)) 2 * 1024 ≤ (i 2 : Nat) ∧ (i 2 : Nat) < win0_8.index (blockOf (i 1)) 2 * 1024 + win0_8.xsize (grid0.coords (blockOf (i 1))) 2
      rw [e0.2.2, x2]; omega
  obtain ⟨j, -, hj⟩ := Finset.mem_map.mp hmem
  have e := congrFun ((Value.blocks8 m c (blockOf (i 1)) (flush0_8 _)).trans (flushed8_eq m c _)) j
  rw [View.read_apply, View.read_apply, hj] at e
  exact e

end Cert.KernelIdeal.Merge
-- ==== Proof.MergeRef.lean ====
module

public import proofs.«01_k».proof.Proof.Merge
public import proofs.«01_k».proof.Proof.Gen.ReferenceIdeal.Read
public import proofs.«01_k».proof.Proof.Gen.On_gate_segments

/-! The gated merge's reference, read at an index: it is the same function of the arguments as the kernel's results. -/

@[expose] public section

noncomputable section

namespace Cert.MergeRef

open Cert.KernelIdeal Cert.KernelIdeal.Gen Cert.KernelIdeal.Merge Cert.ReferenceIdeal.Read
open Idealize.ShloMosaic Idealize.ShloMosaic.TcCoe Idealize.SL.Sem

variable (m : (ℓ : Loc nD τ sig) → Buf (Elt Ideal) ℓ)

theorem ref6 (c : Dev nD) (i : S8256x1024.Idx) :
    val_main_v36 (F := Ideal) (dh1 m c) (wOut m c) (p m c) i = G6 m c i := by
  pointwise [val_main_v36, val_main_v29, val_main_v8, val_main_v25, val_main_v7, val_main_v6, val_main_v5, val_main_v4, val_main_v3, val_main_v2, val_main_v0,
    val_main_cst, val_main_cst_0, G6, dMerged, ga, logis]
  exact mul_comm _ _

theorem ref7 (c : Dev nD) (i : S8256x1024.Idx) :
    val_main_v37 (F := Ideal) (dh1 m c) (wOut m c) (p m c) i = G7 m c i := by
  pointwise [val_main_v37, val_main_v26, val_main_v18, val_main_v25, val_main_v17, val_main_v16, val_main_v15, val_main_v14, val_main_v13, val_main_v2, val_main_v1,
    val_main_cst_2, val_main_cst_3, G7, dMerged, gb, logis]
  exact mul_comm _ _

/-- The gate gradients, before they are laid into the segments. -/
theorem ref31 (c : Dev nD) (r : Fin 8256) (k : Fin 1024) :
    val_main_v31 (F := Ideal) (dh1 m c) (wOut m c) (p m c) (pa m c) (ix2 r k) = dga m c r k := by
  pointwise [val_main_v31, val_main_v30, val_main_v11, val_main_v10, val_main_v9, val_main_v8, val_main_v25, val_main_v7, val_main_v6, val_main_v5, val_main_v4,
    val_main_v3, val_main_v2, val_main_v0, val_main_cst, val_main_cst_0, val_main_cst_1, dga, dMerged, ga, logis]
  exact (mul_assoc _ _ _).symm

theorem ref28 (c : Dev nD) (r : Fin 8256) (k : Fin 1024) :
    val_main_v28 (F := Ideal) (dh1 m c) (wOut m c) (p m c) (pb m c) (ix2 r k) = dgb m c r k := by
  pointwise [val_main_v28, val_main_v27, val_main_v21, val_main_v20, val_main_v19, val_main_v18, val_main_v25, val_main_v17, val_main_v16, val_main_v15, val_main_v14,
    val_main_v13, val_main_v2, val_main_v1, val_main_cst_2, val_main_cst_3, val_main_cst_4, dgb, dMerged, gb, logis]
  exact (mul_assoc _ _ _).symm

theorem ref8 (c : Dev nD) (i : S7x8256x1024.Idx) (hi : 4 ≤ (i 0).val ∧ (i 0).val ≤ 5) :
    val_main_v38 (F := Ideal) (dh1 m c) (wOut m c) (p m c) (pa m c) (pb m c) i = G8 m c i := by
  obtain ⟨s, r, k, rfl⟩ : ∃ (s : Fin 7) (r : Fin 8256) (k : Fin 1024), i = ix3 s r k := ⟨i 0, i 1, i 2, eq_ix3 i⟩
  obtain rfl | rfl : s = 4 ∨ s = 5 := by
    have h4 : 4 ≤ s.val := hi.1
    have h5 : s.val ≤ 5 := hi.2
    rcases (show s.val = 4 ∨ s.val = 5 by omega) with h | h
    · exact .inl (Fin.ext h)
    · exact .inr (Fin.ext h)
  · pointwise [val_main_v38, val_main_v35, val_main_v34, val_main_v32, val_main_v33, G8, ref31, ref28]
  · pointwise [val_main_v38, val_main_v35, val_main_v34, val_main_v32, val_main_v33, G8, ref31, ref28]

/-- The mask of the third result selects segments 4 and 5. -/
theorem mask8 (x0 : FVec Ideal S8256x1024 .f32) (x1 : FVec Ideal S1024x1024 .bf16) (x2 : FVec Ideal S8256x7168 .f32) (x3 x4 : FVec Ideal S8256x1024 .f32)
    (i : S7x8256x1024.Idx) (hi : (Cert.On_gate_segments.fn (F := Ideal) x0 x1 x2 x3 x4).2.2 i = 1#1) : 4 ≤ (i 0).val ∧ (i 0).val ≤ 5 := by
  have key : ∀ s : Fin 7, IntOp.andi (IntOp.cmpi .sge (BitVec.ofNat 32 s.val) 4#32) (IntOp.cmpi .sle (BitVec.ofNat 32 s.val) 5#32) = 1#1 → 4 ≤ s.val ∧ s.val ≤ 5 := by
    decide
  exact key (i 0) hi

end Cert.MergeRef
-- ==== Proof.Glu.lean ====
module

public import proofs.«01_k».proof.Proof.Gen.Kernel2Ideal.Value
public import proofs.«01_k».proof.Proof.Gen.Reference2Ideal.Read
public import Idealize.ShloMosaic.Lib.Pipeline.ValueKit
public import Idealize.ShloMosaic.Lib.Pipeline.ReadBack
public import Idealize.ShloMosaic.Lib.Pointwise

/-! `d_ya`: a block of 688 rows is the gradient of `ya0 · sigmoid(gl)` there, its cotangent being `dpa @ w_ssm_projᵀ`; so are the arrays, and so is the reference. -/

@[expose] public section

set_option maxRecDepth 16384

noncomputable section

namespace Cert.Kernel2Ideal.Grad

open Cert.Kernel2Ideal Cert.Kernel2Ideal.Gen Cert.Reference2Ideal.Read
open Idealize.ShloMosaic Idealize.ShloMosaic.TcCoe Idealize.SL.Sem

variable (m : (ℓ : Loc nD τ sig) → Buf (Elt Ideal) ℓ)

abbrev dpa (c : Dev nD) : FVec Ideal S8256x1024 .bf16 := m ((c : Thread nD τ).loc main_arg0)
abbrev w (c : Dev nD) : FVec Ideal S1024x1024 .bf16 := m ((c : Thread nD τ).loc main_arg1)
abbrev ya0 (c : Dev nD) : FVec Ideal S8256x1024 .f32 := m ((c : Thread nD τ).loc main_arg2)
abbrev gl (c : Dev nD) : FVec Ideal S8256x1024 .f32 := m ((c : Thread nD τ).loc main_arg3)

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] :=
  (by decide +kernel : ∀ t : Fin grid0.N, _)

/-- The logistic function on the extended reals. -/
abbrev logis (x : EReal) : EReal := Ideal.div 1 (1 + Ideal.exp (-x))

/-- The cotangent of the gated product. -/
def dya (c : Dev nD) (r : Fin 8256) (k : Fin 1024) : EReal := ∑ x : Fin 1024, dpa m c (ix2 r x) * w m c (ix2 k x)

def G4 (c : Dev nD) : FVec Ideal S8256x1024 .bf16 := fun i => dya m c (i 0) (i 1) * ya0 m c (ix2 (i 0) (i 1)) * logis (gl m c (ix2 (i 0) (i 1))) * (1 - logis (gl m c (ix2 (i 0) (i 1))))

def G5 (c : Dev nD) : FVec Ideal S8256x1024 .f32 := fun i => dya m c (i 0) (i 1) * logis (gl m c (ix2 (i 0) (i 1)))

theorem final4 (c : Dev nD) : (dats m 0 c).arrAt 4 cfg0.N = G4 m c := by
  refine (dats m 0 c).arrAt_eq_of_covers 4 _ (by decide +kernel) fun t hf y => ?_
  blk_simp
  rw [after0_4]
  frame_out
  unfold_payloads
  pointwise [G4, G5, dya, logis, zero_sub]
  blk_point [iblk, V, idx t]

theorem final5 (c : Dev nD) : (dats m 0 c).arrAt 5 cfg0.N = G5 m c := by
  refine (dats m 0 c).arrAt_eq_of_covers 5 _ (by decide +kernel) fun t hf y => ?_
  blk_simp
  rw [after0_5]
  frame_out
  unfold_payloads
  pointwise [G4, G5, dya, logis, zero_sub]
  blk_point [iblk, V, idx t]

theorem ref4 (c : Dev nD) : val_main_v17 (F := Ideal) (dpa m c) (w m c) (ya0 m c) (gl m c) = G4 m c := by
  funext i
  pointwise [val_main_v17, val_main_v16, val_main_v14, val_main_v13, val_main_v12, val_main_v0, val_main_v9, val_main_v8, val_main_v7, val_main_cst_1, val_main_v6, val_main_v5, val_main_cst_0, val_main_v4, val_main_v3, val_main_cst, val_main_v2, val_main_v1, G4, G5, dya, logis, zero_sub]
  rw [← mul_assoc, mul_comm (ya0 m c _)]
theorem ref5 (c : Dev nD) : val_main_v15 (F := Ideal) (dpa m c) (w m c) (gl m c) = G5 m c := by
  funext i
  pointwise [val_main_v15, val_main_v13, val_main_v12, val_main_v0, val_main_v6, val_main_v5, val_main_cst_0, val_main_v4, val_main_v3, val_main_cst, val_main_v2, val_main_v1, G4, G5, dya, logis, zero_sub]

end Cert.Kernel2Ideal.Grad
-- ==== Proof.Norm.lean ====
module

public import Idealize.ShloMosaic.Lib.Pointwise
public import Idealize.ShloMosaic.Lib.IdealHost
public import Idealize.ShloMosaic.Lib.ReduceAll

/-! The RMSNorm of a row and its gradient on the extended reals: on finite rows the kernel's form of the gradient is the
form that differentiating the mean and the root by the chain rule gives. -/

@[expose] public section

noncomputable section

namespace Cert.Norm

open Idealize.ShloMosaic

/-- The extended real is a real number. -/
def Finite (x : EReal) : Prop := ∃ r : ℝ, x = (r : EReal)

theorem Finite.mul {x y : EReal} : Finite x → Finite y → Finite (x * y) := by
  rintro ⟨a, rfl⟩ ⟨b, rfl⟩
  exact ⟨a * b, (EReal.coe_mul a b).symm⟩

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem Finite.sum {ι : Type} (s : Finset ι) {f : ι → EReal} (h : ∀ i, Finite (f i)) : Finite (∑ i ∈ s, f i) := by
  choose g hg using h
  exact ⟨∑ i ∈ s, g i, by rw [coe_sum]; exact Finset.sum_congr rfl fun i _ => hg i⟩

theorem finite_of_abs {x : EReal} (h : max x (-x) < ⊤) : Finite x := by
  induction x with
  | bot => simp at h
  | top => simp at h
  | coe r => exact ⟨r, rfl⟩

theorem inf_eq : Ideal.ofBits .f32 0x7F800000#32 = ⊤ := by simp [Ideal.ofBits, Ideal.ieee]

/-- A printed `jnp.all(jnp.abs(x) < inf)` that is 1: every element is finite. -/
theorem all_finite {s t u : Shape} {axes : List (Fin s.rank)} [Subsingleton t.Idx] (x : FVec Ideal s .f32) (v : s.Idx → EReal)
    (hv : ∀ i, v i = ⊤) (init : u.Idx → BitVec 1) (h : s.ReducesTo axes t) (hu : 0 < u.numel) (j : t.Idx)
    (e : Host.reduce IntOp.andi (cmpf .olt (Host.absf x) (v : FVec Ideal s .f32)) init h hu j = 1#1) (i : s.Idx) : Finite (x i) := by
  have h1 : Ideal.cmp .olt (max (x i) (-(x i))) (v i) = 1#1 := Host.reduce_andi_all _ _ _ _ _ e i
  rw [hv i] at h1
  refine finite_of_abs (of_decide_eq_true ?_)
  revert h1
  simp only [Ideal.cmp]
  cases decide (max (x i) (-(x i)) < ⊤) <;> simp

/-- The mean's divisor. -/
abbrev dim : EReal := Ideal.ofBits .f32 0x44800000#32
/-- What is added to the mean of the squares. -/
abbrev eps : EReal := Ideal.ofBits .f32 0x358637BD#32
/-- The exponent of the root. -/
abbrev half : EReal := Ideal.ofBits .f32 0xBF000000#32

theorem dim_eq : dim = ((1024 : ℝ) : EReal) := by
  simp [dim, Ideal.ofBits, Ideal.ieee, -EReal.coe_mul]; norm_num

theorem half_eq : half = ((-(1 / 2) : ℝ) : EReal) := by
  simp [half, Ideal.ofBits, Ideal.ieee, -EReal.coe_mul]; norm_num

theorem eps_eq : ∃ e : ℝ, 0 < e ∧ eps = (e : EReal) :=
  ⟨(8796093 : ℝ) / 2 ^ 43, by norm_num, by simp [eps, Ideal.ofBits, Ideal.ieee, -EReal.coe_mul]; norm_num⟩

/-- The mean of the squares, and what is added to it. -/
def ms (v : Fin 1024 → EReal) : EReal := Ideal.div (∑ x : Fin 1024, v x * v x) dim + eps

/-- The RMSNorm's factor of a row. -/
def scale (v : Fin 1024 → EReal) : EReal := Ideal.rsqrt (ms v)

/-- The gradient as the kernel forms it, `g` being the cotangent times the gain. -/
def grad (d : EReal) (v g : Fin 1024 → EReal) (k : Fin 1024) : EReal :=
  d + scale v * (g k - v k * scale v * Ideal.div (∑ x : Fin 1024, g x * (v x * scale v)) dim)

/-- The cotangent of one square, by the chain rule. -/
def sq (v g : Fin 1024 → EReal) : EReal :=
  Ideal.div ((∑ x : Fin 1024, v x * g x) * (half * Ideal.div (scale v) (ms v))) dim

theorem real_grad (v g : Fin 1024 → ℝ) (u s : ℝ) (hu : s * s = u) (k : Fin 1024) :
    s * (g k - v k * s * ((∑ x : Fin 1024, g x * (v x * s)) * (1 / 1024)))
      = g k * s + v k * ((∑ x : Fin 1024, v x * g x) * (-(1 / 2) * (s * u)) * (1 / 1024))
        + (∑ x : Fin 1024, v x * g x) * (-(1 / 2) * (s * u)) * (1 / 1024) * v k := by
  have h : ∑ x : Fin 1024, g x * (v x * s) = (∑ x : Fin 1024, v x * g x) * s := by
    rw [Finset.sum_mul]; exact Finset.sum_congr rfl fun x _ => by ring
  rw [h, ← hu]
  ring

/-- The chain rule's gradient is the kernel's, whatever is added. -/
theorem grad_eq (d : EReal) (v g : Fin 1024 → EReal) (hv : ∀ k, Finite (v k)) (hg : ∀ k, Finite (g k)) (k : Fin 1024) :
    d + g k * scale v + v k * sq v g + sq v g * v k = grad d v g k := by
  choose v' hv using hv
  choose g' hg using hg
  obtain rfl : v = fun k => (v' k : EReal) := funext hv
  obtain rfl : g = fun k => (g' k : EReal) := funext hg
  obtain ⟨e, he, hee⟩ := eps_eq
  have h0 : 0 < (∑ x : Fin 1024, v' x * v' x) * (1 / 1024) + e :=
    add_pos_of_nonneg_of_pos (mul_nonneg (Finset.sum_nonneg fun x _ => mul_self_nonneg _) (by norm_num)) he
  obtain ⟨u, hu⟩ : ∃ u : ℝ, u = (∑ x : Fin 1024, v' x * v' x) * (1 / 1024) + e := ⟨_, rfl⟩
  have hms : ms (fun k => (v' k : EReal)) = (u : EReal) := by
    rw [ms, dim_eq, hee, Ideal.div_coe (by norm_num : (1024 : ℝ) ≠ 0)]
    simp only [← EReal.coe_mul, ← coe_sum, ← EReal.coe_add, ← hu]
  rw [← hu] at h0
  have hs : scale (fun k => (v' k : EReal)) = (((Real.sqrt u)⁻¹ : ℝ) : EReal) := by
    rw [scale, hms, Ideal.rsqrt_coe, if_neg (not_lt.mpr h0.le), if_neg h0.ne']
  have hq : (Real.sqrt u)⁻¹ * (Real.sqrt u)⁻¹ = 1 / u := by
    rw [← mul_inv, Real.mul_self_sqrt h0.le, one_div]
  rw [grad, sq, hs, hms, dim_eq, half_eq, Ideal.div_coe h0.ne', Ideal.div_coe (by norm_num : (1024 : ℝ) ≠ 0), Ideal.div_coe (by norm_num : (1024 : ℝ) ≠ 0)]
  simp only [← EReal.coe_mul, ← coe_sum, ← EReal.coe_sub]
  rw [real_grad v' g' _ _ hq k, EReal.coe_add, EReal.coe_add, add_assoc, add_assoc, add_assoc]

/-- A sum over points of which the last of every seven counts is the sum over the sevens; `J` for seven. -/
theorem sum_last (J n : ℕ) (f : Fin n → EReal) (hJ : 0 < J) (g : Fin (n * J) → EReal)
    (h : ∀ (i : Fin n) (s : Fin J), g (finProdFinEquiv (i, s)) = if s.val = J - 1 then f i else 0) :
    ∑ p, g p = ∑ i, f i := by
  rw [← finProdFinEquiv.sum_comp, Fintype.sum_prod_type]
  refine Finset.sum_congr rfl fun i _ => ?_
  rw [Finset.sum_eq_single ⟨J - 1, by omega⟩ (fun s _ hs => ?_) (fun hs => absurd (Finset.mem_univ _) hs), h, if_pos rfl]
  rw [h, if_neg fun e => hs (Fin.ext e)]

end Cert.Norm

end
-- ==== Proof.Dz1.lean ====
module

public import proofs.«01_k».proof.Proof.Gen.Kernel3Ideal.Value
public import proofs.«01_k».proof.Proof.Norm
public import Idealize.ShloMosaic.Lib.Pipeline.ValueKit
public import Idealize.ShloMosaic.Lib.Pipeline.ReadBack
public import Idealize.ShloMosaic.Lib.Pointwise

/-! `dz1`: a block of 1032 rows sums `dp @ w_inᵀ` over the seven segments; its last point forms the RMSNorm's gradient of
those rows and adds their part of the gain's gradient. The two arrays are `G5` and `G6`. -/

@[expose] public section

set_option maxRecDepth 16384

noncomputable section

namespace Cert.Kernel3Ideal.Grad

open Cert.Kernel3Ideal Cert.Kernel3Ideal.Gen
open Idealize.ShloMosaic Idealize.ShloMosaic.TcCoe Idealize.SL.Sem

variable (m : (ℓ : Loc nD τ sig) → Buf (Elt Ideal) ℓ)

abbrev dp (c : Dev nD) : FVec Ideal S7x8256x1024 .bf16 := m ((c : Thread nD τ).loc main_arg0)
abbrev w (c : Dev nD) : FVec Ideal S1024x7168 .bf16 := m ((c : Thread nD τ).loc main_arg1)
abbrev h0 (c : Dev nD) : FVec Ideal S8256x1024 .f32 := m ((c : Thread nD τ).loc main_arg2)
abbrev gn (c : Dev nD) : FVec Ideal S1x1024 .f32 := m ((c : Thread nD τ).loc main_arg3)
abbrev dh (c : Dev nD) : FVec Ideal S8256x1024 .f32 := m ((c : Thread nD τ).loc main_arg4)

theorem idx : ∀ t : Fin cfg0.N, win0_0.index t = ![t.val % 7, t.val / 7, 0] ∧ win0_1.index t = ![0, t.val % 7] ∧ win0_2.index t = ![t.val / 7, 0]
    ∧ win0_3.index t = ![0, 0] ∧ win0_4.index t = ![t.val / 7, 0] ∧ win0_5.index t = ![t.val / 7, 0] ∧ win0_6.index t = ![0, 0] :=
  (by decide +kernel : ∀ t : Fin grid0.N, _)

theorem N0 : cfg0.N = 56 := N_0

/-- The cotangent of the normalised rows. -/
def z (c : Dev nD) (r : Fin 8256) (k : Fin 1024) : EReal :=
  ∑ x : Fin 7168, dp m c (ix3 ⟨x.val / 1024, by omega⟩ r ⟨x.val % 1024, by omega⟩) * w m c (ix2 k x)

/-- Row `r` of the normalised array's argument. -/
def row (c : Dev nD) (r : Fin 8256) (k : Fin 1024) : EReal := h0 m c (ix2 r k)

def G5 (c : Dev nD) : FVec Ideal S8256x1024 .f32 := fun i =>
  Norm.grad (dh m c (ix2 (i 0) (i 1))) (row m c (i 0)) (fun k => z m c (i 0) k * gn m c (ix2 0 k)) (i 1)

def G6 (c : Dev nD) : FVec Ideal S1x1024 .f32 := fun i =>
  ∑ r : Fin 8256, z m c r (i 1) * (row m c r (i 1) * Norm.scale (row m c r))

/-- What point `t` adds to the accumulator: its segment's part of its rows' products. -/
def term (c : Dev nD) (t : Fin cfg0.N) (j : S1032x1024.Idx) : EReal :=
  ∑ k : Fin 1024, dp m c (ix3 ⟨t.val % 7, by omega⟩ ⟨t.val / 7 * 1032 + (j 0).val, by have := N0; have := (j 0).isLt; have := t.isLt; dsimp at *; omega⟩ k)
    * w m c (ix2 (j 1) ⟨t.val % 7 * 1024 + k.val, by omega⟩)

/-- The row of the arrays that row `a` of point `t`'s block is. -/
abbrev rw_ (t : Fin cfg0.N) (a : Fin 1032) : Fin 8256 := ⟨t.val / 7 * 1032 + a.val, by have := N0; have := t.isLt; omega⟩

theorem blk0 (c : Dev nD) (t : Fin cfg0.N) (a : Fin 1032) (k : Fin 1024) :
    (iblk m c 0 t : Vec Ideal S1x1032x1024 .bf16) (ix3 0 a k) = dp m c (ix3 ⟨t.val % 7, by omega⟩ (rw_ t a) k) := by
  blk_ext [iblk, V, idx t]

theorem blk1 (c : Dev nD) (t : Fin cfg0.N) (a k : Fin 1024) :
    (iblk m c 1 t : Vec Ideal S1024x1024 .bf16) (ix2 a k) = w m c (ix2 a ⟨t.val % 7 * 1024 + k.val, by omega⟩) := by
  blk_ext [iblk, V, idx t]

theorem blk2 (c : Dev nD) (t : Fin cfg0.N) (a : Fin 1032) (k : Fin 1024) :
    (iblk m c 2 t : Vec Ideal S1032x1024 .f32) (ix2 a k) = row m c (rw_ t a) k := by
  rw [row]
  blk_ext [iblk, V, idx t]

theorem blk3 (c : Dev nD) (t : Fin cfg0.N) (k : Fin 1024) :
    (iblk m c 3 t : Vec Ideal S1x1024 .f32) (ix2 0 k) = gn m c (ix2 0 k) := by
  blk_ext [iblk, V, idx t]

theorem blk4 (c : Dev nD) (t : Fin cfg0.N) (a : Fin 1032) (k : Fin 1024) :
    (iblk m c 4 t : Vec Ideal S1032x1024 .f32) (ix2 a k) = dh m c (ix2 (rw_ t a) k) := by
  blk_ext [iblk, V, idx t]

theorem acc_eq (c : Dev nD) (t : Fin cfg0.N) (h : t.val % 7 = 7 - 1) (j : S1032x1024.Idx) :
    (outsAt0 m c t.val t.isLt).2.2 j = 0 + ∑ s : Fin 7, term m c ⟨7 * (t.val / 7) + s.val, Pipeline.run_point_lt_of_flush t h s⟩ j := by
  refine Pipeline.eq_sum_fin_of_reset_step_apply_of_flush (fun n h => (outsAt0 m c n h).2.2) 7 (fun _ => (0 : EReal)) (term m c) (fun t h j => ?_) (fun t h j => ?_) t h j
  · by_cases h1 : t.val % 56 = 0
    · rw [outsAt0_A m c t h h1 (by omega)]
      frame_out
      unfold_payloads
      pointwise [blk0, blk1, term]
    · rw [outsAt0_D m c t h h1 (by omega)]
      frame_out
      unfold_payloads
      pointwise [blk0, blk1, term]
  · by_cases h2 : t.val % 7 = 6
    · rw [outsAt0_C m c t h (by omega) h2]
      frame_out
      unfold_payloads
      pointwise [blk0, blk1, term, read_unread_whole]
    · rw [outsAt0_B m c t h (by omega) h2]
      frame_out
      unfold_payloads
      pointwise [blk0, blk1, term, read_unread_whole]

/-- At the last point of a run the accumulator holds the cotangent of its rows. -/
theorem acc_z (c : Dev nD) (t : Fin cfg0.N) (h : t.val % 7 = 6) (a : Fin 1032) (b : Fin 1024) :
    (outsAt0 m c t.val t.isLt).2.2 (ix2 a b) = z m c (rw_ t a) b := by
  rw [acc_eq m c t h, zero_add]
  refine Fin.sum_mul_add_congr fun s k hl => ?_
  refine congrArg₂ (· * ·) ?_ ?_ <;> blk_ext [idx t]

theorem pay6_eq (x zz : Vec Ideal S1032x1024 .f32) (g : Vec Ideal S1x1024 .f32) (d : Vec Ideal S1032x1024 .f32) (a : Fin 1032) (b : Fin 1024) :
    k0_pay6 x zz g d (ix2 a b) = Norm.grad (d (ix2 a b)) (fun k => x (ix2 a k)) (fun k => zz (ix2 a k) * g (ix2 0 k)) b := by
  unfold_payloads
  pointwise [Norm.grad, Norm.scale, Norm.ms]

theorem pay7_eq (x zz : Vec Ideal S1032x1024 .f32) (d : Vec Ideal S1x1024 .f32) (b : Fin 1024) :
    k0_pay7 x zz d (ix2 0 b) = d (ix2 0 b) + ∑ a : Fin 1032, zz (ix2 a b) * (x (ix2 a b) * Norm.scale fun k => x (ix2 a k)) := by
  unfold_payloads
  pointwise [Norm.scale, Norm.ms]

/-- The last point of a run writes its rows of the gradient from the accumulator. -/
theorem out5 (c : Dev nD) (t : Fin cfg0.N) (h : t.val % 7 = 6) :
    (outsAt0 m c t.val t.isLt).1 = k0_pay6 (iblk m c 2 t) (outsAt0 m c t.val t.isLt).2.2 (iblk m c 3 t) (iblk m c 4 t) := by
  rw [outsAt0_C m c t (by omega) (by omega) h]
  frame_out

/-- The last point of a run adds its rows' part of the gain's gradient. -/
theorem out6 (c : Dev nD) (t : Fin cfg0.N) (h : t.val % 7 = 6) :
    (outsAt0 m c t.val t.isLt).2.1 = k0_pay7 (iblk m c 2 t) (outsAt0 m c t.val t.isLt).2.2
      (outsAt0 m c (t.val - 1) (Nat.lt_of_le_of_lt (Nat.sub_le _ _) t.isLt)).2.1 := by
  rw [outsAt0_C m c t (by omega) (by omega) h]
  frame_out

theorem final5 (c : Dev nD) : (dats m 0 c).arrAt 5 cfg0.N = G5 m c := by
  refine (dats m 0 c).arrAt_eq_of_covers 5 _ (by decide +kernel) fun t hf y => ?_
  blk_simp
  have h6 : t.val % 7 = 6 := (flush0_5 t).mp hf
  obtain ⟨a, b, rfl⟩ : ∃ (a : Fin 1032) (b : Fin 1024), y = (ix2 a b : S1032x1024.Idx) := ⟨_, _, eq_ix2 (y : S1032x1024.Idx)⟩
  refine Eq.trans ?_ (congrArg (G5 m c) (?_ : (ix2 (rw_ t a) b : S8256x1024.Idx) = _))
  · rw [after0_5, out5 m c t h6]
    refine (pay6_eq _ _ _ _ a b).trans ?_
    simp only [acc_z m c t h6, blk2, blk3, blk4]
    rfl
  · blk_ext [idx t]

/-- What point `t` adds to the gain's gradient. -/
def part (c : Dev nD) (t : Fin cfg0.N) (j : S1x1024.Idx) : EReal :=
  if t.val % 7 = 6 then ∑ a : Fin 1032, z m c (rw_ t a) (j 1) * (row m c (rw_ t a) (j 1) * Norm.scale (row m c (rw_ t a))) else 0

theorem gain_eq (c : Dev nD) (t : Fin cfg0.N) (ht : t.val + 1 = cfg0.N) (j : S1x1024.Idx) :
    (outsAt0 m c t.val t.isLt).2.1 j = 0 + ∑ p : Fin cfg0.N, part m c p j := by
  refine Pipeline.eq_sum_fin_of_reset_step_apply_last (fun n h => (outsAt0 m c n h).2.1) 56 (fun _ => (0 : EReal)) (part m c) (fun t h j => ?_) (fun t h j => ?_) N0.le t ht j
  · rw [outsAt0_A m c t (by omega) h (by omega)]
    frame_out
    unfold_payloads
    rw [part, if_neg (by omega)]
    pointwise
  · by_cases h2 : t.val % 7 = 6
    · obtain ⟨b, rfl⟩ : ∃ b : Fin 1024, j = ix2 0 b := ⟨_, (eq_ix2 j).trans (congrArg (fun q => ix2 q _) (Subsingleton.elim _ (0 : Fin 1)))⟩
      rw [out6 m c t h2]
      refine (pay7_eq _ _ _ b).trans ?_
      simp only [acc_z m c t h2, blk2, part, if_pos h2]
      rfl
    · rw [part, if_neg h2, add_zero]
      by_cases h0 : t.val % 7 = 0
      · rw [outsAt0_D m c t h0 h h2]
        rfl
      · rw [outsAt0_B m c t h0 h h2]
        rfl

/-- The last point. -/
def tl : Fin cfg0.N := ⟨55, by rw [N0]; norm_num⟩

theorem final6 (c : Dev nD) : (dats m 0 c).arrAt 6 cfg0.N = G6 m c := by
  refine (dats m 0 c).arrAt_eq_of_after_last 6 tl (by decide +kernel) _ fun j => ?_
  blk_simp
  obtain ⟨b, rfl⟩ : ∃ b : Fin 1024, j = (ix2 0 b : S1x1024.Idx) := ⟨_, (eq_ix2 (j : S1x1024.Idx)).trans (congrArg (fun q => ix2 q _) (Subsingleton.elim _ (0 : Fin 1)))⟩
  rw [after0_6]
  refine (gain_eq m c tl (show (55 : ℕ) + 1 = cfg0.N from N0.symm) _).trans ?_
  rw [zero_add]
  refine (Norm.sum_last 7 8 (fun i => ∑ a : Fin 1032, z m c ⟨i.val * 1032 + a.val, by omega⟩ b
    * (row m c ⟨i.val * 1032 + a.val, by omega⟩ b * Norm.scale (row m c ⟨i.val * 1032 + a.val, by omega⟩))) (by norm_num) _ fun i s => ?_).trans ?_
  · have hv : ∀ a : Fin 1032, s.val = 6 → rw_ (finProdFinEquiv (i, s) : Fin (8 * 7)) a = ⟨i.val * 1032 + a.val, by omega⟩ := fun a hs =>
      Fin.ext (show (s.val + 7 * i.val) / 7 * 1032 + a.val = i.val * 1032 + a.val by omega)
    by_cases hs : s.val = 6
    · rw [if_pos hs]
      refine (if_pos (show (s.val + 7 * i.val) % 7 = 6 by omega)).trans ?_
      exact Finset.sum_congr rfl fun a _ => by rw [hv a hs]; rfl
    · rw [if_neg hs]
      exact if_neg (show ¬(s.val + 7 * i.val) % 7 = 6 by omega)
  · exact Fin.sum_mul_add_congr fun i a hl => rfl

end Cert.Kernel3Ideal.Grad
-- ==== Proof.Dz1Ref.lean ====
module

public import proofs.«01_k».proof.Proof.Dz1
public import proofs.«01_k».proof.Proof.Gen.Reference3Ideal.Read
public import proofs.«01_k».proof.Proof.Gen.Pre_finite3
public import proofs.«01_k».proof.Defs
public import Idealize.ShloMosaic.Lib.Affine

/-! `dz1`: on finite arguments the reference's two results are `G5` and `G6`. -/

@[expose] public section

set_option maxRecDepth 16384

noncomputable section

namespace Cert.Kernel3Ideal.Grad

open Cert.Kernel3Ideal Cert.Kernel3Ideal.Gen Cert.Reference3Ideal.Read
open Idealize.ShloMosaic Idealize.ShloMosaic.TcCoe Idealize.SL.Sem

variable (m : (ℓ : Loc nD τ sig) → Buf (Elt Ideal) ℓ)

/-- The rows' cotangents and the rows are finite. -/
theorem facts (c : Dev nD) (h : Cert.Pre_Kernel3Ideal_finite3 m) :
    (∀ i, Norm.Finite (dp m c i)) ∧ (∀ i, Norm.Finite (w m c i)) ∧ (∀ i, Norm.Finite (h0 m c i)) ∧ ∀ i, Norm.Finite (gn m c i) := by
  have h := congrFun (h c) (fun a => a.elim0)
  dsimp only [Pre_finite3.fn, Pre_finite3.fn_part1] at h
  haveI : Subsingleton Pre_finite3.S_.Idx := ⟨fun a b => funext fun k => k.elim0⟩
  obtain ⟨h, h3⟩ := IntOp.andi_eq_one.mp h
  obtain ⟨h, h2⟩ := IntOp.andi_eq_one.mp h
  obtain ⟨h0, h1⟩ := IntOp.andi_eq_one.mp h
  exact ⟨Norm.all_finite _ _ (fun _ => Norm.inf_eq) _ _ _ _ h0, Norm.all_finite _ _ (fun _ => Norm.inf_eq) _ _ _ _ h1,
    Norm.all_finite _ _ (fun _ => Norm.inf_eq) _ _ _ _ h2, Norm.all_finite _ _ (fun _ => Norm.inf_eq) _ _ _ _ h3⟩

theorem ref6 (c : Dev nD) : val_main_v23 (F := Ideal) (dp m c) (w m c) (h0 m c) = G6 m c := by
  funext i
  pointwise [val_main_v23, val_main_v22, val_main_v21, val_main_v20, val_main_v16, val_main_v15, val_main_v11, val_main_v10, val_main_v9, val_main_v8, val_main_v7, val_main_v6, val_main_v5, val_main_v4, val_main_v3, val_main_v2, val_main_v1, val_main_v0, val_main_cst, val_main_cst_0, val_main_cst_1, val_main_cst_3, G6, z, row, Norm.scale, Norm.ms, zero_add]
  exact Finset.sum_congr rfl fun r _ => mul_comm _ _

theorem ref5 (c : Dev nD) (h : Cert.Pre_Kernel3Ideal_finite3 m) : val_main_v40 (F := Ideal) (dp m c) (w m c) (h0 m c) (gn m c) (dh m c) = G5 m c := by
  funext i
  obtain ⟨hd, hw, hx, hg⟩ := facts m c h
  refine Eq.trans ?_ (Norm.grad_eq (dh m c (ix2 (i 0) (i 1))) (row m c (i 0)) (fun k => z m c (i 0) k * gn m c (ix2 0 k)) (fun k => hx _)
    (fun k => Norm.Finite.mul (Norm.Finite.sum _ fun x => Norm.Finite.mul (hd _) (hw _)) (hg _)) (i 1))
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v20, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_4, val_main_cst_5, val_main_cst_6, z, row, Norm.scale, Norm.ms, Norm.sq]
  simp only [Fin.sum_univ_one]

end Cert.Kernel3Ideal.Grad
-- ==== Proof.Dz2.lean ====
module

public import proofs.«01_k».proof.Proof.Gen.Kernel4Ideal.Value
public import proofs.«01_k».proof.Proof.Norm
public import Idealize.ShloMosaic.Lib.Pipeline.ValueKit
public import Idealize.ShloMosaic.Lib.Pipeline.ReadBack
public import Idealize.ShloMosaic.Lib.Pointwise

/-! `dz2`: a block of 1032 rows sums `dup @ w_upᵀ` over the four column blocks; its last point forms the RMSNorm's gradient of
those rows and adds their part of the gain's gradient. The two arrays are `G5` and `G6`. -/

@[expose] public section

set_option maxRecDepth 16384

noncomputable section

namespace Cert.Kernel4Ideal.Grad

open Cert.Kernel4Ideal Cert.Kernel4Ideal.Gen
open Idealize.ShloMosaic Idealize.ShloMosaic.TcCoe Idealize.SL.Sem

variable (m : (ℓ : Loc nD τ sig) → Buf (Elt Ideal) ℓ)

abbrev dup (c : Dev nD) : FVec Ideal S2x8256x2816 .bf16 := m ((c : Thread nD τ).loc main_arg0)
abbrev w (c : Dev nD) : FVec Ideal S1024x5632 .bf16 := m ((c : Thread nD τ).loc main_arg1)
abbrev h1 (c : Dev nD) : FVec Ideal S8256x1024 .f32 := m ((c : Thread nD τ).loc main_arg2)
abbrev gn (c : Dev nD) : FVec Ideal S1x1024 .f32 := m ((c : Thread nD τ).loc main_arg3)
abbrev dh (c : Dev nD) : FVec Ideal S8256x1024 .f32 := m ((c : Thread nD τ).loc main_arg4)

theorem idx : ∀ t : Fin cfg0.N, win0_0.index t = ![t.val % 4 / 2, t.val / 4, t.val % 4 % 2] ∧ win0_1.index t = ![0, t.val % 4] ∧ win0_2.index t = ![t.val / 4, 0]
    ∧ win0_3.index t = ![0, 0] ∧ win0_4.index t = ![t.val / 4, 0] ∧ win0_5.index t = ![t.val / 4, 0] ∧ win0_6.index t = ![0, 0] :=
  (by decide +kernel : ∀ t : Fin grid0.N, _)

theorem N0 : cfg0.N = 32 := N_0

/-- The cotangent of the normalised rows. -/
def z (c : Dev nD) (r : Fin 8256) (k : Fin 1024) : EReal :=
  ∑ x : Fin 5632, dup m c (ix3 ⟨x.val / 2816, by omega⟩ r ⟨x.val % 2816, by omega⟩) * w m c (ix2 k x)

/-- Row `r` of the normalised array's argument. -/
def row (c : Dev nD) (r : Fin 8256) (k : Fin 1024) : EReal := h1 m c (ix2 r k)

def G5 (c : Dev nD) : FVec Ideal S8256x1024 .f32 := fun i =>
  Norm.grad (dh m c (ix2 (i 0) (i 1))) (row m c (i 0)) (fun k => z m c (i 0) k * gn m c (ix2 0 k)) (i 1)

def G6 (c : Dev nD) : FVec Ideal S1x1024 .f32 := fun i =>
  ∑ r : Fin 8256, z m c r (i 1) * (row m c r (i 1) * Norm.scale (row m c r))

/-- What point `t` adds to the accumulator: its segment's part of its rows' products. -/
def term (c : Dev nD) (t : Fin cfg0.N) (j : S1032x1024.Idx) : EReal :=
  ∑ k : Fin 1408, dup m c (ix3 ⟨t.val % 4 / 2, by omega⟩ ⟨t.val / 4 * 1032 + (j 0).val, by have := N0; have := (j 0).isLt; have := t.isLt; dsimp at *; omega⟩ ⟨t.val % 4 % 2 * 1408 + k.val, by omega⟩)
    * w m c (ix2 (j 1) ⟨t.val % 4 * 1408 + k.val, by omega⟩)

/-- The row of the arrays that row `a` of point `t`'s block is. -/
abbrev rw_ (t : Fin cfg0.N) (a : Fin 1032) : Fin 8256 := ⟨t.val / 4 * 1032 + a.val, by have := N0; have := t.isLt; omega⟩

theorem blk0 (c : Dev nD) (t : Fin cfg0.N) (a : Fin 1032) (k : Fin 1408) :
    (iblk m c 0 t : Vec Ideal S1x1032x1408 .bf16) (ix3 0 a k) = dup m c (ix3 ⟨t.val % 4 / 2, by omega⟩ (rw_ t a) ⟨t.val % 4 % 2 * 1408 + k.val, by omega⟩) := by
  blk_ext [iblk, V, idx t]

theorem blk1 (c : Dev nD) (t : Fin cfg0.N) (a : Fin 1024) (k : Fin 1408) :
    (iblk m c 1 t : Vec Ideal S1024x1408 .bf16) (ix2 a k) = w m c (ix2 a ⟨t.val % 4 * 1408 + k.val, by omega⟩) := by
  blk_ext [iblk, V, idx t]

theorem blk2 (c : Dev nD) (t : Fin cfg0.N) (a : Fin 1032) (k : Fin 1024) :
    (iblk m c 2 t : Vec Ideal S1032x1024 .f32) (ix2 a k) = row m c (rw_ t a) k := by
  rw [row]
  blk_ext [iblk, V, idx t]

theorem blk3 (c : Dev nD) (t : Fin cfg0.N) (k : Fin 1024) :
    (iblk m c 3 t : Vec Ideal S1x1024 .f32) (ix2 0 k) = gn m c (ix2 0 k) := by
  blk_ext [iblk, V, idx t]

theorem blk4 (c : Dev nD) (t : Fin cfg0.N) (a : Fin 1032) (k : Fin 1024) :
    (iblk m c 4 t : Vec Ideal S1032x1024 .f32) (ix2 a k) = dh m c (ix2 (rw_ t a) k) := by
  blk_ext [iblk, V, idx t]

theorem acc_eq (c : Dev nD) (t : Fin cfg0.N) (h : t.val % 4 = 4 - 1) (j : S1032x1024.Idx) :
    (outsAt0 m c t.val t.isLt).2.2 j = 0 + ∑ s : Fin 4, term m c ⟨4 * (t.val / 4) + s.val, Pipeline.run_point_lt_of_flush t h s⟩ j := by
  refine Pipeline.eq_sum_fin_of_reset_step_apply_of_flush (fun n h => (outsAt0 m c n h).2.2) 4 (fun _ => (0 : EReal)) (term m c) (fun t h j => ?_) (fun t h j => ?_) t h j
  · by_cases h1 : t.val % 32 = 0
    · rw [outsAt0_A m c t h h1 (by omega)]
      frame_out
      unfold_payloads
      pointwise [blk0, blk1, term]
    · rw [outsAt0_D m c t h h1 (by omega)]
      frame_out
      unfold_payloads
      pointwise [blk0, blk1, term]
  · by_cases h2 : t.val % 4 = 3
    · rw [outsAt0_C m c t h (by omega) h2]
      frame_out
      unfold_payloads
      pointwise [blk0, blk1, term, read_unread_whole]
    · rw [outsAt0_B m c t h (by omega) h2]
      frame_out
      unfold_payloads
      pointwise [blk0, blk1, term, read_unread_whole]

/-- At the last point of a run the accumulator holds the cotangent of its rows. -/
theorem acc_z (c : Dev nD) (t : Fin cfg0.N) (h : t.val % 4 = 3) (a : Fin 1032) (b : Fin 1024) :
    (outsAt0 m c t.val t.isLt).2.2 (ix2 a b) = z m c (rw_ t a) b := by
  rw [acc_eq m c t h, zero_add]
  refine Fin.sum_mul_add_congr fun s k hl => ?_
  refine congrArg₂ (· * ·) ?_ ?_ <;> blk_ext [idx t]

theorem pay6_eq (x zz : Vec Ideal S1032x1024 .f32) (g : Vec Ideal S1x1024 .f32) (d : Vec Ideal S1032x1024 .f32) (a : Fin 1032) (b : Fin 1024) :
    k0_pay6 x zz g d (ix2 a b) = Norm.grad (d (ix2 a b)) (fun k => x (ix2 a k)) (fun k => zz (ix2 a k) * g (ix2 0 k)) b := by
  unfold_payloads
  pointwise [Norm.grad, Norm.scale, Norm.ms]

theorem pay7_eq (x zz : Vec Ideal S1032x1024 .f32) (d : Vec Ideal S1x1024 .f32) (b : Fin 1024) :
    k0_pay7 x zz d (ix2 0 b) = d (ix2 0 b) + ∑ a : Fin 1032, zz (ix2 a b) * (x (ix2 a b) * Norm.scale fun k => x (ix2 a k)) := by
  unfold_payloads
  pointwise [Norm.scale, Norm.ms]

/-- The last point of a run writes its rows of the gradient from the accumulator. -/
theorem out5 (c : Dev nD) (t : Fin cfg0.N) (h : t.val % 4 = 3) :
    (outsAt0 m c t.val t.isLt).1 = k0_pay6 (iblk m c 2 t) (outsAt0 m c t.val t.isLt).2.2 (iblk m c 3 t) (iblk m c 4 t) := by
  rw [outsAt0_C m c t (by omega) (by omega) h]
  frame_out

/-- The last point of a run adds its rows' part of the gain's gradient. -/
theorem out6 (c : Dev nD) (t : Fin cfg0.N) (h : t.val % 4 = 3) :
    (outsAt0 m c t.val t.isLt).2.1 = k0_pay7 (iblk m c 2 t) (outsAt0 m c t.val t.isLt).2.2
      (outsAt0 m c (t.val - 1) (Nat.lt_of_le_of_lt (Nat.sub_le _ _) t.isLt)).2.1 := by
  rw [outsAt0_C m c t (by omega) (by omega) h]
  frame_out

theorem final5 (c : Dev nD) : (dats m 0 c).arrAt 5 cfg0.N = G5 m c := by
  refine (dats m 0 c).arrAt_eq_of_covers 5 _ (by decide +kernel) fun t hf y => ?_
  blk_simp
  have h3 : t.val % 4 = 3 := (flush0_5 t).mp hf
  obtain ⟨a, b, rfl⟩ : ∃ (a : Fin 1032) (b : Fin 1024), y = (ix2 a b : S1032x1024.Idx) := ⟨_, _, eq_ix2 (y : S1032x1024.Idx)⟩
  refine Eq.trans ?_ (congrArg (G5 m c) (?_ : (ix2 (rw_ t a) b : S8256x1024.Idx) = _))
  · rw [after0_5, out5 m c t h3]
    refine (pay6_eq _ _ _ _ a b).trans ?_
    simp only [acc_z m c t h3, blk2, blk3, blk4]
    rfl
  · blk_ext [idx t]

/-- What point `t` adds to the gain's gradient. -/
def part (c : Dev nD) (t : Fin cfg0.N) (j : S1x1024.Idx) : EReal :=
  if t.val % 4 = 3 then ∑ a : Fin 1032, z m c (rw_ t a) (j 1) * (row m c (rw_ t a) (j 1) * Norm.scale (row m c (rw_ t a))) else 0

theorem gain_eq (c : Dev nD) (t : Fin cfg0.N) (ht : t.val + 1 = cfg0.N) (j : S1x1024.Idx) :
    (outsAt0 m c t.val t.isLt).2.1 j = 0 + ∑ p : Fin cfg0.N, part m c p j := by
  refine Pipeline.eq_sum_fin_of_reset_step_apply_last (fun n h => (outsAt0 m c n h).2.1) 32 (fun _ => (0 : EReal)) (part m c) (fun t h j => ?_) (fun t h j => ?_) N0.le t ht j
  · rw [outsAt0_A m c t (by omega) h (by omega)]
    frame_out
    unfold_payloads
    rw [part, if_neg (by omega)]
    pointwise
  · by_cases h2 : t.val % 4 = 3
    · obtain ⟨b, rfl⟩ : ∃ b : Fin 1024, j = ix2 0 b := ⟨_, (eq_ix2 j).trans (congrArg (fun q => ix2 q _) (Subsingleton.elim _ (0 : Fin 1)))⟩
      rw [out6 m c t h2]
      refine (pay7_eq _ _ _ b).trans ?_
      simp only [acc_z m c t h2, blk2, part, if_pos h2]
      rfl
    · rw [part, if_neg h2, add_zero]
      by_cases h0 : t.val % 4 = 0
      · rw [outsAt0_D m c t h0 h h2]
        rfl
      · rw [outsAt0_B m c t h0 h h2]
        rfl

/-- The last point. -/
def tl : Fin cfg0.N := ⟨31, by rw [N0]; norm_num⟩

theorem final6 (c : Dev nD) : (dats m 0 c).arrAt 6 cfg0.N = G6 m c := by
  refine (dats m 0 c).arrAt_eq_of_after_last 6 tl (by decide +kernel) _ fun j => ?_
  blk_simp
  obtain ⟨b, rfl⟩ : ∃ b : Fin 1024, j = (ix2 0 b : S1x1024.Idx) := ⟨_, (eq_ix2 (j : S1x1024.Idx)).trans (congrArg (fun q => ix2 q _) (Subsingleton.elim _ (0 : Fin 1)))⟩
  rw [after0_6]
  refine (gain_eq m c tl (show (31 : ℕ) + 1 = cfg0.N from N0.symm) _).trans ?_
  rw [zero_add]
  refine (Norm.sum_last 4 8 (fun i => ∑ a : Fin 1032, z m c ⟨i.val * 1032 + a.val, by omega⟩ b
    * (row m c ⟨i.val * 1032 + a.val, by omega⟩ b * Norm.scale (row m c ⟨i.val * 1032 + a.val, by omega⟩))) (by norm_num) _ fun i s => ?_).trans ?_
  · have hv : ∀ a : Fin 1032, s.val = 3 → rw_ (finProdFinEquiv (i, s) : Fin (8 * 4)) a = ⟨i.val * 1032 + a.val, by omega⟩ := fun a hs =>
      Fin.ext (show (s.val + 4 * i.val) / 4 * 1032 + a.val = i.val * 1032 + a.val by omega)
    by_cases hs : s.val = 3
    · rw [if_pos hs]
      refine (if_pos (show (s.val + 4 * i.val) % 4 = 3 by omega)).trans ?_
      exact Finset.sum_congr rfl fun a _ => by rw [hv a hs]; rfl
    · rw [if_neg hs]
      exact if_neg (show ¬(s.val + 4 * i.val) % 4 = 3 by omega)
  · exact Fin.sum_mul_add_congr fun i a hl => rfl

end Cert.Kernel4Ideal.Grad
-- ==== Proof.Dz2Ref.lean ====
module

public import proofs.«01_k».proof.Proof.Dz2
public import proofs.«01_k».proof.Proof.Gen.Reference4Ideal.Read
public import proofs.«01_k».proof.Proof.Gen.Pre_finite4
public import proofs.«01_k».proof.Defs
public import Idealize.ShloMosaic.Lib.Affine

/-! `dz2`: on finite arguments the reference's two results are `G5` and `G6`. -/

@[expose] public section

set_option maxRecDepth 16384

noncomputable section

namespace Cert.Kernel4Ideal.Grad

open Cert.Kernel4Ideal Cert.Kernel4Ideal.Gen Cert.Reference4Ideal.Read
open Idealize.ShloMosaic Idealize.ShloMosaic.TcCoe Idealize.SL.Sem

variable (m : (ℓ : Loc nD τ sig) → Buf (Elt Ideal) ℓ)

/-- The rows' cotangents and the rows are finite. -/
theorem facts (c : Dev nD) (h : Cert.Pre_Kernel4Ideal_finite4 m) :
    (∀ i, Norm.Finite (dup m c i)) ∧ (∀ i, Norm.Finite (w m c i)) ∧ (∀ i, Norm.Finite (h1 m c i)) ∧ ∀ i, Norm.Finite (gn m c i) := by
  have h := congrFun (h c) (fun a => a.elim0)
  dsimp only [Pre_finite4.fn, Pre_finite4.fn_part1] at h
  haveI : Subsingleton Pre_finite4.S_.Idx := ⟨fun a b => funext fun k => k.elim0⟩
  obtain ⟨h, h3⟩ := IntOp.andi_eq_one.mp h
  obtain ⟨h, h2⟩ := IntOp.andi_eq_one.mp h
  obtain ⟨h0, h1⟩ := IntOp.andi_eq_one.mp h
  exact ⟨Norm.all_finite _ _ (fun _ => Norm.inf_eq) _ _ _ _ h0, Norm.all_finite _ _ (fun _ => Norm.inf_eq) _ _ _ _ h1,
    Norm.all_finite _ _ (fun _ => Norm.inf_eq) _ _ _ _ h2, Norm.all_finite _ _ (fun _ => Norm.inf_eq) _ _ _ _ h3⟩

theorem ref6 (c : Dev nD) : val_main_v23 (F := Ideal) (dup m c) (w m c) (h1 m c) = G6 m c := by
  funext i
  pointwise [val_main_v23, val_main_v22, val_main_v21, val_main_v20, val_main_v16, val_main_v15, val_main_v11, val_main_v10, val_main_v9, val_main_v8, val_main_v7, val_main_v6, val_main_v5, val_main_v4, val_main_v3, val_main_v2, val_main_v1, val_main_v0, val_main_cst, val_main_cst_0, val_main_cst_1, val_main_cst_3, G6, z, row, Norm.scale, Norm.ms, zero_add]
  exact Finset.sum_congr rfl fun r _ => mul_comm _ _

theorem ref5 (c : Dev nD) (h : Cert.Pre_Kernel4Ideal_finite4 m) : val_main_v40 (F := Ideal) (dup m c) (w m c) (h1 m c) (gn m c) (dh m c) = G5 m c := by
  funext i
  obtain ⟨hd, hw, hx, hg⟩ := facts m c h
  refine Eq.trans ?_ (Norm.grad_eq (dh m c (ix2 (i 0) (i 1))) (row m c (i 0)) (fun k => z m c (i 0) k * gn m c (ix2 0 k)) (fun k => hx _)
    (fun k => Norm.Finite.mul (Norm.Finite.sum _ fun x => Norm.Finite.mul (hd _) (hw _)) (hg _)) (i 1))
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v20, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_4, val_main_cst_5, val_main_cst_6, z, row, Norm.scale, Norm.ms, Norm.sq]
  simp only [Fin.sum_univ_one]

end Cert.Kernel4Ideal.Grad
-- ==== Proof.DwIn.lean ====
module

public import proofs.«01_k».proof.Proof.Gen.Kernel6Ideal.Value
public import proofs.«01_k».proof.Proof.Gen.Reference6Ideal.Read
public import Idealize.ShloMosaic.Lib.Pipeline.ValueKit
public import Idealize.ShloMosaic.Lib.Pipeline.ReadBack
public import Idealize.ShloMosaic.Lib.Pointwise

/-! `dw_in`: each segment's weight gradient is summed over six blocks of 1376 rows; the sum is the whole product, and so is the reference. -/

@[expose] public section

set_option maxRecDepth 16384

noncomputable section

namespace Cert.Kernel6Ideal.Grad

open Cert.Kernel6Ideal Cert.Kernel6Ideal.Gen Cert.Reference6Ideal.Read
open Idealize.ShloMosaic Idealize.ShloMosaic.TcCoe Idealize.SL.Sem

variable (m : (ℓ : Loc nD τ sig) → Buf (Elt Ideal) ℓ)

abbrev z1 (c : Dev nD) : FVec Ideal S8256x1024 .bf16 := m ((c : Thread nD τ).loc main_arg0)
abbrev dp (c : Dev nD) : FVec Ideal S7x8256x1024 .bf16 := m ((c : Thread nD τ).loc main_arg1)

theorem idx : ∀ t : Fin cfg0.N, win0_0.index t = ![t.val % 6, 0] ∧ win0_1.index t = ![t.val / 6, t.val % 6, 0] ∧ win0_2.index t = ![t.val / 6, 0, 0] :=
  (by decide +kernel : ∀ t : Fin grid0.N, _)

theorem N0 : cfg0.N = 42 := N_0

def G (c : Dev nD) : FVec Ideal S7x1024x1024 .f32 := fun i => ∑ k : Fin 8256, z1 m c (ix2 k (i 1)) * dp m c (ix3 (i 0) k (i 2))

/-- What point `t` adds: its 1376 rows of its segment's product. -/
def term (c : Dev nD) (t : Fin cfg0.N) (j : S1024x1024.Idx) : EReal :=
  ∑ k : Fin 1376, z1 m c (ix2 ⟨t.val % 6 * 1376 + k.val, by omega⟩ (j 0)) * dp m c (ix3 ⟨t.val / 6, by have := N0; omega⟩ ⟨t.val % 6 * 1376 + k.val, by omega⟩ (j 1))

theorem blk0 (c : Dev nD) (t : Fin cfg0.N) (k : Fin 1376) (r : Fin 1024) :
    (iblk m c 0 t : Vec Ideal S1376x1024 .bf16) (ix2 k r)
      = z1 m c (ix2 ⟨t.val % 6 * 1376 + k.val, by omega⟩ r) := by
  blk_ext [iblk, V, idx t]

theorem blk1 (c : Dev nD) (t : Fin cfg0.N) (k : Fin 1376) (r : Fin 1024) :
    (iblk m c 1 t : Vec Ideal S1x1376x1024 .bf16) (ix3 0 k r)
      = dp m c (ix3 ⟨t.val / 6, by have := N0; omega⟩ ⟨t.val % 6 * 1376 + k.val, by omega⟩ r) := by
  blk_ext [iblk, V, idx t]

theorem acc_eq (c : Dev nD) (t : Fin cfg0.N) (h : t.val % 6 = 6 - 1) (j : S1024x1024.Idx) :
    (outsAt0 m c t.val t.isLt).2 j = 0 + ∑ s : Fin 6, term m c ⟨6 * (t.val / 6) + s.val, Pipeline.run_point_lt_of_flush t h s⟩ j := by
  refine Pipeline.eq_sum_fin_of_reset_step_apply_of_flush (fun n h => (outsAt0 m c n h).2) 6 (fun _ => (0 : EReal)) (term m c) (fun t h j => ?_) (fun t h j => ?_) t h j
  · rw [outsAt0_A m c t h (by omega)]
    frame_out
    unfold_payloads
    pointwise [blk0, blk1, term]
  · by_cases h5 : t.val % 6 = 5
    · rw [outsAt0_C m c t h h5]
      frame_out
      unfold_payloads
      pointwise [blk0, blk1, term, read_unread_whole]
    · rw [outsAt0_B m c t h h5]
      frame_out
      unfold_payloads
      pointwise [blk0, blk1, term, read_unread_whole]

/-- The last point of a run copies the accumulator out. -/
theorem out_eq (c : Dev nD) (t : Fin cfg0.N) (h : t.val % 6 = 5) (a : Fin 1024) (b : Fin 1024) :
    (outsAt0 m c t.val t.isLt).1 (ix3 0 a b) = (outsAt0 m c t.val t.isLt).2 (ix2 a b) := by
  rw [outsAt0_C m c t (by omega) h]
  frame_out
  unfold_payloads
  pointwise [read_unread_whole]

theorem final (c : Dev nD) : (dats m 0 c).arrAt 2 cfg0.N = G m c := by
  refine (dats m 0 c).arrAt_eq_of_covers 2 _ (by decide +kernel) fun t hf y => ?_
  blk_simp
  have h5 : t.val % 6 = 5 := (flush0_2 t).mp hf
  obtain ⟨a, b, rfl⟩ : ∃ (a : Fin 1024) (b : Fin 1024), y = (ix3 0 a b : S1x1024x1024.Idx) :=
    ⟨_, _, (eq_ix3 (y : S1x1024x1024.Idx)).trans (congrArg (fun q => ix3 q _ _) (Subsingleton.elim _ (0 : Fin 1)))⟩
  rw [after0_2, out_eq m c t h5, acc_eq m c t h5, zero_add]
  refine Fin.sum_mul_add_congr fun s k hl => ?_
  refine congrArg₂ (· * ·) ?_ ?_ <;> blk_ext [idx t]

theorem ref (c : Dev nD) : val_main_v9 (F := Ideal) (z1 m c) (dp m c) = G m c := by
  funext i
  pointwise [val_main_v9, val_main_v8, val_main_v7, val_main_v6, val_main_v3, val_main_v2, val_main_v1, val_main_v0, G]
  exact Finset.sum_congr rfl fun k _ => mul_comm _ _

end Cert.Kernel6Ideal.Grad
-- ==== Proof.DwUp.lean ====
module

public import proofs.«01_k».proof.Proof.Gen.Kernel7Ideal.Value
public import proofs.«01_k».proof.Proof.Gen.Reference7Ideal.Read
public import Idealize.ShloMosaic.Lib.Pipeline.ValueKit
public import Idealize.ShloMosaic.Lib.Pipeline.ReadBack
public import Idealize.ShloMosaic.Lib.Pointwise

/-! `dw_up`: each quarter of the columns is summed over six blocks of 1376 rows; the sum is the whole product, and so is the reference. -/

@[expose] public section

set_option maxRecDepth 16384

noncomputable section

namespace Cert.Kernel7Ideal.Grad

open Cert.Kernel7Ideal Cert.Kernel7Ideal.Gen Cert.Reference7Ideal.Read
open Idealize.ShloMosaic Idealize.ShloMosaic.TcCoe Idealize.SL.Sem

variable (m : (ℓ : Loc nD τ sig) → Buf (Elt Ideal) ℓ)

abbrev z2 (c : Dev nD) : FVec Ideal S8256x1024 .bf16 := m ((c : Thread nD τ).loc main_arg0)
abbrev dup (c : Dev nD) : FVec Ideal S2x8256x2816 .bf16 := m ((c : Thread nD τ).loc main_arg1)

theorem idx : ∀ t : Fin cfg0.N, win0_0.index t = ![t.val % 6, 0] ∧ win0_1.index t = ![t.val / 6 / 2, t.val % 6, t.val / 6 % 2] ∧ win0_2.index t = ![t.val / 6, 0, 0] :=
  (by decide +kernel : ∀ t : Fin grid0.N, _)

theorem N0 : cfg0.N = 24 := N_0

def G (c : Dev nD) : FVec Ideal S4x1024x1408 .f32 := fun i => ∑ k : Fin 8256, z2 m c (ix2 k (i 1)) * dup m c (ix3 ⟨(i 0).val / 2, by have := (i 0).isLt; dsimp at this; omega⟩ k ⟨(i 0).val % 2 * 1408 + (i 2).val, by have := (i 2).isLt; dsimp at this; omega⟩)

/-- What point `t` adds: its 1376 rows of its quarter's product. -/
def term (c : Dev nD) (t : Fin cfg0.N) (j : S1024x1408.Idx) : EReal :=
  ∑ k : Fin 1376, z2 m c (ix2 ⟨t.val % 6 * 1376 + k.val, by omega⟩ (j 0)) * dup m c (ix3 ⟨t.val / 6 / 2, by have := N0; omega⟩ ⟨t.val % 6 * 1376 + k.val, by omega⟩ ⟨t.val / 6 % 2 * 1408 + (j 1).val, by have := (j 1).isLt; dsimp at this; omega⟩)

theorem blk0 (c : Dev nD) (t : Fin cfg0.N) (k : Fin 1376) (r : Fin 1024) :
    (iblk m c 0 t : Vec Ideal S1376x1024 .bf16) (ix2 k r)
      = z2 m c (ix2 ⟨t.val % 6 * 1376 + k.val, by omega⟩ r) := by
  blk_ext [iblk, V, idx t]

theorem blk1 (c : Dev nD) (t : Fin cfg0.N) (k : Fin 1376) (r : Fin 1408) :
    (iblk m c 1 t : Vec Ideal S1x1376x1408 .bf16) (ix3 0 k r)
      = dup m c (ix3 ⟨t.val / 6 / 2, by have := N0; omega⟩ ⟨t.val % 6 * 1376 + k.val, by omega⟩ ⟨t.val / 6 % 2 * 1408 + r.val, by omega⟩) := by
  blk_ext [iblk, V, idx t]

theorem acc_eq (c : Dev nD) (t : Fin cfg0.N) (h : t.val % 6 = 6 - 1) (j : S1024x1408.Idx) :
    (outsAt0 m c t.val t.isLt).2 j = 0 + ∑ s : Fin 6, term m c ⟨6 * (t.val / 6) + s.val, Pipeline.run_point_lt_of_flush t h s⟩ j := by
  refine Pipeline.eq_sum_fin_of_reset_step_apply_of_flush (fun n h => (outsAt0 m c n h).2) 6 (fun _ => (0 : EReal)) (term m c) (fun t h j => ?_) (fun t h j => ?_) t h j
  · rw [outsAt0_A m c t h (by omega)]
    frame_out
    unfold_payloads
    pointwise [blk0, blk1, term]
  · by_cases h5 : t.val % 6 = 5
    · rw [outsAt0_C m c t h h5]
      frame_out
      unfold_payloads
      pointwise [blk0, blk1, term, read_unread_whole]
    · rw [outsAt0_B m c t h h5]
      frame_out
      unfold_payloads
      pointwise [blk0, blk1, term, read_unread_whole]

/-- The last point of a run copies the accumulator out. -/
theorem out_eq (c : Dev nD) (t : Fin cfg0.N) (h : t.val % 6 = 5) (a : Fin 1024) (b : Fin 1408) :
    (outsAt0 m c t.val t.isLt).1 (ix3 0 a b) = (outsAt0 m c t.val t.isLt).2 (ix2 a b) := by
  rw [outsAt0_C m c t (by omega) h]
  frame_out
  unfold_payloads
  pointwise [read_unread_whole]

theorem final (c : Dev nD) : (dats m 0 c).arrAt 2 cfg0.N = G m c := by
  refine (dats m 0 c).arrAt_eq_of_covers 2 _ (by decide +kernel) fun t hf y => ?_
  blk_simp
  have h5 : t.val % 6 = 5 := (flush0_2 t).mp hf
  obtain ⟨a, b, rfl⟩ : ∃ (a : Fin 1024) (b : Fin 1408), y = (ix3 0 a b : S1x1024x1408.Idx) :=
    ⟨_, _, (eq_ix3 (y : S1x1024x1408.Idx)).trans (congrArg (fun q => ix3 q _ _) (Subsingleton.elim _ (0 : Fin 1)))⟩
  rw [after0_2, out_eq m c t h5, acc_eq m c t h5, zero_add]
  refine Fin.sum_mul_add_congr fun s k hl => ?_
  refine congrArg₂ (· * ·) ?_ ?_ <;> blk_ext [idx t]

theorem ref (c : Dev nD) : val_main_v9 (F := Ideal) (z2 m c) (dup m c) = G m c := by
  funext i
  pointwise [val_main_v9, val_main_v8, val_main_v7, val_main_v6, val_main_v3, val_main_v2, val_main_v1, val_main_v0, G]
  refine Finset.sum_congr rfl fun k _ => (mul_comm _ _).trans (congrArg₂ (· * ·) rfl ?_)
  have h0 := (i 0).isLt
  have h2 := (i 2).isLt
  dsimp at h0 h2
  blk_ext []

end Cert.Kernel7Ideal.Grad
-- ==== Proof.DFf.lean ====
module

public import proofs.«01_k».proof.Proof.Gen.Kernel8Ideal.Value
public import proofs.«01_k».proof.Proof.Gen.Reference8Ideal.Read
public import Idealize.ShloMosaic.Lib.Pipeline.ValueKit
public import Idealize.ShloMosaic.Lib.Pipeline.ReadBack
public import Idealize.ShloMosaic.Lib.Pointwise

/-! `d_ff`: a block of 1032 rows and 1408 columns is those of `dh2 @ w_downᵀ`; so is the array, and so is the reference. -/

@[expose] public section

set_option maxRecDepth 16384

noncomputable section

namespace Cert.Kernel8Ideal.Grad

open Cert.Kernel8Ideal Cert.Kernel8Ideal.Gen Cert.Reference8Ideal.Read
open Idealize.ShloMosaic Idealize.ShloMosaic.TcCoe Idealize.SL.Sem

variable (m : (ℓ : Loc nD τ sig) → Buf (Elt Ideal) ℓ)

abbrev dh2 (c : Dev nD) : FVec Ideal S8256x1024 .f32 := m ((c : Thread nD τ).loc main_arg0)
abbrev w (c : Dev nD) : FVec Ideal S2816x1024 .bf16 := m ((c : Thread nD τ).loc main_arg1)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

def G (c : Dev nD) : FVec Ideal S8256x2816 .f32 := fun i => ∑ k : Fin 1024, dh2 m c (ix2 (i 0) k) * w m c (ix2 (i 1) k)

theorem final2 (c : Dev nD) : (dats m 0 c).arrAt 2 cfg0.N = G m c := by
  refine (dats m 0 c).arrAt_eq_of_covers 2 _ (by decide +kernel) fun t hf y => ?_
  blk_simp
  rw [after0_2]
  unfold outsAt0
  frame_out
  unfold_payloads
  pointwise [G]
  blk_point [iblk, V, idx t]

theorem ref2 (c : Dev nD) : val_main_v3 (F := Ideal) (dh2 m c) (w m c) = G m c := by
  funext i
  pointwise [val_main_v3, val_main_v1, G]

end Cert.Kernel8Ideal.Grad
-- ==== Proof.DwDown.lean ====
module

public import proofs.«01_k».proof.Proof.Gen.Kernel11Ideal.Value
public import proofs.«01_k».proof.Proof.Gen.Reference11Ideal.Read
public import Idealize.ShloMosaic.Lib.Pipeline.ValueKit
public import Idealize.ShloMosaic.Lib.Pipeline.ReadBack
public import Idealize.ShloMosaic.Lib.Pointwise

/-! `dw_down`: each half of the columns is summed over twelve blocks of 688 rows; the sum is the whole product, and so is the reference. -/

@[expose] public section

set_option maxRecDepth 16384

noncomputable section

namespace Cert.Kernel11Ideal.Grad

open Cert.Kernel11Ideal Cert.Kernel11Ideal.Gen Cert.Reference11Ideal.Read
open Idealize.ShloMosaic Idealize.ShloMosaic.TcCoe Idealize.SL.Sem

variable (m : (ℓ : Loc nD τ sig) → Buf (Elt Ideal) ℓ)

abbrev ff (c : Dev nD) : FVec Ideal S8256x2816 .bf16 := m ((c : Thread nD τ).loc main_arg0)
abbrev dh2 (c : Dev nD) : FVec Ideal S8256x1024 .f32 := m ((c : Thread nD τ).loc main_arg1)

theorem idx : ∀ t : Fin cfg0.N, win0_0.index t = ![t.val % 12, 0] ∧ win0_1.index t = ![t.val % 12, t.val / 12] ∧ win0_2.index t = ![0, t.val / 12] :=
  (by decide +kernel : ∀ t : Fin grid0.N, _)

theorem N0 : cfg0.N = 24 := N_0

def G (c : Dev nD) : FVec Ideal S2816x1024 .f32 := fun i => ∑ k : Fin 8256, ff m c (ix2 k (i 0)) * dh2 m c (ix2 k (i 1))

/-- What point `t` adds: its 688 rows of its half's product. -/
def term (c : Dev nD) (t : Fin cfg0.N) (j : S2816x512.Idx) : EReal :=
  ∑ k : Fin 688, ff m c (ix2 ⟨t.val % 12 * 688 + k.val, by omega⟩ (j 0)) * dh2 m c (ix2 ⟨t.val % 12 * 688 + k.val, by omega⟩ ⟨t.val / 12 * 512 + (j 1).val, by have := N0; have := (j 1).isLt; dsimp at this; omega⟩)

theorem blk0 (c : Dev nD) (t : Fin cfg0.N) (k : Fin 688) (r : Fin 2816) :
    (iblk m c 0 t : Vec Ideal S688x2816 .bf16) (ix2 k r)
      = ff m c (ix2 ⟨t.val % 12 * 688 + k.val, by omega⟩ r) := by
  blk_ext [iblk, V, idx t]

theorem blk1 (c : Dev nD) (t : Fin cfg0.N) (k : Fin 688) (r : Fin 512) :
    (iblk m c 1 t : Vec Ideal S688x512 .f32) (ix2 k r)
      = dh2 m c (ix2 ⟨t.val % 12 * 688 + k.val, by omega⟩ ⟨t.val / 12 * 512 + r.val, by have := N0; omega⟩) := by
  blk_ext [iblk, V, idx t]

theorem acc_eq (c : Dev nD) (t : Fin cfg0.N) (h : t.val % 12 = 12 - 1) (j : S2816x512.Idx) :
    (outsAt0 m c t.val t.isLt).2 j = 0 + ∑ s : Fin 12, term m c ⟨12 * (t.val / 12) + s.val, Pipeline.run_point_lt_of_flush t h s⟩ j := by
  refine Pipeline.eq_sum_fin_of_reset_step_apply_of_flush (fun n h => (outsAt0 m c n h).2) 12 (fun _ => (0 : EReal)) (term m c) (fun t h j => ?_) (fun t h j => ?_) t h j
  · rw [outsAt0_A m c t h (by omega)]
    frame_out
    unfold_payloads
    pointwise [blk0, blk1, term]
  · by_cases h5 : t.val % 12 = 11
    · rw [outsAt0_C m c t h h5]
      frame_out
      unfold_payloads
      pointwise [blk0, blk1, term, read_unread_whole]
    · rw [outsAt0_B m c t h h5]
      frame_out
      unfold_payloads
      pointwise [blk0, blk1, term, read_unread_whole]

/-- The last point of a run copies the accumulator out. -/
theorem out_eq (c : Dev nD) (t : Fin cfg0.N) (h : t.val % 12 = 11) (a : Fin 2816) (b : Fin 512) :
    (outsAt0 m c t.val t.isLt).1 (ix2 a b) = (outsAt0 m c t.val t.isLt).2 (ix2 a b) := by
  rw [outsAt0_C m c t (by omega) h]
  frame_out

theorem final (c : Dev nD) : (dats m 0 c).arrAt 2 cfg0.N = G m c := by
  refine (dats m 0 c).arrAt_eq_of_covers 2 _ (by decide +kernel) fun t hf y => ?_
  blk_simp
  have h5 : t.val % 12 = 11 := (flush0_2 t).mp hf
  obtain ⟨a, b, rfl⟩ : ∃ (a : Fin 2816) (b : Fin 512), y = (ix2 a b : S2816x512.Idx) := ⟨_, _, eq_ix2 (y : S2816x512.Idx)⟩
  rw [after0_2, out_eq m c t h5, acc_eq m c t h5, zero_add]
  refine Fin.sum_mul_add_congr fun s k hl => ?_
  refine congrArg₂ (· * ·) ?_ ?_ <;> blk_ext [idx t]

theorem ref (c : Dev nD) : val_main_v4 (F := Ideal) (ff m c) (dh2 m c) = G m c := by
  funext i
  pointwise [val_main_v4, val_main_v3, val_main_v0, G]
  exact Finset.sum_congr rfl fun k _ => mul_comm _ _

end Cert.Kernel11Ideal.Grad
-- ==== Proof.DwOut.lean ====
module

public import proofs.«01_k».proof.Proof.Gen.Kernel12Ideal.Value
public import proofs.«01_k».proof.Proof.Gen.Reference12Ideal.Read
public import Idealize.ShloMosaic.Lib.Pipeline.ValueKit
public import Idealize.ShloMosaic.Lib.Pipeline.ReadBack
public import Idealize.ShloMosaic.Lib.Pointwise

/-! `dw_out`: the product is summed over six blocks of 1376 rows; the sum is the whole product, and so is the reference. -/

@[expose] public section

set_option maxRecDepth 16384

noncomputable section

namespace Cert.Kernel12Ideal.Grad

open Cert.Kernel12Ideal Cert.Kernel12Ideal.Gen Cert.Reference12Ideal.Read
open Idealize.ShloMosaic Idealize.ShloMosaic.TcCoe Idealize.SL.Sem

variable (m : (ℓ : Loc nD τ sig) → Buf (Elt Ideal) ℓ)

abbrev mg (c : Dev nD) : FVec Ideal S8256x1024 .bf16 := m ((c : Thread nD τ).loc main_arg0)
abbrev dh1 (c : Dev nD) : FVec Ideal S8256x1024 .f32 := m ((c : Thread nD τ).loc main_arg1)

theorem idx : ∀ t : Fin cfg0.N, win0_0.index t = ![t.val % 6, 0] ∧ win0_1.index t = ![t.val % 6, 0] ∧ win0_2.index t = ![0, 0] :=
  (by decide +kernel : ∀ t : Fin grid0.N, _)

theorem N0 : cfg0.N = 6 := N_0

def G (c : Dev nD) : FVec Ideal S1024x1024 .f32 := fun i => ∑ k : Fin 8256, mg m c (ix2 k (i 0)) * dh1 m c (ix2 k (i 1))

/-- What point `t` adds: its 1376 rows of the product. -/
def term (c : Dev nD) (t : Fin cfg0.N) (j : S1024x1024.Idx) : EReal :=
  ∑ k : Fin 1376, mg m c (ix2 ⟨t.val % 6 * 1376 + k.val, by omega⟩ (j 0)) * dh1 m c (ix2 ⟨t.val % 6 * 1376 + k.val, by omega⟩ (j 1))

theorem blk0 (c : Dev nD) (t : Fin cfg0.N) (k : Fin 1376) (r : Fin 1024) :
    (iblk m c 0 t : Vec Ideal S1376x1024 .bf16) (ix2 k r)
      = mg m c (ix2 ⟨t.val % 6 * 1376 + k.val, by omega⟩ r) := by
  blk_ext [iblk, V, idx t]

theorem blk1 (c : Dev nD) (t : Fin cfg0.N) (k : Fin 1376) (r : Fin 1024) :
    (iblk m c 1 t : Vec Ideal S1376x1024 .f32) (ix2 k r)
      = dh1 m c (ix2 ⟨t.val % 6 * 1376 + k.val, by omega⟩ r) := by
  blk_ext [iblk, V, idx t]

theorem acc_eq (c : Dev nD) (t : Fin cfg0.N) (h : t.val % 6 = 6 - 1) (j : S1024x1024.Idx) :
    (outsAt0 m c t.val t.isLt).2 j = 0 + ∑ s : Fin 6, term m c ⟨6 * (t.val / 6) + s.val, Pipeline.run_point_lt_of_flush t h s⟩ j := by
  refine Pipeline.eq_sum_fin_of_reset_step_apply_of_flush (fun n h => (outsAt0 m c n h).2) 6 (fun _ => (0 : EReal)) (term m c) (fun t h j => ?_) (fun t h j => ?_) t h j
  · rw [outsAt0_A m c t h (by omega)]
    frame_out
    unfold_payloads
    pointwise [blk0, blk1, term]
  · by_cases h5 : t.val % 6 = 5
    · rw [outsAt0_C m c t h h5]
      frame_out
      unfold_payloads
      pointwise [blk0, blk1, term, read_unread_whole]
    · rw [outsAt0_B m c t h h5]
      frame_out
      unfold_payloads
      pointwise [blk0, blk1, term, read_unread_whole]

/-- The last point of a run copies the accumulator out. -/
theorem out_eq (c : Dev nD) (t : Fin cfg0.N) (h : t.val % 6 = 5) (a : Fin 1024) (b : Fin 1024) :
    (outsAt0 m c t.val t.isLt).1 (ix2 a b) = (outsAt0 m c t.val t.isLt).2 (ix2 a b) := by
  rw [outsAt0_C m c t (by omega) h]
  frame_out

theorem final (c : Dev nD) : (dats m 0 c).arrAt 2 cfg0.N = G m c := by
  refine (dats m 0 c).arrAt_eq_of_covers 2 _ (by decide +kernel) fun t hf y => ?_
  blk_simp
  have h5 : t.val % 6 = 5 := (flush0_2 t).mp hf
  obtain ⟨a, b, rfl⟩ : ∃ (a : Fin 1024) (b : Fin 1024), y = (ix2 a b : S1024x1024.Idx) := ⟨_, _, eq_ix2 (y : S1024x1024.Idx)⟩
  rw [after0_2, out_eq m c t h5, acc_eq m c t h5, zero_add]
  refine Fin.sum_mul_add_congr fun s k hl => ?_
  refine congrArg₂ (· * ·) ?_ ?_ <;> blk_ext [idx t]

theorem ref (c : Dev nD) : val_main_v4 (F := Ideal) (mg m c) (dh1 m c) = G m c := by
  funext i
  pointwise [val_main_v4, val_main_v3, val_main_v0, G]
  exact Finset.sum_congr rfl fun k _ => mul_comm _ _

end Cert.Kernel12Ideal.Grad
-- ==== Proof.DwSp.lean ====
module

public import proofs.«01_k».proof.Proof.Gen.Kernel13Ideal.Value
public import proofs.«01_k».proof.Proof.Gen.Reference13Ideal.Read
public import Idealize.ShloMosaic.Lib.Pipeline.ValueKit
public import Idealize.ShloMosaic.Lib.Pipeline.ReadBack
public import Idealize.ShloMosaic.Lib.Pointwise

/-! `dw_ssm_proj`: the product is summed over six blocks of 1376 rows; the sum is the whole product, and so is the reference. -/

@[expose] public section

set_option maxRecDepth 16384

noncomputable section

namespace Cert.Kernel13Ideal.Grad

open Cert.Kernel13Ideal Cert.Kernel13Ideal.Gen Cert.Reference13Ideal.Read
open Idealize.ShloMosaic Idealize.ShloMosaic.TcCoe Idealize.SL.Sem

variable (m : (ℓ : Loc nD τ sig) → Buf (Elt Ideal) ℓ)

abbrev ya (c : Dev nD) : FVec Ideal S8256x1024 .bf16 := m ((c : Thread nD τ).loc main_arg0)
abbrev dpa (c : Dev nD) : FVec Ideal S8256x1024 .bf16 := m ((c : Thread nD τ).loc main_arg1)

theorem idx : ∀ t : Fin cfg0.N, win0_0.index t = ![t.val % 6, 0] ∧ win0_1.index t = ![t.val % 6, 0] ∧ win0_2.index t = ![0, 0] :=
  (by decide +kernel : ∀ t : Fin grid0.N, _)

theorem N0 : cfg0.N = 6 := N_0

def G (c : Dev nD) : FVec Ideal S1024x1024 .f32 := fun i => ∑ k : Fin 8256, ya m c (ix2 k (i 0)) * dpa m c (ix2 k (i 1))

/-- What point `t` adds: its 1376 rows of the product. -/
def term (c : Dev nD) (t : Fin cfg0.N) (j : S1024x1024.Idx) : EReal :=
  ∑ k : Fin 1376, ya m c (ix2 ⟨t.val % 6 * 1376 + k.val, by omega⟩ (j 0)) * dpa m c (ix2 ⟨t.val % 6 * 1376 + k.val, by omega⟩ (j 1))

theorem blk0 (c : Dev nD) (t : Fin cfg0.N) (k : Fin 1376) (r : Fin 1024) :
    (iblk m c 0 t : Vec Ideal S1376x1024 .bf16) (ix2 k r)
      = ya m c (ix2 ⟨t.val % 6 * 1376 + k.val, by omega⟩ r) := by
  blk_ext [iblk, V, idx t]

theorem blk1 (c : Dev nD) (t : Fin cfg0.N) (k : Fin 1376) (r : Fin 1024) :
    (iblk m c 1 t : Vec Ideal S1376x1024 .bf16) (ix2 k r)
      = dpa m c (ix2 ⟨t.val % 6 * 1376 + k.val, by omega⟩ r) := by
  blk_ext [iblk, V, idx t]

theorem acc_eq (c : Dev nD) (t : Fin cfg0.N) (h : t.val % 6 = 6 - 1) (j : S1024x1024.Idx) :
    (outsAt0 m c t.val t.isLt).2 j = 0 + ∑ s : Fin 6, term m c ⟨6 * (t.val / 6) + s.val, Pipeline.run_point_lt_of_flush t h s⟩ j := by
  refine Pipeline.eq_sum_fin_of_reset_step_apply_of_flush (fun n h => (outsAt0 m c n h).2) 6 (fun _ => (0 : EReal)) (term m c) (fun t h j => ?_) (fun t h j => ?_) t h j
  · rw [outsAt0_A m c t h (by omega)]
    frame_out
    unfold_payloads
    pointwise [blk0, blk1, term]
  · by_cases h5 : t.val % 6 = 5
    · rw [outsAt0_C m c t h h5]
      frame_out
      unfold_payloads
      pointwise [blk0, blk1, term, read_unread_whole]
    · rw [outsAt0_B m c t h h5]
      frame_out
      unfold_payloads
      pointwise [blk0, blk1, term, read_unread_whole]

/-- The last point of a run copies the accumulator out. -/
theorem out_eq (c : Dev nD) (t : Fin cfg0.N) (h : t.val % 6 = 5) (a : Fin 1024) (b : Fin 1024) :
    (outsAt0 m c t.val t.isLt).1 (ix2 a b) = (outsAt0 m c t.val t.isLt).2 (ix2 a b) := by
  rw [outsAt0_C m c t (by omega) h]
  frame_out

theorem final (c : Dev nD) : (dats m 0 c).arrAt 2 cfg0.N = G m c := by
  refine (dats m 0 c).arrAt_eq_of_covers 2 _ (by decide +kernel) fun t hf y => ?_
  blk_simp
  have h5 : t.val % 6 = 5 := (flush0_2 t).mp hf
  obtain ⟨a, b, rfl⟩ : ∃ (a : Fin 1024) (b : Fin 1024), y = (ix2 a b : S1024x1024.Idx) := ⟨_, _, eq_ix2 (y : S1024x1024.Idx)⟩
  rw [after0_2, out_eq m c t h5, acc_eq m c t h5, zero_add]
  refine Fin.sum_mul_add_congr fun s k hl => ?_
  refine congrArg₂ (· * ·) ?_ ?_ <;> blk_ext [idx t]

theorem ref (c : Dev nD) : val_main_v5 (F := Ideal) (ya m c) (dpa m c) = G m c := by
  funext i
  pointwise [val_main_v5, val_main_v4, val_main_v3, val_main_v0, G]
  exact Finset.sum_congr rfl fun k _ => mul_comm _ _

end Cert.Kernel13Ideal.Grad
-- ==== Proof.DwHp.lean ====
module

public import proofs.«01_k».proof.Proof.Gen.Kernel14Ideal.Value
public import proofs.«01_k».proof.Proof.Gen.Reference14Ideal.Read
public import Idealize.ShloMosaic.Lib.Pipeline.ValueKit
public import Idealize.ShloMosaic.Lib.Pipeline.ReadBack
public import Idealize.ShloMosaic.Lib.Pointwise

/-! `dw_hgrn_proj`: the product is summed over six blocks of 1376 rows; the sum is the whole product, and so is the reference. -/

@[expose] public section

set_option maxRecDepth 16384

noncomputable section

namespace Cert.Kernel14Ideal.Grad

open Cert.Kernel14Ideal Cert.Kernel14Ideal.Gen Cert.Reference14Ideal.Read
open Idealize.ShloMosaic Idealize.ShloMosaic.TcCoe Idealize.SL.Sem

variable (m : (ℓ : Loc nD τ sig) → Buf (Elt Ideal) ℓ)

abbrev yb (c : Dev nD) : FVec Ideal S8256x1024 .bf16 := m ((c : Thread nD τ).loc main_arg0)
abbrev dpb (c : Dev nD) : FVec Ideal S8256x1024 .bf16 := m ((c : Thread nD τ).loc main_arg1)

theorem idx : ∀ t : Fin cfg0.N, win0_0.index t = ![t.val % 6, 0] ∧ win0_1.index t = ![t.val % 6, 0] ∧ win0_2.index t = ![0, 0] :=
  (by decide +kernel : ∀ t : Fin grid0.N, _)

theorem N0 : cfg0.N = 6 := N_0

def G (c : Dev nD) : FVec Ideal S1024x1024 .f32 := fun i => ∑ k : Fin 8256, yb m c (ix2 k (i 0)) * dpb m c (ix2 k (i 1))

/-- What point `t` adds: its 1376 rows of the product. -/
def term (c : Dev nD) (t : Fin cfg0.N) (j : S1024x1024.Idx) : EReal :=
  ∑ k : Fin 1376, yb m c (ix2 ⟨t.val % 6 * 1376 + k.val, by omega⟩ (j 0)) * dpb m c (ix2 ⟨t.val % 6 * 1376 + k.val, by omega⟩ (j 1))

theorem blk0 (c : Dev nD) (t : Fin cfg0.N) (k : Fin 1376) (r : Fin 1024) :
    (iblk m c 0 t : Vec Ideal S1376x1024 .bf16) (ix2 k r)
      = yb m c (ix2 ⟨t.val % 6 * 1376 + k.val, by omega⟩ r) := by
  blk_ext [iblk, V, idx t]

theorem blk1 (c : Dev nD) (t : Fin cfg0.N) (k : Fin 1376) (r : Fin 1024) :
    (iblk m c 1 t : Vec Ideal S1376x1024 .bf16) (ix2 k r)
      = dpb m c (ix2 ⟨t.val % 6 * 1376 + k.val, by omega⟩ r) := by
  blk_ext [iblk, V, idx t]

theorem acc_eq (c : Dev nD) (t : Fin cfg0.N) (h : t.val % 6 = 6 - 1) (j : S1024x1024.Idx) :
    (outsAt0 m c t.val t.isLt).2 j = 0 + ∑ s : Fin 6, term m c ⟨6 * (t.val / 6) + s.val, Pipeline.run_point_lt_of_flush t h s⟩ j := by
  refine Pipeline.eq_sum_fin_of_reset_step_apply_of_flush (fun n h => (outsAt0 m c n h).2) 6 (fun _ => (0 : EReal)) (term m c) (fun t h j => ?_) (fun t h j => ?_) t h j
  · rw [outsAt0_A m c t h (by omega)]
    frame_out
    unfold_payloads
    pointwise [blk0, blk1, term]
  · by_cases h5 : t.val % 6 = 5
    · rw [outsAt0_C m c t h h5]
      frame_out
      unfold_payloads
      pointwise [blk0, blk1, term, read_unread_whole]
    · rw [outsAt0_B m c t h h5]
      frame_out
      unfold_payloads
      pointwise [blk0, blk1, term, read_unread_whole]

/-- The last point of a run copies the accumulator out. -/
theorem out_eq (c : Dev nD) (t : Fin cfg0.N) (h : t.val % 6 = 5) (a : Fin 1024) (b : Fin 1024) :
    (outsAt0 m c t.val t.isLt).1 (ix2 a b) = (outsAt0 m c t.val t.isLt).2 (ix2 a b) := by
  rw [outsAt0_C m c t (by omega) h]
  frame_out

theorem final (c : Dev nD) : (dats m 0 c).arrAt 2 cfg0.N = G m c := by
  refine (dats m 0 c).arrAt_eq_of_covers 2 _ (by decide +kernel) fun t hf y => ?_
  blk_simp
  have h5 : t.val % 6 = 5 := (flush0_2 t).mp hf
  obtain ⟨a, b, rfl⟩ : ∃ (a : Fin 1024) (b : Fin 1024), y = (ix2 a b : S1024x1024.Idx) := ⟨_, _, eq_ix2 (y : S1024x1024.Idx)⟩
  rw [after0_2, out_eq m c t h5, acc_eq m c t h5, zero_add]
  refine Fin.sum_mul_add_congr fun s k hl => ?_
  refine congrArg₂ (· * ·) ?_ ?_ <;> blk_ext [idx t]

theorem ref (c : Dev nD) : val_main_v5 (F := Ideal) (yb m c) (dpb m c) = G m c := by
  funext i
  pointwise [val_main_v5, val_main_v4, val_main_v3, val_main_v0, G]
  exact Finset.sum_congr rfl fun k _ => mul_comm _ _

end Cert.Kernel14Ideal.Grad
-- ==== Proof.DwGlu.lean ====
module

public import proofs.«01_k».proof.Proof.Gen.Kernel15Ideal.Value
public import proofs.«01_k».proof.Proof.Gen.Reference15Ideal.Read
public import Idealize.ShloMosaic.Lib.Pipeline.ValueKit
public import Idealize.ShloMosaic.Lib.Pipeline.ReadBack
public import Idealize.ShloMosaic.Lib.Pointwise

/-! `dw_glu`: the product is summed over six blocks of 1376 rows; the sum is the whole product, and so is the reference. -/

@[expose] public section

set_option maxRecDepth 16384

noncomputable section

namespace Cert.Kernel15Ideal.Grad

open Cert.Kernel15Ideal Cert.Kernel15Ideal.Gen Cert.Reference15Ideal.Read
open Idealize.ShloMosaic Idealize.ShloMosaic.TcCoe Idealize.SL.Sem

variable (m : (ℓ : Loc nD τ sig) → Buf (Elt Ideal) ℓ)

abbrev ya0 (c : Dev nD) : FVec Ideal S8256x1024 .f32 := m ((c : Thread nD τ).loc main_arg0)
abbrev dgl (c : Dev nD) : FVec Ideal S8256x1024 .bf16 := m ((c : Thread nD τ).loc main_arg1)

theorem idx : ∀ t : Fin cfg0.N, win0_0.index t = ![t.val % 6, 0] ∧ win0_1.index t = ![t.val % 6, 0] ∧ win0_2.index t = ![0, 0] :=
  (by decide +kernel : ∀ t : Fin grid0.N, _)

theorem N0 : cfg0.N = 6 := N_0

def G (c : Dev nD) : FVec Ideal S1024x1024 .f32 := fun i => ∑ k : Fin 8256, ya0 m c (ix2 k (i 0)) * dgl m c (ix2 k (i 1))

/-- What point `t` adds: its 1376 rows of the product. -/
def term (c : Dev nD) (t : Fin cfg0.N) (j : S1024x1024.Idx) : EReal :=
  ∑ k : Fin 1376, ya0 m c (ix2 ⟨t.val % 6 * 1376 + k.val, by omega⟩ (j 0)) * dgl m c (ix2 ⟨t.val % 6 * 1376 + k.val, by omega⟩ (j 1))

theorem blk0 (c : Dev nD) (t : Fin cfg0.N) (k : Fin 1376) (r : Fin 1024) :
    (iblk m c 0 t : Vec Ideal S1376x1024 .f32) (ix2 k r)
      = ya0 m c (ix2 ⟨t.val % 6 * 1376 + k.val, by omega⟩ r) := by
  blk_ext [iblk, V, idx t]

theorem blk1 (c : Dev nD) (t : Fin cfg0.N) (k : Fin 1376) (r : Fin 1024) :
    (iblk m c 1 t : Vec Ideal S1376x1024 .bf16) (ix2 k r)
      = dgl m c (ix2 ⟨t.val % 6 * 1376 + k.val, by omega⟩ r) := by
  blk_ext [iblk, V, idx t]

theorem acc_eq (c : Dev nD) (t : Fin cfg0.N) (h : t.val % 6 = 6 - 1) (j : S1024x1024.Idx) :
    (outsAt0 m c t.val t.isLt).2 j = 0 + ∑ s : Fin 6, term m c ⟨6 * (t.val / 6) + s.val, Pipeline.run_point_lt_of_flush t h s⟩ j := by
  refine Pipeline.eq_sum_fin_of_reset_step_apply_of_flush (fun n h => (outsAt0 m c n h).2) 6 (fun _ => (0 : EReal)) (term m c) (fun t h j => ?_) (fun t h j => ?_) t h j
  · rw [outsAt0_A m c t h (by omega)]
    frame_out
    unfold_payloads
    pointwise [blk0, blk1, term]
  · by_cases h5 : t.val % 6 = 5
    · rw [outsAt0_C m c t h h5]
      frame_out
      unfold_payloads
      pointwise [blk0, blk1, term, read_unread_whole]
    · rw [outsAt0_B m c t h h5]
      frame_out
      unfold_payloads
      pointwise [blk0, blk1, term, read_unread_whole]

/-- The last point of a run copies the accumulator out. -/
theorem out_eq (c : Dev nD) (t : Fin cfg0.N) (h : t.val % 6 = 5) (a : Fin 1024) (b : Fin 1024) :
    (outsAt0 m c t.val t.isLt).1 (ix2 a b) = (outsAt0 m c t.val t.isLt).2 (ix2 a b) := by
  rw [outsAt0_C m c t (by omega) h]
  frame_out

theorem final (c : Dev nD) : (dats m 0 c).arrAt 2 cfg0.N = G m c := by
  refine (dats m 0 c).arrAt_eq_of_covers 2 _ (by decide +kernel) fun t hf y => ?_
  blk_simp
  have h5 : t.val % 6 = 5 := (flush0_2 t).mp hf
  obtain ⟨a, b, rfl⟩ : ∃ (a : Fin 1024) (b : Fin 1024), y = (ix2 a b : S1024x1024.Idx) := ⟨_, _, eq_ix2 (y : S1024x1024.Idx)⟩
  rw [after0_2, out_eq m c t h5, acc_eq m c t h5, zero_add]
  refine Fin.sum_mul_add_congr fun s k hl => ?_
  refine congrArg₂ (· * ·) ?_ ?_ <;> blk_ext [idx t]

theorem ref (c : Dev nD) : val_main_v4 (F := Ideal) (ya0 m c) (dgl m c) = G m c := by
  funext i
  pointwise [val_main_v4, val_main_v3, val_main_v2, G]
  exact Finset.sum_congr rfl fun k _ => mul_comm _ _

end Cert.Kernel15Ideal.Grad
-- ==== Proof.DYb.lean ====
module

public import proofs.«01_k».proof.Proof.Gen.Kernel16Ideal.Value
public import proofs.«01_k».proof.Proof.Gen.Reference16Ideal.Read
public import Idealize.ShloMosaic.Lib.Pipeline.ValueKit
public import Idealize.ShloMosaic.Lib.Pipeline.ReadBack
public import Idealize.ShloMosaic.Lib.Pointwise

/-! `d_yb`: a block of 1032 rows is its rows of `dpb` times `w_hgrn_projᵀ`; so is the array, and so is the reference. -/

@[expose] public section

set_option maxRecDepth 16384

noncomputable section

namespace Cert.Kernel16Ideal.Grad

open Cert.Kernel16Ideal Cert.Kernel16Ideal.Gen Cert.Reference16Ideal.Read
open Idealize.ShloMosaic Idealize.ShloMosaic.TcCoe Idealize.SL.Sem

variable (m : (ℓ : Loc nD τ sig) → Buf (Elt Ideal) ℓ)

abbrev dpb (c : Dev nD) : FVec Ideal S8256x1024 .bf16 := m ((c : Thread nD τ).loc main_arg0)
abbrev w (c : Dev nD) : FVec Ideal S1024x1024 .bf16 := m ((c : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

def G (c : Dev nD) : FVec Ideal S8256x1024 .f32 := fun i => ∑ k : Fin 1024, dpb m c (ix2 (i 0) k) * w m c (ix2 (i 1) k)

theorem final2 (c : Dev nD) : (dats m 0 c).arrAt 2 cfg0.N = G m c := by
  refine (dats m 0 c).arrAt_eq_of_covers 2 _ (by decide +kernel) fun t hf y => ?_
  blk_simp
  rw [after0_2]
  unfold outsAt0
  frame_out
  unfold_payloads
  pointwise [G]
  blk_point [iblk, V, idx t]

theorem ref2 (c : Dev nD) : val_main_v4 (F := Ideal) (dpb m c) (w m c) = G m c := by
  funext i
  pointwise [val_main_v4, val_main_v3, val_main_v1, G]

end Cert.Kernel16Ideal.Grad
-- ==== Proof.DYa0.lean ====
module

public import proofs.«01_k».proof.Proof.Gen.Kernel17Ideal.Value
public import proofs.«01_k».proof.Proof.Gen.Reference17Ideal.Read
public import Idealize.ShloMosaic.Lib.Pipeline.ValueKit
public import Idealize.ShloMosaic.Lib.Pipeline.ReadBack
public import Idealize.ShloMosaic.Lib.Pointwise

/-! `d_ya0`: a block of 1032 rows is its rows of `direct + dgl @ w_gluᵀ`; so is the array, and so is the reference. -/

@[expose] public section

set_option maxRecDepth 16384

noncomputable section

namespace Cert.Kernel17Ideal.Grad

open Cert.Kernel17Ideal Cert.Kernel17Ideal.Gen Cert.Reference17Ideal.Read
open Idealize.ShloMosaic Idealize.ShloMosaic.TcCoe Idealize.SL.Sem

variable (m : (ℓ : Loc nD τ sig) → Buf (Elt Ideal) ℓ)

abbrev dgl (c : Dev nD) : FVec Ideal S8256x1024 .bf16 := m ((c : Thread nD τ).loc main_arg0)
abbrev w (c : Dev nD) : FVec Ideal S1024x1024 .bf16 := m ((c : Thread nD τ).loc main_arg1)
abbrev direct (c : Dev nD) : FVec Ideal S8256x1024 .f32 := m ((c : Thread nD τ).loc main_arg2)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

def G (c : Dev nD) : FVec Ideal S8256x1024 .f32 := fun i => direct m c i + ∑ k : Fin 1024, dgl m c (ix2 (i 0) k) * w m c (ix2 (i 1) k)

theorem final3 (c : Dev nD) : (dats m 0 c).arrAt 3 cfg0.N = G m c := by
  refine (dats m 0 c).arrAt_eq_of_covers 3 _ (by decide +kernel) fun t hf y => ?_
  blk_simp
  rw [after0_3]
  unfold outsAt0
  frame_out
  unfold_payloads
  pointwise [G]
  blk_point [iblk, V, idx t]

theorem ref3 (c : Dev nD) : val_main_v5 (F := Ideal) (dgl m c) (w m c) (direct m c) = G m c := by
  funext i
  pointwise [val_main_v5, val_main_v4, val_main_v3, val_main_v1, G]

end Cert.Kernel17Ideal.Grad
-- ==== Proof.UpProj.lean ====
module

public import proofs.«01_k».proof.Proof.Gen.Kernel9Ideal.Value
public import proofs.«01_k».proof.Proof.Gen.Reference9Ideal.Read
public import Idealize.ShloMosaic.Lib.Pipeline.ValueKit
public import Idealize.ShloMosaic.Lib.Pipeline.ReadBack
public import Idealize.ShloMosaic.Lib.Pointwise

/-! `up_proj`: a block of 2064 rows and 1408 columns is those of `z2 @ w_up`; so is the array, and so is the reference. -/

@[expose] public section

set_option maxRecDepth 16384

noncomputable section

namespace Cert.Kernel9Ideal.Grad

open Cert.Kernel9Ideal Cert.Kernel9Ideal.Gen Cert.Reference9Ideal.Read
open Idealize.ShloMosaic Idealize.ShloMosaic.TcCoe Idealize.SL.Sem

variable (m : (ℓ : Loc nD τ sig) → Buf (Elt Ideal) ℓ)

abbrev z2 (c : Dev nD) : FVec Ideal S8256x1024 .bf16 := m ((c : Thread nD τ).loc main_arg0)
abbrev w (c : Dev nD) : FVec Ideal S1024x5632 .bf16 := m ((c : Thread nD τ).loc main_arg1)

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

def G (c : Dev nD) : FVec Ideal S8256x5632 .f32 := fun i => ∑ k : Fin 1024, z2 m c (ix2 (i 0) k) * w m c (ix2 k (i 1))

theorem final2 (c : Dev nD) : (dats m 0 c).arrAt 2 cfg0.N = G m c := by
  refine (dats m 0 c).arrAt_eq_of_covers 2 _ (by decide +kernel) fun t hf y => ?_
  blk_simp
  rw [after0_2]
  unfold outsAt0
  frame_out
  unfold_payloads
  pointwise [G]
  blk_point [iblk, V, idx t]

theorem ref2 (c : Dev nD) : val_main_v2 (F := Ideal) (z2 m c) (w m c) = G m c := by
  funext i
  pointwise [val_main_v2, val_main_v1, val_main_v0, G]

end Cert.Kernel9Ideal.Grad
-- ==== Proof.DownProj.lean ====
module

public import proofs.«01_k».proof.Proof.Gen.Kernel10Ideal.Value
public import proofs.«01_k».proof.Proof.Gen.Reference10Ideal.Read
public import Idealize.ShloMosaic.Lib.Pipeline.ValueKit
public import Idealize.ShloMosaic.Lib.Pipeline.ReadBack
public import Idealize.ShloMosaic.Lib.Pointwise

/-! `down_proj`: a block of 1032 rows is summed over the two halves of the inner axis and added to `h1`; so is the array, and so is the reference. -/

@[expose] public section

set_option maxRecDepth 16384

noncomputable section

namespace Cert.Kernel10Ideal.Grad

open Cert.Kernel10Ideal Cert.Kernel10Ideal.Gen Cert.Reference10Ideal.Read
open Idealize.ShloMosaic Idealize.ShloMosaic.TcCoe Idealize.SL.Sem

variable (m : (ℓ : Loc nD τ sig) → Buf (Elt Ideal) ℓ)

abbrev ff (c : Dev nD) : FVec Ideal S8256x2816 .bf16 := m ((c : Thread nD τ).loc main_arg0)
abbrev w (c : Dev nD) : FVec Ideal S2816x1024 .bf16 := m ((c : Thread nD τ).loc main_arg1)
abbrev h1 (c : Dev nD) : FVec Ideal S8256x1024 .f32 := m ((c : Thread nD τ).loc main_arg2)

theorem idx : ∀ t : Fin cfg0.N, win0_0.index t = ![t.val / 2, t.val % 2] ∧ win0_1.index t = ![t.val % 2, 0] ∧ win0_2.index t = ![t.val / 2, 0] ∧ win0_3.index t = ![t.val / 2, 0] :=
  (by decide +kernel : ∀ t : Fin grid0.N, _)

theorem N0 : cfg0.N = 16 := N_0

def G (c : Dev nD) : FVec Ideal S8256x1024 .f32 := fun i => h1 m c i + ∑ k : Fin 2816, ff m c (ix2 (i 0) k) * w m c (ix2 k (i 1))

/-- What point `t` adds: its half of the product of its rows. -/
def term (c : Dev nD) (t : Fin cfg0.N) (j : S1032x1024.Idx) : EReal :=
  ∑ k : Fin 1408, ff m c (ix2 ⟨t.val / 2 * 1032 + (j 0).val, by have := N0; have := (j 0).isLt; dsimp at this; omega⟩ ⟨t.val % 2 * 1408 + k.val, by omega⟩) * w m c (ix2 ⟨t.val % 2 * 1408 + k.val, by omega⟩ (j 1))

theorem blk0 (c : Dev nD) (t : Fin cfg0.N) (r : Fin 1032) (k : Fin 1408) :
    (iblk m c 0 t : Vec Ideal S1032x1408 .bf16) (ix2 r k)
      = ff m c (ix2 ⟨t.val / 2 * 1032 + r.val, by have := N0; omega⟩ ⟨t.val % 2 * 1408 + k.val, by omega⟩) := by
  blk_ext [iblk, V, idx t]

theorem blk1 (c : Dev nD) (t : Fin cfg0.N) (k : Fin 1408) (r : Fin 1024) :
    (iblk m c 1 t : Vec Ideal S1408x1024 .bf16) (ix2 k r)
      = w m c (ix2 ⟨t.val % 2 * 1408 + k.val, by omega⟩ r) := by
  blk_ext [iblk, V, idx t]

theorem blk2 (c : Dev nD) (t : Fin cfg0.N) (r : Fin 1032) (k : Fin 1024) :
    (iblk m c 2 t : Vec Ideal S1032x1024 .f32) (ix2 r k)
      = h1 m c (ix2 ⟨t.val / 2 * 1032 + r.val, by have := N0; omega⟩ k) := by
  blk_ext [iblk, V, idx t]

theorem acc_eq (c : Dev nD) (t : Fin cfg0.N) (h : t.val % 2 = 2 - 1) (j : S1032x1024.Idx) :
    (outsAt0 m c t.val t.isLt).2 j = 0 + ∑ s : Fin 2, term m c ⟨2 * (t.val / 2) + s.val, Pipeline.run_point_lt_of_flush t h s⟩ j := by
  refine Pipeline.eq_sum_fin_of_reset_step_apply_of_flush (fun n h => (outsAt0 m c n h).2) 2 (fun _ => (0 : EReal)) (term m c) (fun t h j => ?_) (fun t h j => ?_) t h j
  · rw [outsAt0_A m c t h (by omega)]
    frame_out
    unfold_payloads
    pointwise [blk0, blk1, blk2, term]
  · rw [outsAt0_B m c t h (by omega)]
    frame_out
    unfold_payloads
    pointwise [blk0, blk1, blk2, term, read_unread_whole]

/-- The last point of a run copies the accumulator out. -/
theorem out_eq (c : Dev nD) (t : Fin cfg0.N) (h : t.val % 2 = 1) (a : Fin 1032) (b : Fin 1024) :
    (outsAt0 m c t.val t.isLt).1 (ix2 a b) = h1 m c (ix2 ⟨t.val / 2 * 1032 + a.val, by have := N0; omega⟩ b) + (outsAt0 m c t.val t.isLt).2 (ix2 a b) := by
  rw [outsAt0_B m c t (by omega) h]
  frame_out
  unfold_payloads
  pointwise [blk2, read_unread_whole]
  exact add_comm _ _

theorem final (c : Dev nD) : (dats m 0 c).arrAt 3 cfg0.N = G m c := by
  refine (dats m 0 c).arrAt_eq_of_covers 3 _ (by decide +kernel) fun t hf y => ?_
  blk_simp
  have h5 : t.val % 2 = 1 := (flush0_3 t).mp hf
  obtain ⟨a, b, rfl⟩ : ∃ (a : Fin 1032) (b : Fin 1024), y = (ix2 a b : S1032x1024.Idx) := ⟨_, _, eq_ix2 (y : S1032x1024.Idx)⟩
  rw [after0_3, out_eq m c t h5, acc_eq m c t h5, zero_add]
  refine congrArg₂ (· + ·) (by blk_ext [idx t]) ?_
  refine Fin.sum_mul_add_congr fun s k hl => ?_
  refine congrArg₂ (· * ·) ?_ ?_ <;> blk_ext [idx t]

theorem ref (c : Dev nD) : val_main_v3 (F := Ideal) (ff m c) (w m c) (h1 m c) = G m c := by
  funext i
  pointwise [val_main_v3, val_main_v2, val_main_v1, val_main_v0, G]

end Cert.Kernel10Ideal.Grad
-- ==== Proof.GluProj.lean ====
module

public import proofs.«01_k».proof.Proof.Gen.Kernel18Ideal.Value
public import proofs.«01_k».proof.Proof.Gen.Reference18Ideal.Read
public import Idealize.ShloMosaic.Lib.Pipeline.ValueKit
public import Idealize.ShloMosaic.Lib.Pipeline.ReadBack
public import Idealize.ShloMosaic.Lib.Pointwise

/-! `glu_proj`: a block of 688 rows is `gl = ya0 @ w_glu` and `ya0 · sigmoid(gl)` there; so are the arrays, and so is the reference. -/

@[expose] public section

set_option maxRecDepth 16384

noncomputable section

namespace Cert.Kernel18Ideal.Grad

open Cert.Kernel18Ideal Cert.Kernel18Ideal.Gen Cert.Reference18Ideal.Read
open Idealize.ShloMosaic Idealize.ShloMosaic.TcCoe Idealize.SL.Sem

variable (m : (ℓ : Loc nD τ sig) → Buf (Elt Ideal) ℓ)

abbrev ya0 (c : Dev nD) : FVec Ideal S8256x1024 .f32 := m ((c : Thread nD τ).loc main_arg0)
abbrev w (c : Dev nD) : FVec Ideal S1024x1024 .bf16 := m ((c : Thread nD τ).loc main_arg1)

theorem idx : ∀ t : Fin cfg0.N, win0_0.index t = ![t.val, 0] ∧ win0_1.index t = ![0, 0] ∧ win0_2.index t = ![t.val, 0] ∧ win0_3.index t = ![t.val, 0] ∧ win0_4.index t = ![t.val, 0] :=
  (by decide +kernel : ∀ t : Fin grid0.N, _)

/-- The logistic function on the extended reals. -/
abbrev logis (x : EReal) : EReal := Ideal.div 1 (1 + Ideal.exp (-x))

/-- The gate before its sigmoid. -/
def gl (c : Dev nD) (r : Fin 8256) (k : Fin 1024) : EReal := ∑ x : Fin 1024, ya0 m c (ix2 r x) * w m c (ix2 x k)

def G3 (c : Dev nD) : FVec Ideal S8256x1024 .f32 := fun i => gl m c (i 0) (i 1)

def G4 (c : Dev nD) : FVec Ideal S8256x1024 .bf16 := fun i => ya0 m c (ix2 (i 0) (i 1)) * logis (gl m c (i 0) (i 1))

theorem final3 (c : Dev nD) : (dats m 0 c).arrAt 3 cfg0.N = G3 m c := by
  refine (dats m 0 c).arrAt_eq_of_covers 3 _ (by decide +kernel) fun t hf y => ?_
  blk_simp
  rw [after0_3]
  frame_out
  unfold_payloads
  pointwise [G3, G4, gl, logis, zero_sub]
  blk_point [iblk, V, idx t]

theorem final4 (c : Dev nD) : (dats m 0 c).arrAt 4 cfg0.N = G4 m c := by
  refine (dats m 0 c).arrAt_eq_of_covers 4 _ (by decide +kernel) fun t hf y => ?_
  blk_simp
  rw [after0_4]
  frame_out
  unfold_payloads
  pointwise [G3, G4, gl, logis, zero_sub]
  blk_point [iblk, V, idx t]

theorem ref3 (c : Dev nD) : val_main_v1 (F := Ideal) (ya0 m c) (w m c) = G3 m c := by
  funext i
  pointwise [val_main_v1, val_main_v0, G3, G4, gl, logis, zero_sub]

theorem ref4 (c : Dev nD) : val_main_v9 (F := Ideal) (ya0 m c) (w m c) = G4 m c := by
  funext i
  pointwise [val_main_v9, val_main_v8, val_main_v7, val_main_v6, val_main_cst_0, val_main_v5, val_main_v4, val_main_cst, val_main_v3, val_main_v2, val_main_v1, val_main_v0, G3, G4, gl, logis, zero_sub]

end Cert.Kernel18Ideal.Grad
-- ==== Proof.ProjMerge.lean ====
module

public import proofs.«01_k».proof.Proof.Gen.Kernel19Ideal.Value
public import proofs.«01_k».proof.Proof.Gen.Reference19Ideal.Read
public import Idealize.ShloMosaic.Lib.Pipeline.ValueKit
public import Idealize.ShloMosaic.Lib.Pipeline.ReadBack
public import Idealize.ShloMosaic.Lib.Pointwise

/-! `proj_merge`: a block of 688 rows is both branches' projections and their gated sum there; so are the arrays, and so is the reference. -/

@[expose] public section

set_option maxRecDepth 16384

noncomputable section

namespace Cert.Kernel19Ideal.Grad

open Cert.Kernel19Ideal Cert.Kernel19Ideal.Gen Cert.Reference19Ideal.Read
open Idealize.ShloMosaic Idealize.ShloMosaic.TcCoe Idealize.SL.Sem

variable (m : (ℓ : Loc nD τ sig) → Buf (Elt Ideal) ℓ)

abbrev ya (c : Dev nD) : FVec Ideal S8256x1024 .bf16 := m ((c : Thread nD τ).loc main_arg0)
abbrev yb (c : Dev nD) : FVec Ideal S8256x1024 .bf16 := m ((c : Thread nD τ).loc main_arg1)
abbrev wSp (c : Dev nD) : FVec Ideal S1024x1024 .bf16 := m ((c : Thread nD τ).loc main_arg2)
abbrev wHp (c : Dev nD) : FVec Ideal S1024x1024 .bf16 := m ((c : Thread nD τ).loc main_arg3)
abbrev p (c : Dev nD) : FVec Ideal S8256x7168 .f32 := m ((c : Thread nD τ).loc main_arg4)

theorem idx : ∀ t : Fin cfg0.N, win0_0.index t = ![t.val, 0] ∧ win0_1.index t = ![0, 0] ∧ win0_2.index t = ![t.val, 0] ∧ win0_3.index t = ![0, 0] ∧ win0_4.index t = ![t.val, 4] ∧ win0_5.index t = ![t.val, 5] ∧ win0_6.index t = ![t.val, 0] ∧ win0_7.index t = ![t.val, 0] ∧ win0_8.index t = ![t.val, 0] :=
  (by decide +kernel : ∀ t : Fin grid0.N, _)

/-- The logistic function on the extended reals. -/
abbrev logis (x : EReal) : EReal := Ideal.div 1 (1 + Ideal.exp (-x))

/-- The two branches' projections. -/
def pa (c : Dev nD) (r : Fin 8256) (k : Fin 1024) : EReal := ∑ x : Fin 1024, ya m c (ix2 r x) * wSp m c (ix2 x k)
def pb (c : Dev nD) (r : Fin 8256) (k : Fin 1024) : EReal := ∑ x : Fin 1024, yb m c (ix2 r x) * wHp m c (ix2 x k)

def G6 (c : Dev nD) : FVec Ideal S8256x1024 .f32 := fun i => pa m c (i 0) (i 1)

def G7 (c : Dev nD) : FVec Ideal S8256x1024 .f32 := fun i => pb m c (i 0) (i 1)

def G8 (c : Dev nD) : FVec Ideal S8256x1024 .bf16 := fun i => logis (p m c (ix2 (i 0) ⟨4096 + (i 1).val, by have := (i 1).isLt; dsimp at this; omega⟩)) * pa m c (i 0) (i 1) + logis (p m c (ix2 (i 0) ⟨5120 + (i 1).val, by have := (i 1).isLt; dsimp at this; omega⟩)) * pb m c (i 0) (i 1)

theorem final6 (c : Dev nD) : (dats m 0 c).arrAt 6 cfg0.N = G6 m c := by
  refine (dats m 0 c).arrAt_eq_of_covers 6 _ (by decide +kernel) fun t hf y => ?_
  blk_simp
  rw [after0_6]
  frame_out
  unfold_payloads
  pointwise [G6, G7, G8, pa, pb, logis, zero_sub]
  blk_point [iblk, V, idx t]

theorem final7 (c : Dev nD) : (dats m 0 c).arrAt 7 cfg0.N = G7 m c := by
  refine (dats m 0 c).arrAt_eq_of_covers 7 _ (by decide +kernel) fun t hf y => ?_
  blk_simp
  rw [after0_7]
  frame_out
  unfold_payloads
  pointwise [G6, G7, G8, pa, pb, logis, zero_sub]
  blk_point [iblk, V, idx t]

theorem final8 (c : Dev nD) : (dats m 0 c).arrAt 8 cfg0.N = G8 m c := by
  refine (dats m 0 c).arrAt_eq_of_covers 8 _ (by decide +kernel) fun t hf y => ?_
  blk_simp
  rw [after0_8]
  frame_out
  unfold_payloads
  pointwise [G6, G7, G8, pa, pb, logis, zero_sub]
  blk_point [iblk, V, idx t]

theorem ref6 (c : Dev nD) : val_main_v2 (F := Ideal) (ya m c) (wSp m c) = G6 m c := by
  funext i
  pointwise [val_main_v2, val_main_v0, val_main_v1, G6, G7, G8, pa, pb, logis, zero_sub]

theorem ref7 (c : Dev nD) : val_main_v5 (F := Ideal) (yb m c) (wHp m c) = G7 m c := by
  funext i
  pointwise [val_main_v5, val_main_v3, val_main_v4, G6, G7, G8, pa, pb, logis, zero_sub]

theorem ref8 (c : Dev nD) : val_main_v23 (F := Ideal) (ya m c) (yb m c) (wSp m c) (wHp m c) (p m c) = G8 m c := by
  funext i
  pointwise [val_main_v23, val_main_v22, val_main_v21, val_main_v20, val_main_v19, val_main_cst_2, val_main_v18, val_main_v17, val_main_cst_1, val_main_v16, val_main_v15, val_main_v14, val_main_v13, val_main_v12, val_main_v11, val_main_cst_0, val_main_v10, val_main_v9, val_main_cst, val_main_v8, val_main_v7, val_main_v6, val_main_v5, val_main_v4, val_main_v3, val_main_v2, val_main_v1, val_main_v0, G6, G7, G8, pa, pb, logis, zero_sub]

end Cert.Kernel19Ideal.Grad
-- ==== Proof.OutProj.lean ====
module

public import proofs.«01_k».proof.Proof.Gen.Kernel20Ideal.Value
public import proofs.«01_k».proof.Proof.Gen.Reference20Ideal.Read
public import Idealize.ShloMosaic.Lib.Pipeline.ValueKit
public import Idealize.ShloMosaic.Lib.Pipeline.ReadBack
public import Idealize.ShloMosaic.Lib.Pointwise

/-! `out_proj`: a block of 688 rows is `h1 = h0 + merged @ w_out` and its RMSNorm there; so are the arrays, and so is the reference. -/

@[expose] public section

set_option maxRecDepth 16384

noncomputable section

namespace Cert.Kernel20Ideal.Grad

open Cert.Kernel20Ideal Cert.Kernel20Ideal.Gen Cert.Reference20Ideal.Read
open Idealize.ShloMosaic Idealize.ShloMosaic.TcCoe Idealize.SL.Sem

variable (m : (ℓ : Loc nD τ sig) → Buf (Elt Ideal) ℓ)

abbrev mg (c : Dev nD) : FVec Ideal S8256x1024 .bf16 := m ((c : Thread nD τ).loc main_arg0)
abbrev w (c : Dev nD) : FVec Ideal S1024x1024 .bf16 := m ((c : Thread nD τ).loc main_arg1)
abbrev h0 (c : Dev nD) : FVec Ideal S8256x1024 .f32 := m ((c : Thread nD τ).loc main_arg2)
abbrev g (c : Dev nD) : FVec Ideal S1x1024 .f32 := m ((c : Thread nD τ).loc main_arg3)

theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)

/-- The RMSNorm's factor of a row `v`: the mean's divisor and `EPS` are the float words both programs write. -/
def scale (v : Fin 1024 → EReal) : EReal :=
  Ideal.rsqrt (Ideal.div (∑ x : Fin 1024, v x * v x) (Ideal.ofBits .f32 0x44800000#32) + Ideal.ofBits .f32 0x358637BD#32)

def h1 (c : Dev nD) (r : Fin 8256) (k : Fin 1024) : EReal := h0 m c (ix2 r k) + ∑ x : Fin 1024, mg m c (ix2 r x) * w m c (ix2 x k)

def G4 (c : Dev nD) : FVec Ideal S8256x1024 .f32 := fun i => h1 m c (i 0) (i 1)

def G5 (c : Dev nD) : FVec Ideal S8256x1024 .bf16 := fun i => h1 m c (i 0) (i 1) * scale (h1 m c (i 0)) * g m c (ix2 0 (i 1))

theorem final4 (c : Dev nD) : (dats m 0 c).arrAt 4 cfg0.N = G4 m c := by
  refine (dats m 0 c).arrAt_eq_of_covers 4 _ (by decide +kernel) fun t hf y => ?_
  blk_simp
  rw [after0_4]
  frame_out
  unfold_payloads
  pointwise [G4, G5, h1, scale]
  blk_point [iblk, V, idx t]

theorem final5 (c : Dev nD) : (dats m 0 c).arrAt 5 cfg0.N = G5 m c := by
  refine (dats m 0 c).arrAt_eq_of_covers 5 _ (by decide +kernel) fun t hf y => ?_
  blk_simp
  rw [after0_5]
  frame_out
  unfold_payloads
  pointwise [G4, G5, h1, scale]
  blk_point [iblk, V, idx t]

theorem ref4 (c : Dev nD) : val_main_v3 (F := Ideal) (mg m c) (w m c) (h0 m c) = G4 m c := by
  funext i
  pointwise [val_main_v3, val_main_v2, val_main_v1, val_main_v0, G4, G5, h1, scale]

theorem ref5 (c : Dev nD) : val_main_v16 (F := Ideal) (mg m c) (w m c) (h0 m c) (g m c) = G5 m c := by
  funext i
  pointwise [val_main_v16, val_main_v15, val_main_v14, val_main_v13, val_main_v12, val_main_v11, val_main_v10, val_main_v9, val_main_cst_1, val_main_v8, val_main_v7, val_main_cst_0, val_main_v6, val_main_v5, val_main_cst, val_main_v4, val_main_v3, val_main_v2, val_main_v1, val_main_v0, G4, G5, h1, scale]

end Cert.Kernel20Ideal.Grad
-- ==== Proof.Adam.lean ====
module

public import Idealize.ShloMosaic.PureOps.IdealRules
public import Idealize.ShloMosaic.PureOps.ShapeOps
public import Idealize.ShloMosaic.Lib.Pointwise

/-! One AdamW step, entry by entry. The call multiplies the moments by the named reciprocals of their corrections and
squares the gradient last; the reference divides by the corrections and squares the gradient first. -/

@[expose] public section

noncomputable section

namespace Cert.Adam

open Idealize.ShloMosaic

/-- The float that reference.py divides the first moment by. -/
theorem corr1_eq : Ideal.ofBits .f32 0x3F26BD02#32 = ((5463681 / 8388608 : ℝ) : EReal) := by
  simp [Ideal.ofBits, Ideal.ieee, -EReal.coe_mul]; norm_num

/-- The float that reference.py divides the second moment by. -/
theorem corr2_eq : Ideal.ofBits .f32 0x3C231ACC#32 = ((2672307 / 268435456 : ℝ) : EReal) := by
  simp [Ideal.ofBits, Ideal.ieee, -EReal.coe_mul]; norm_num

/-- Dividing by a correction is multiplying by its reciprocal. -/
theorem div_corr1 (x : EReal) : Ideal.div x (Ideal.ofBits .f32 0x3F26BD02#32) = x * ((8388608 / 5463681 : ℝ) : EReal) := by
  rw [corr1_eq, Ideal.div_coe (by norm_num)]; norm_num

theorem div_corr2 (x : EReal) : Ideal.div x (Ideal.ofBits .f32 0x3C231ACC#32) = x * ((268435456 / 2672307 : ℝ) : EReal) := by
  rw [corr2_eq, Ideal.div_coe (by norm_num)]; norm_num

/-- The new first moment of the entries `g`, `m`. -/
abbrev first (g m : EReal) : EReal :=
  FloatOps.addf (F := Ideal) (φ := .f32) (FloatOps.mulf (F := Ideal) (φ := .f32) (Scalar.ofBits .f32 0x3F666666#32) m)
    (FloatOps.mulf (F := Ideal) (φ := .f32) (Scalar.ofBits .f32 0x3DCCCCCD#32) g)

/-- The new second moment of the entries `g`, `v`. -/
abbrev second (g v : EReal) : EReal :=
  FloatOps.addf (F := Ideal) (φ := .f32) (FloatOps.mulf (F := Ideal) (φ := .f32) (Scalar.ofBits .f32 0x3F7FBE77#32) v)
    (FloatOps.mulf (F := Ideal) (φ := .f32) (FloatOps.mulf (F := Ideal) (φ := .f32) (Scalar.ofBits .f32 0x3A83126F#32) g) g)

/-- The weight's change; `c1`, `c2` are what the moments are multiplied by. -/
abbrev change (c1 c2 w g m v : EReal) : EReal :=
  FloatOps.mulf (F := Ideal) (φ := .f32) (Scalar.ofBits .f32 0xBA83126F#32)
    (FloatOps.addf (F := Ideal) (φ := .f32)
      (FloatOps.divf (F := Ideal) (φ := .f32) (FloatOps.mulf (F := Ideal) (φ := .f32) (first g m) c1)
        (FloatOps.addf (F := Ideal) (φ := .f32)
          (FloatOps.sqrt (F := Ideal) (φ := .f32) (FloatOps.mulf (F := Ideal) (φ := .f32) (second g v) c2))
          (Scalar.ofBits .f32 0x322BCC77#32)))
      (FloatOps.mulf (F := Ideal) (φ := .f32) (Scalar.ofBits .f32 0x3C23D70A#32) w))

variable {S : Shape} (h : (⟨0, ![]⟩ : Shape).BroadcastsInDim S (![] : Fin 0 → Fin S.rank))

/-- The array that holds a float's value at every index. -/
abbrev all (b : BitVec 32) : FVec Ideal S .f32 := broadcastInDim S ![] h (constant ⟨0, ![]⟩ .f32 b)

/-- The reference's first moment, of whole arrays. -/
theorem ref_first (g m : FVec Ideal S .f32) :
    addf (mulf (all h 0x3F666666#32) m) (mulf (all h 0x3DCCCCCD#32) g) = fun i => first (g i) (m i) := rfl

/-- The reference's second moment: it multiplies the squared gradient. -/
theorem ref_second (g v : FVec Ideal S .f32) :
    addf (mulf (all h 0x3F7FBE77#32) v) (mulf (all h 0x3A83126F#32) (mulf g g)) = fun i => second (g i) (v i) := by
  funext i
  exact congrArg (_ + ·) (mul_assoc _ _ _).symm

/-- The reference's change of the weight is the call's, at the reciprocals of the two corrections. -/
theorem ref_change (c1 c2 : EReal) (h1 : c1 = ((8388608 / 5463681 : ℝ) : EReal)) (h2 : c2 = ((268435456 / 2672307 : ℝ) : EReal))
    (w g m v : FVec Ideal S .f32) :
    mulf (all h 0xBA83126F#32)
        (addf
          (Host.divf (Host.divf (addf (mulf (all h 0x3F666666#32) m) (mulf (all h 0x3DCCCCCD#32) g)) (all h 0x3F26BD02#32))
            (addf (Host.sqrt (Host.divf (addf (mulf (all h 0x3F7FBE77#32) v) (mulf (all h 0x3A83126F#32) (mulf g g)))
              (all h 0x3C231ACC#32))) (all h 0x322BCC77#32)))
          (mulf (all h 0x3C23D70A#32) w))
      = fun i => change c1 c2 (w i) (g i) (m i) (v i) := by
  rw [ref_first, ref_second]
  subst h1 h2
  funext i
  have e1 := div_corr1 (first (g i) (m i))
  have e2 := div_corr2 (second (g i) (v i))
  exact congrArg (Ideal.ofBits .f32 0xBA83126F#32 * ·) (congrArg (· + Ideal.ofBits .f32 0x3C23D70A#32 * w i)
    (congrArg₂ Ideal.div e1 (congrArg (fun x => Ideal.sqrt x + Ideal.ofBits .f32 0x322BCC77#32) e2)))

end Cert.Adam

end
-- ==== Proof.SumDevices.lean ====
module

public import proofs.«01_k».proof.Proof.Gen.Kernel30Ideal.Value
public import proofs.«01_k».proof.Proof.Gen.Reference30Ideal.Read
public import Idealize.ShloMosaic.Lib.Pipeline.ValueKit
public import Idealize.ShloMosaic.Lib.Pipeline.ReadBack
public import Idealize.ShloMosaic.Lib.Pointwise

/-! `sum_devices`: a block of 256 rows is the sum of the eight parts' rows; so is the array, and so is the reference. -/

@[expose] public section

set_option maxRecDepth 16384

noncomputable section

namespace Cert.Kernel30Ideal.Grad

open Cert.Kernel30Ideal Cert.Kernel30Ideal.Gen Cert.Reference30Ideal.Read
open Idealize.ShloMosaic Idealize.ShloMosaic.TcCoe Idealize.SL.Sem

variable (m : (ℓ : Loc nD τ sig) → Buf (Elt Ideal) ℓ)

abbrev parts (c : Dev nD) : FVec Ideal S8x2560x128 .f32 := m ((c : Thread nD τ).loc main_arg0)

theorem idx : ∀ t : Fin cfg0.N, win0_0.index t = ![0, t.val, 0] ∧ win0_1.index t = ![t.val, 0] :=
  (by decide +kernel : ∀ t : Fin grid0.N, _)

/-- Every entry is the sum of the eight parts' entries. -/
def G1 (c : Dev nD) : FVec Ideal S2560x128 .f32 := fun i => ∑ d : Fin 8, parts m c (ix3 d (i 0) (i 1))

theorem final1 (c : Dev nD) : (dats m 0 c).arrAt 1 cfg0.N = G1 m c := by
  refine (dats m 0 c).arrAt_eq_of_covers 1 _ (by decide +kernel) fun t hf y => ?_
  blk_simp
  rw [after0_1]
  frame_out
  unfold_payloads
  pointwise [G1, Fin.sum_univ_eight]
  blk_point [iblk, V, idx t]

theorem ref1 (c : Dev nD) : val_main_v0 (F := Ideal) (parts m c) = G1 m c := by
  funext i
  pointwise [val_main_v0, val_main_cst, G1]

end Cert.Kernel30Ideal.Grad
-- ==== Proof.ConvFwd.lean ====
module

public import proofs.«01_k».proof.Proof.Gen.Kernel23Ideal.Value
public import proofs.«01_k».proof.Proof.Gen.Reference23Ideal.Read
public import Idealize.ShloMosaic.Lib.Pipeline.ValueKit
public import Idealize.ShloMosaic.Lib.Pipeline.ReadBack
public import Idealize.ShloMosaic.Lib.Pointwise

/-!
# `conv_fwd`

The causal convolution with three taps, and the gate of its two halves.  A grid point handles one sequence's 2064 rows and 256
columns of each half.  Rotating the whole block reads the rows above, except in the first rows, which the kernel then writes
again with zeros in the place of the rows before the sequence.  `G6` is the gated convolution, `final6` what the call leaves and
`ref6` what the reference computes.
-/

@[expose] public section

set_option maxRecDepth 16384

noncomputable section

namespace Cert.Kernel23Ideal.Grad

open Cert.Kernel23Ideal Cert.Kernel23Ideal.Gen Cert.Reference23Ideal.Read
open Idealize.ShloMosaic Idealize.ShloMosaic.TcCoe Idealize.SL.Sem

variable (m : (ℓ : Loc nD τ sig) → Buf (Elt Ideal) ℓ)

abbrev up (c : Dev nD) : FVec Ideal S8256x5632 .f32 := m ((c : Thread nD τ).loc main_arg0)
abbrev w (c : Dev nD) : FVec Ideal S3x5632 .f32 := m ((c : Thread nD τ).loc main_arg1)
abbrev b (c : Dev nD) : FVec Ideal S1x5632 .f32 := m ((c : Thread nD τ).loc main_arg2)

theorem idx : ∀ t : Fin cfg0.N, win0_0.index t = ![t.val / 11, t.val % 11] ∧ win0_1.index t = ![t.val / 11, t.val % 11 + 11] ∧
    win0_2.index t = ![0, t.val % 11] ∧ win0_3.index t = ![0, t.val % 11 + 11] ∧ win0_4.index t = ![0, t.val % 11] ∧ win0_5.index t = ![0, t.val % 11 + 11] ∧
    win0_6.index t = ![t.val / 11, t.val % 11] :=
  (by decide +kernel : ∀ t : Fin grid0.N, _)

/-- The logistic function on the extended reals. -/
abbrev logis (x : EReal) : EReal := Ideal.div 1 (1 + Ideal.exp (-x))

/-- The entry `d` rows above row `r` of the same sequence, `0` before its first. -/
def tap (c : Dev nD) (d : ℕ) (r : Fin 8256) (k : Fin 5632) : EReal :=
  if d ≤ r.val % 2064 then up m c (ix2 ⟨r.val - d, by omega⟩ k) else 0

/-- The causal convolution. -/
def conv (c : Dev nD) (r : Fin 8256) (k : Fin 5632) : EReal :=
  b m c (ix2 0 k) + w m c (ix2 0 k) * tap m c 2 r k + w m c (ix2 1 k) * tap m c 1 r k + w m c (ix2 2 k) * tap m c 0 r k

/-- The gated convolution: column `k` of the first half through `silu`, times column `k` of the second half. -/
def gate (c : Dev nD) (r : Fin 8256) (k : Fin 2816) : EReal :=
  conv m c r ⟨k.val, by omega⟩ * logis (conv m c r ⟨k.val, by omega⟩) * conv m c r ⟨k.val + 2816, by omega⟩

def G6 (c : Dev nD) : FVec Ideal S8256x2816 .bf16 := fun i => gate m c (i 0) (i 1)

/-! ## One block -/

/-- The convolution of a sequence's block of 256 columns. -/
def bconv (x : FVec Ideal S2064x256 .f32) (b w0 w1 w2 : FVec Ideal S1x256 .f32) (r : Fin 2064) (k : Fin 256) : EReal :=
  b (ix2 0 k) + w0 (ix2 0 k) * (if 2 ≤ r.val then x (ix2 ⟨r.val - 2, by omega⟩ k) else 0)
    + w1 (ix2 0 k) * (if 1 ≤ r.val then x (ix2 ⟨r.val - 1, by omega⟩ k) else 0) + w2 (ix2 0 k) * x (ix2 r k)

/-- Rotating the whole block reads the rows above, except in the first two rows. -/
theorem rolled (x : FVec Ideal S2064x256 .f32) (b w0 w1 w2 : FVec Ideal S1x256 .f32) (r : Fin 2064) (k : Fin 256) (h : 2 ≤ r.val) :
    b (ix2 0 k) + w0 (ix2 0 k) * x (ix2 ⟨(r.val + 2064 - 2) % 2064, Nat.mod_lt _ (by decide)⟩ k)
      + w1 (ix2 0 k) * x (ix2 ⟨(r.val + 2064 - 1) % 2064, Nat.mod_lt _ (by decide)⟩ k) + w2 (ix2 0 k) * x (ix2 r k) = bconv x b w0 w1 w2 r k := by
  have e2 : (⟨(r.val + 2064 - 2) % 2064, Nat.mod_lt _ (by decide)⟩ : Fin 2064) = ⟨r.val - 2, by omega⟩ := Fin.ext (by show (r.val + 2064 - 2) % 2064 = r.val - 2; omega)
  have e1 : (⟨(r.val + 2064 - 1) % 2064, Nat.mod_lt _ (by decide)⟩ : Fin 2064) = ⟨r.val - 1, by omega⟩ := Fin.ext (by show (r.val + 2064 - 1) % 2064 = r.val - 1; omega)
  rw [e2, e1, bconv, if_pos h, if_pos (by omega)]

theorem ge_two : ∀ r : Fin 16, IntOp.cmpi CmpIPredicate.sge (BitVec.ofNat 32 r.val) 2#32 = if 2 ≤ r.val then 1#1 else 0#1 := by decide
theorem ge_one : ∀ r : Fin 16, IntOp.cmpi CmpIPredicate.sge (BitVec.ofNat 32 r.val) 1#32 = if 1 ≤ r.val then 1#1 else 0#1 := by decide

/-- Rotating the first sixteen rows and putting zeros where the rotation wraps round. -/
theorem head (X : FVec Ideal S16x256 .f32) (x : FVec Ideal S2064x256 .f32) (hX : ∀ (r : Fin 16) k, X (ix2 r k) = x (ix2 ⟨r.val, by omega⟩ k))
    (b w0 w1 w2 : FVec Ideal S1x256 .f32) (r : Fin 16) (k : Fin 256) :
    b (ix2 0 k) + Scalar.select (IntOp.cmpi CmpIPredicate.sge (BitVec.ofNat 32 r.val) 2#32)
          (w0 (ix2 0 k) * X (ix2 ⟨(r.val + 16 - 2) % 16, Nat.mod_lt _ (by decide)⟩ k)) 0
      + Scalar.select (IntOp.cmpi CmpIPredicate.sge (BitVec.ofNat 32 r.val) 1#32)
          (w1 (ix2 0 k) * X (ix2 ⟨(r.val + 16 - 1) % 16, Nat.mod_lt _ (by decide)⟩ k)) 0
      + w2 (ix2 0 k) * X (ix2 r k) = bconv x b w0 w1 w2 ⟨r.val, by omega⟩ k := by
  rw [ge_two, ge_one, bconv, hX, hX, hX]
  by_cases h2 : 2 ≤ r.val
  · have e2 : (r.val + 16 - 2) % 16 = r.val - 2 := by omega
    have e1 : (r.val + 16 - 1) % 16 = r.val - 1 := by omega
    simp only [if_pos h2, if_pos (show 1 ≤ r.val by omega), Idealize.ShloMosaic.ValueIdx.select_one, e1, e2]
  · by_cases h1 : 1 ≤ r.val
    · have e1 : (r.val + 16 - 1) % 16 = r.val - 1 := by omega
      simp only [if_neg h2, if_pos h1, Idealize.ShloMosaic.ValueIdx.select_one, Idealize.ShloMosaic.ValueIdx.select_zero, e1, mul_zero]
    · simp only [if_neg h2, if_neg h1, Idealize.ShloMosaic.ValueIdx.select_zero, mul_zero]

/-- What a block of rows and columns holds after the whole block's store. -/
theorem pay_all (xa xb : FVec Ideal S2064x256 .f32) (ba a0 a1 a2 bb b0 b1 b2 : FVec Ideal S1x256 .f32) (r : Fin 2064) (k : Fin 256) (h : 2 ≤ r.val) :
    k0_pay5 (F := Ideal) (k0_pay2 xa ba a0 a1 a2) (k0_pay3 xb bb b0 b1) (k0_pay4 xb b2) (ix2 r k)
      = bconv xa ba a0 a1 a2 r k * logis (bconv xa ba a0 a1 a2 r k) * bconv xb bb b0 b1 b2 r k := by
  rw [← rolled xa ba a0 a1 a2 r k h, ← rolled xb bb b0 b1 b2 r k h]
  unfold k0_pay5 k0_pay4 k0_pay3 k0_pay2
  pointwise [logis, zero_sub]

/-- What the first sixteen rows hold after the second store. -/
theorem pay_head (Xa Xb : FVec Ideal S16x256 .f32) (xa xb : FVec Ideal S2064x256 .f32) (hXa : ∀ (r : Fin 16) k, Xa (ix2 r k) = xa (ix2 ⟨r.val, by omega⟩ k))
    (hXb : ∀ (r : Fin 16) k, Xb (ix2 r k) = xb (ix2 ⟨r.val, by omega⟩ k)) (ba a0 a1 a2 bb b0 b1 b2 : FVec Ideal S1x256 .f32) (r : Fin 16) (k : Fin 256) :
    k0_pay1 (F := Ideal) (iota Kind.tc S16x256 32 [0] iota_S16x256_d0_w32) (k0_pay6 (iota Kind.tc S16x256 32 [0] iota_S16x256_d0_w32) Xa ba a0 a1 a2) Xb bb b0 b1 b2 (ix2 r k)
      = bconv xa ba a0 a1 a2 ⟨r.val, by omega⟩ k * logis (bconv xa ba a0 a1 a2 ⟨r.val, by omega⟩ k) * bconv xb bb b0 b1 b2 ⟨r.val, by omega⟩ k := by
  rw [← head Xa xa hXa, ← head Xb xb hXb]
  unfold k0_pay1 k0_pay6
  pointwise [logis, zero_sub]

/-! ## The array -/

theorem N0 : cfg0.N = 44 := by decide +kernel

variable (c : Dev nD) (t : Fin cfg0.N)

theorem blk_xa (r : Fin 2064) (k : Fin 256) : (iblk m c 0 t : Vec Ideal S2064x256 .f32) (ix2 r k) = up m c (ix2 ⟨t.val / 11 * 2064 + r.val, by have := N0; omega⟩ ⟨t.val % 11 * 256 + k.val, by omega⟩) := by
  blk_ext [iblk, V, idx t]
theorem blk_xb (r : Fin 2064) (k : Fin 256) : (iblk m c 1 t : Vec Ideal S2064x256 .f32) (ix2 r k) = up m c (ix2 ⟨t.val / 11 * 2064 + r.val, by have := N0; omega⟩ ⟨t.val % 11 * 256 + k.val + 2816, by omega⟩) := by
  blk_ext [iblk, V, idx t]
theorem blk_wa (d : Fin 3) (k : Fin 256) : (iblk m c 2 t : Vec Ideal S3x256 .f32) (ix2 d k) = w m c (ix2 d ⟨t.val % 11 * 256 + k.val, by omega⟩) := by
  blk_ext [iblk, V, idx t]
theorem blk_wb (d : Fin 3) (k : Fin 256) : (iblk m c 3 t : Vec Ideal S3x256 .f32) (ix2 d k) = w m c (ix2 d ⟨t.val % 11 * 256 + k.val + 2816, by omega⟩) := by
  blk_ext [iblk, V, idx t]
theorem blk_ba (k : Fin 256) : (iblk m c 4 t : Vec Ideal S1x256 .f32) (ix2 0 k) = b m c (ix2 0 ⟨t.val % 11 * 256 + k.val, by omega⟩) := by
  blk_ext [iblk, V, idx t]
theorem blk_bb (k : Fin 256) : (iblk m c 5 t : Vec Ideal S1x256 .f32) (ix2 0 k) = b m c (ix2 0 ⟨t.val % 11 * 256 + k.val + 2816, by omega⟩) := by
  blk_ext [iblk, V, idx t]

/-- A block's convolution is the array's. -/
theorem bconv_eq (x : FVec Ideal S2064x256 .f32) (bb w0 w1 w2 : FVec Ideal S1x256 .f32) (q : ℕ) (hq : q < 4) (r : Fin 2064) (k : Fin 256) (K : Fin 5632)
    (hx : ∀ r : Fin 2064, x (ix2 r k) = up m c (ix2 ⟨q * 2064 + r.val, by omega⟩ K)) (hb : bb (ix2 0 k) = b m c (ix2 0 K)) (h0 : w0 (ix2 0 k) = w m c (ix2 0 K))
    (h1 : w1 (ix2 0 k) = w m c (ix2 1 K)) (h2 : w2 (ix2 0 k) = w m c (ix2 2 K)) : bconv x bb w0 w1 w2 r k = conv m c ⟨q * 2064 + r.val, by omega⟩ K := by
  have hr : (q * 2064 + r.val) % 2064 = r.val := by omega
  have ht (d : ℕ) (hd : d ≤ 2) : tap m c d ⟨q * 2064 + r.val, by omega⟩ K = if d ≤ r.val then x (ix2 ⟨r.val - d, by omega⟩ k) else 0 := by
    unfold tap
    split_ifs with h h' h'
    · rw [hx]
      exact congrArg (up m c) (congrArg (fun q => ix2 q K) (Fin.ext (by show q * 2064 + r.val - d = q * 2064 + (r.val - d); omega)))
    · exact absurd h (by show ¬ d ≤ (q * 2064 + r.val) % 2064; omega)
    · exact absurd (show d ≤ (q * 2064 + r.val) % 2064 by omega) h
    · rfl
  rw [bconv, conv, ht 2 (by decide), ht 1 (by decide), ht 0 (by decide), if_pos (Nat.zero_le _), hb, h0, h1, h2]
  rfl

theorem ldw (x : Vec Ideal S3x256 .f32) (k : Fin 256) : (View.ld x (Rect.unit ![0, 0] ![1, 256] inb_S3x256_S1x256_0_0) : Vec Ideal S1x256 .f32) (ix2 0 k) = x (ix2 0 k) ∧
    (View.ld x (Rect.unit ![1, 0] ![1, 256] inb_S3x256_S1x256_1_0) : Vec Ideal S1x256 .f32) (ix2 0 k) = x (ix2 1 k) ∧
    (View.ld x (Rect.unit ![2, 0] ![1, 256] inb_S3x256_S1x256_2_0) : Vec Ideal S1x256 .f32) (ix2 0 k) = x (ix2 2 k) := by
  refine ⟨?_, ?_, ?_⟩ <;> exact congrArg x (funext fun a => Fin.ext (by match a with | ⟨0, _⟩ => rfl | ⟨1, _⟩ => simp [Rect.emb]))
theorem ldx (x : Vec Ideal S2064x256 .f32) (r : Fin 16) (k : Fin 256) :
    (View.ld x (Rect.unit ![0, 0] ![16, 256] inb_S2064x256_S16x256_0_0) : Vec Ideal S16x256 .f32) (ix2 r k) = x (ix2 ⟨r.val, by omega⟩ k) :=
  congrArg x (funext fun a => Fin.ext (by match a with | ⟨0, _⟩ => simp [Rect.emb] | ⟨1, _⟩ => simp [Rect.emb]))

theorem final6 (c : Dev nD) : (dats m 0 c).arrAt 6 cfg0.N = G6 m c := by
  refine (dats m 0 c).arrAt_eq_of_covers 6 _ (by decide +kernel) fun t hf y => ?_
  blk_simp
  rw [after0_6]
  unfold outsAt0
  frame_out
  obtain ⟨r, k, rfl⟩ : ∃ (r : Fin 2064) (k : Fin 256), y = ix2 r k := ⟨y 0, y 1, eq_ix2 y⟩
  have e : ∀ X : FVec Ideal S8256x2816 .bf16, X (((View.whole main_v0).slice (win0_6.rect t)).emb (ix2 r k))
      = X (ix2 ⟨t.val / 11 * 2064 + r.val, by have : cfg0.grid.N = 44 := N0; omega⟩ ⟨t.val % 11 * 256 + k.val, by omega⟩) := by
    intro X; blk_ext [idx t]
  rw [e (G6 m c)]
  have hN : cfg0.grid.N = 44 := N0
  have ca := bconv_eq m c (iblk m c 0 t) (iblk m c 4 t) (View.ld (iblk m c 2 t) (Rect.unit ![0, 0] ![1, 256] inb_S3x256_S1x256_0_0)) (View.ld (iblk m c 2 t) (Rect.unit ![1, 0] ![1, 256] inb_S3x256_S1x256_1_0)) (View.ld (iblk m c 2 t) (Rect.unit ![2, 0] ![1, 256] inb_S3x256_S1x256_2_0))
    (t.val / 11) (by omega) r k ⟨t.val % 11 * 256 + k.val, by omega⟩ (fun r => blk_xa m c t r k) (blk_ba m c t k)
    ((ldw _ k).1.trans (blk_wa m c t 0 k)) ((ldw _ k).2.1.trans (blk_wa m c t 1 k)) ((ldw _ k).2.2.trans (blk_wa m c t 2 k))
  have cb := bconv_eq m c (iblk m c 1 t) (iblk m c 5 t) (View.ld (iblk m c 3 t) (Rect.unit ![0, 0] ![1, 256] inb_S3x256_S1x256_0_0)) (View.ld (iblk m c 3 t) (Rect.unit ![1, 0] ![1, 256] inb_S3x256_S1x256_1_0)) (View.ld (iblk m c 3 t) (Rect.unit ![2, 0] ![1, 256] inb_S3x256_S1x256_2_0))
    (t.val / 11) (by omega) r k ⟨t.val % 11 * 256 + k.val + 2816, by omega⟩ (fun r => blk_xb m c t r k) (blk_bb m c t k)
    ((ldw _ k).1.trans (blk_wb m c t 0 k)) ((ldw _ k).2.1.trans (blk_wb m c t 1 k)) ((ldw _ k).2.2.trans (blk_wb m c t 2 k))
  show _ = gate m c ⟨t.val / 11 * 2064 + r.val, _⟩ ⟨t.val % 11 * 256 + k.val, _⟩
  rw [gate, ← ca, ← cb]
  by_cases h : r.val < 16
  · rw [show (ix2 r k : S2064x256.Idx) = (Rect.unit ![0, 0] ![16, 256] inb_S2064x256_S16x256_0_0).emb (ix2 (⟨r.val, h⟩ : Fin 16) k) from
      funext fun a => Fin.ext (by match a with | ⟨0, _⟩ => simp | ⟨1, _⟩ => simp), View.canon_cons_emb]
    exact pay_head (View.ld (iblk m c 0 t) (Rect.unit ![0, 0] ![16, 256] inb_S2064x256_S16x256_0_0)) (View.ld (iblk m c 1 t) (Rect.unit ![0, 0] ![16, 256] inb_S2064x256_S16x256_0_0)) (iblk m c 0 t) (iblk m c 1 t) (ldx (iblk m c 0 t)) (ldx (iblk m c 1 t)) (iblk m c 4 t) (View.ld (iblk m c 2 t) (Rect.unit ![0, 0] ![1, 256] inb_S3x256_S1x256_0_0)) (View.ld (iblk m c 2 t) (Rect.unit ![1, 0] ![1, 256] inb_S3x256_S1x256_1_0)) (View.ld (iblk m c 2 t) (Rect.unit ![2, 0] ![1, 256] inb_S3x256_S1x256_2_0)) (iblk m c 5 t) (View.ld (iblk m c 3 t) (Rect.unit ![0, 0] ![1, 256] inb_S3x256_S1x256_0_0)) (View.ld (iblk m c 3 t) (Rect.unit ![1, 0] ![1, 256] inb_S3x256_S1x256_1_0)) (View.ld (iblk m c 3 t) (Rect.unit ![2, 0] ![1, 256] inb_S3x256_S1x256_2_0)) ⟨r.val, h⟩ k
  · rw [View.canon_cons_of_not_mem _ _ (by rw [Rect.mem_set_unit]; intro hh; exact h (by have := (hh 0).2; simpa using this)), View.canon_cons_unit_zero (by funext a; fin_cases a <;> rfl)]
    exact pay_all (iblk m c 0 t) (iblk m c 1 t) (iblk m c 4 t) (View.ld (iblk m c 2 t) (Rect.unit ![0, 0] ![1, 256] inb_S3x256_S1x256_0_0)) (View.ld (iblk m c 2 t) (Rect.unit ![1, 0] ![1, 256] inb_S3x256_S1x256_1_0)) (View.ld (iblk m c 2 t) (Rect.unit ![2, 0] ![1, 256] inb_S3x256_S1x256_2_0)) (iblk m c 5 t) (View.ld (iblk m c 3 t) (Rect.unit ![0, 0] ![1, 256] inb_S3x256_S1x256_0_0)) (View.ld (iblk m c 3 t) (Rect.unit ![1, 0] ![1, 256] inb_S3x256_S1x256_1_0)) (View.ld (iblk m c 3 t) (Rect.unit ![2, 0] ![1, 256] inb_S3x256_S1x256_2_0)) r k (by omega)

/-! ## The reference -/

/-- The padded sequences, from two rows above. -/
theorem padded (c : Dev nD) (d : ℕ) (hd : d ≤ 2) (R : Fin 8256) (s : Fin 2066) (hs : s.val = 2 - d + R.val % 2064) (q : Fin 4) (hq : q.val = R.val / 2064) (k : Fin 5632) :
    val_main_v4 (F := Ideal) (up m c) (ix3 q s k) = tap m c d R k := by
  unfold val_main_v4 tap
  split_ifs with h
  · have hR := R.isLt
    refine (concatenate_pair_apply_right (t := Cert.Reference23Ideal.S4x2066x5632) (s₁ := Cert.Reference23Ideal.S4x2x5632) (s₂ := Cert.Reference23Ideal.S4x2064x5632) 1 _ _ _ _ rfl rfl (ix3 q ⟨s.val - 2, by omega⟩ k : Cert.Reference23Ideal.S4x2064x5632.Idx) (fun a ha => ?_) ?_).trans ?_
    · match a with | ⟨0, _⟩ => rfl | ⟨1, _⟩ => exact absurd rfl ha | ⟨2, _⟩ => rfl
    · show s.val - 2 + 2 = s.val; omega
    · rw [val_main_v0_apply]
      exact congrArg (up m c) (funext fun a => Fin.ext (by
        match a with
        | ⟨0, _⟩ => show ((q.val * 2064 + (s.val - 2)) * 5632 + k.val) / 5632 = R.val - d; omega
        | ⟨1, _⟩ => show ((q.val * 2064 + (s.val - 2)) * 5632 + k.val) % 5632 = k.val; omega))
  · refine (concatenate_pair_apply_left (t := Cert.Reference23Ideal.S4x2066x5632) (s₁ := Cert.Reference23Ideal.S4x2x5632) (s₂ := Cert.Reference23Ideal.S4x2064x5632) 1 _ _ _ _ rfl (ix3 q ⟨s.val, by omega⟩ k : Cert.Reference23Ideal.S4x2x5632.Idx) (fun a => ?_)).trans ?_
    · match a with | ⟨0, _⟩ => rfl | ⟨1, _⟩ => rfl | ⟨2, _⟩ => rfl
    · pointwise [val_main_v3, val_main_cst]

theorem ref_conv (c : Dev nD) (R : Fin 8256) (k : Fin 5632) (q : Fin 4) (hq : q.val = R.val / 2064) (s : Fin 2064) (hs : s.val = R.val % 2064) :
    val_main_v27 (F := Ideal) (up m c) (w m c) (b m c) (ix3 q s k) = conv m c R k := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v1, conv]
  rw [padded m c 2 le_rfl R _ (by show s.val = 2 - 2 + R.val % 2064; omega) q hq, padded m c 1 (by decide) R _ (by show 1 + s.val = 2 - 1 + R.val % 2064; omega) q hq,
    padded m c 0 (by decide) R _ (by show 2 + s.val = 2 - 0 + R.val % 2064; omega) q hq, mul_comm (tap m c 2 R k), mul_comm (tap m c 1 R k), mul_comm (tap m c 0 R k)]

theorem ref6 (c : Dev nD) : val_main_v33 (F := Ideal) (up m c) (w m c) (b m c) = G6 m c := by
  funext i
  pointwise [G6, gate, val_main_v33, val_main_v32, val_main_v31, val_main_v30, val_main_v29, val_main_v28, val_main_call0_v5, val_main_call0_v4, val_main_call0_v3, val_main_call0_v2, val_main_call0_v1, val_main_call0_v0, val_main_call0_cst, val_main_call0_cst_0]
  rw [ref_conv m c (i 0) ⟨(i 1).val, _⟩ _ rfl _ rfl, ref_conv m c (i 0) ⟨2816 + (i 1).val, _⟩ _ rfl _ rfl]
  simp only [Nat.add_comm 2816]

end Cert.Kernel23Ideal.Grad
-- ==== Proof.Chips.lean ====
module

public import Idealize.ShloMosaic.Lib.WordCmp
public import Idealize.ShloMosaic.Lib.Affine
public import Idealize.ShloMosaic.Lib.Pointwise.ShapeOpsCore
public import Idealize.ShloMosaic.Lib.Pipeline.ValueKit
public import Idealize.ShloMosaic.Lib.Pointwise
public import Idealize.ShloMosaic.PureOps

/-!
# The place of a core, as two words

`sum_chips` is told where it runs by two words: the number of the chip, below 4, and of the core, below 2.  The four
windows of the call name the chip's own slab and those of the three others by the exclusive or of the chip's number with a
distance.
-/

@[expose] public section

namespace Cert.Chips

open Idealize.ShloMosaic Idealize.ShloMosaic.WordCmp

/-- A signed comparison with a small bound on both sides bounds the word. -/
theorem word_lt (a : BitVec 32) (n : ℕ) (hn : n < 2 ^ 31) (h0 : IntOp.cmpi .sge a 0#32 = 1#1)
    (h1 : IntOp.cmpi .slt a (BitVec.ofNat 32 n) = 1#1) : a.toNat < n := by
  rw [cmpi_sge_zero] at h0
  have ha : a.toNat < 2 ^ 31 := by
    by_contra hc
    rw [decide_eq_false (by simpa using hc)] at h0
    exact absurd h0 (by decide)
  have hb : (BitVec.ofNat 32 n).toNat = n := by rw [BitVec.toNat_ofNat]; omega
  rw [cmpi_slt_of_lt (by omega) (by omega), hb] at h1
  by_contra hc
  rw [decide_eq_false hc] at h1
  exact absurd h1 (by decide)

/-- The precondition of the calls, decoded: the chip's number is below 4 and the core's below 2. -/
theorem place (a b : BitVec 32)
    (h : IntOp.andi (IntOp.andi (IntOp.andi (IntOp.cmpi .sge a 0#32) (IntOp.cmpi .slt a 4#32)) (IntOp.cmpi .sge b 0#32))
      (IntOp.cmpi .slt b 2#32) = 1#1) : a.toNat < 4 ∧ b.toNat < 2 := by
  obtain ⟨h, h3⟩ := IntOp.andi_eq_one.mp h
  obtain ⟨h, h2⟩ := IntOp.andi_eq_one.mp h
  obtain ⟨h0, h1⟩ := IntOp.andi_eq_one.mp h
  exact ⟨word_lt a 4 (by norm_num) h0 h1, word_lt b 2 (by norm_num) h2 h3⟩

abbrev S2 : Shape := ⟨1, ![2]⟩
abbrev S1 : Shape := ⟨1, ![1]⟩
abbrev S0 : Shape := ⟨0, ![]⟩

/-- The index of word `k` of the pair. -/
abbrev at_ (k : Fin 2) : S2.Idx := fun a => match a with | ⟨0, _⟩ => k

/-- Word `k` of the pair, cut out and read as a scalar. -/
theorem word_slice {α : Type} (x : S2.Idx → α) (k : Fin 2) (h : S2.Slices ![k.val] S1) (hc : S1.ShapeCasts S0) (j : S0.Idx) :
    shapeCast S0 (extractStridedSlice S1 ![k.val] x h) hc j = x (at_ k) := by
  unfold shapeCast extractStridedSlice
  refine congrArg x (funext fun a => Fin.ext ?_)
  match a with
  | ⟨0, _⟩ =>
    have hz : ∀ q : Fin 1, k.val + q.val = k.val := fun q => by omega
    exact hz _

/-- The slab at a distance below 4 of a chip is a chip's. -/
theorem xor_lt (a : BitVec 32) (d : Fin 4) (h : a.toNat < 4) : (Scalar.xori a (BitVec.ofNat 32 d.val)).toNat < 4 := by
  obtain ⟨n, rfl⟩ : ∃ n : Fin 4, a = BitVec.ofNat 32 n.val := ⟨⟨a.toNat, h⟩, by simp⟩
  revert n d
  decide

/-- The half's number, as the window computes it. -/
theorem half_eq (b : BitVec 32) (i : Fin 1) (h : b.toNat < 2) :
    (Scalar.addi (Scalar.muli b 1#32) (BitVec.ofNat 32 i.val)).toNat = b.toNat := by
  obtain ⟨n, rfl⟩ : ∃ n : Fin 2, b = BitVec.ofNat 32 n.val := ⟨⟨b.toNat, h⟩, by simp⟩
  revert n i
  decide

/-- The block of rows a core writes is one of the two. -/
theorem half_lt (b : BitVec 32) (i : Fin 1) (h : b.toNat < 2) :
    (Scalar.addi (Scalar.muli b 1#32) (BitVec.ofNat 32 i.val)).toNat < 2 := by
  obtain ⟨n, rfl⟩ : ∃ n : Fin 2, b = BitVec.ofNat 32 n.val := ⟨⟨b.toNat, h⟩, by simp⟩
  revert n i
  decide

/-- A chip's slab, whole, lies in the array of the four slabs. -/
theorem slab_le (R C p q : ℕ) (hp : p < 4) (hq : q = 0) (a : Fin 3) :
    (![p, q, 0] a + 1) * (![1, R, C] a) ≤ ![4, R, C] a := by
  subst hq
  match a with
  | ⟨0, _⟩ => show (p + 1) * 1 ≤ 4; omega
  | ⟨1, _⟩ => show (0 + 1) * R ≤ R; omega
  | ⟨2, _⟩ => show (0 + 1) * C ≤ C; omega

/-- A core's half of the rows lies in the array. -/
theorem half_le (R C p : ℕ) (hp : p < 2) (a : Fin 2) : (![p, 0] a + 1) * (![R, C] a) ≤ ![2 * R, C] a := by
  match a with
  | ⟨0, _⟩ => show (p + 1) * R ≤ 2 * R; exact Nat.mul_le_mul_right R (by omega)
  | ⟨1, _⟩ => show (0 + 1) * C ≤ C; omega

/-- The slab that is the chip's own, told by comparing numbers. -/
theorem own {α : Type} (a : BitVec 32) (j : Fin 4) (u l : α) :
    Scalar.select (IntOp.cmpi .eq (BitVec.ofNat 32 j.val) a) u l = if a.toNat = j.val then u else l := by
  have hj : (BitVec.ofNat 32 j.val).toNat = j.val := by fin_cases j <;> rfl
  by_cases h : a.toNat = j.val
  · rw [if_pos h, show a = BitVec.ofNat 32 j.val from BitVec.eq_of_toNat_eq (h.trans hj.symm)]
    simp [IntOp.cmpi, Scalar.select]
  · have hne : ¬ BitVec.ofNat 32 j.val = a := fun e => h (by rw [← e, hj])
    rw [if_neg h]
    have e : (BitVec.ofNat 32 j.val == a) = false := by simpa using hne
    simp [IntOp.cmpi, Scalar.select, e]

/-- The choice among the four windows of the chip that is `j` apart. -/
def chain {α : Type} (a : BitVec 32) (j : Fin 4) (B : Fin 4 → α) : α :=
  Scalar.select (Scalar.cmpi .eq (Scalar.xori a (BitVec.ofNat 32 j.val)) 0#32) (B 0)
    (Scalar.select (Scalar.cmpi .eq (Scalar.xori a (BitVec.ofNat 32 j.val)) 1#32) (B 1)
      (Scalar.select (Scalar.cmpi .eq (Scalar.xori a (BitVec.ofNat 32 j.val)) 2#32) (B 2) (B 3)))

/-- The kernel's choice of the slab of chip `j` by its distance from the chip it runs on: its own window for itself, and the
window at that distance for another. -/
theorem pick {α : Type} (a : BitVec 32) (ha : a.toNat < 4) (j : Fin 4) (B : Fin 4 → α) (U L : Fin 4 → α)
    (h0 : ∀ q : Fin 4, (Scalar.xori a 0#32).toNat = q.val → B 0 = U q)
    (h : ∀ d : Fin 4, d ≠ 0 → ∀ q : Fin 4, (Scalar.xori a (BitVec.ofNat 32 d.val)).toNat = q.val → B d = L q) :
    chain a j B
      = if a.toNat = j.val then U j else L j := by
  obtain ⟨p, rfl⟩ : ∃ p : Fin 4, a = BitVec.ofNat 32 p.val := ⟨⟨a.toNat, ha⟩, by simp⟩
  unfold chain
  fin_cases p <;> fin_cases j <;>
    first
      | exact h0 _ rfl
      | exact h 1 (by decide) _ rfl
      | exact h 2 (by decide) _ rfl
      | exact h 3 (by decide) _ rfl

/-- A row of the half the core writes, from the mask: the block's offset plus a row of the block. -/
theorem half_row (R : ℕ) (hR : R < 2 ^ 20) (b : BitVec 32) (hb : b.toNat < 2) (i : ℕ) (hi : i < 2 * R)
    (h : IntOp.cmpi .eq (IntOp.cmpi .sge (BitVec.ofNat 32 i) (BitVec.ofNat 32 R)) (IntOp.cmpi .sge b 1#32) = 1#1) :
    i = b.toNat * R + i % R := by
  obtain ⟨p, rfl⟩ : ∃ p : Fin 2, b = BitVec.ofNat 32 p.val := ⟨⟨b.toNat, hb⟩, by simp⟩
  have e : IntOp.cmpi .sge (BitVec.ofNat 32 i) (BitVec.ofNat 32 R) = BitVec.ofBool (decide (R ≤ i)) := by
    rw [cmpi_sge_ofNat (by omega) (by omega)]
  rw [e] at h
  by_cases hc : R ≤ i
  · have hp : p = 1 := by
      rw [decide_eq_true hc] at h
      revert h; revert p; decide
    have : i % R = i - R := by rw [Nat.mod_eq_sub_mod hc, Nat.mod_eq_of_lt (by omega)]
    subst hp
    show i = 1 * R + i % R
    omega
  · have hp : p = 0 := by
      rw [decide_eq_false hc] at h
      revert h; revert p; decide
    subst hp
    show i = 0 * R + i % R
    rw [Nat.mod_eq_of_lt (by omega)]; omega

/-- Where a window of one slab's rows reads: row `r` of slab `p`. -/
theorem slab_at {R C : ℕ} (x q : ℕ) (p : Fin 4) (hx : x = p.val) (hq : q = 0) (r : Fin R) (k : Fin C) (a : Fin 3) :
    ![x, q, 0] a * ![1, R, C] a + 1 * ((ix3 (0 : Fin 1) r k : (⟨3, ![1, R, C]⟩ : Shape).Idx) a).val
      = ((ix3 p r k : (⟨3, ![4, R, C]⟩ : Shape).Idx) a).val := by
  subst hx; subst hq
  match a with
  | ⟨0, _⟩ => show p.val * 1 + 1 * 0 = p.val; omega
  | ⟨1, _⟩ => show 0 * R + 1 * r.val = r.val; omega
  | ⟨2, _⟩ => show 0 * C + 1 * k.val = k.val; omega

/-- The four chips' slabs added at a row of either half: the chip's own from `U`, the others' from `L`. -/
noncomputable def total {R T C : ℕ} (hR : 0 < R) (a : BitVec 32) (U L : (⟨3, ![4, R, C]⟩ : Shape).Idx → EReal) (i : (⟨2, ![T, C]⟩ : Shape).Idx) : EReal :=
  ∑ j : Fin 4, if a.toNat = j.val then U (ix3 j (⟨(i 0).val % R, Nat.mod_lt _ hR⟩ : Fin R) (i 1))
    else L (ix3 j (⟨(i 0).val % R, Nat.mod_lt _ hR⟩ : Fin R) (i 1))

/-- An array laid twice one under the other, at a row of either half. -/
theorem halves (R T C : ℕ) (hT : T = 2 * R) (f : (⟨2, ![R, C]⟩ : Shape).Idx → EReal)
    (h : Shape.Concatenates [(⟨2, ![R, C]⟩ : Shape), ⟨2, ![R, C]⟩] ⟨2, ![T, C]⟩ 0) (i : (⟨2, ![T, C]⟩ : Shape).Idx) (g : EReal)
    (e : ∀ y : (⟨2, ![R, C]⟩ : Shape).Idx, (y 0).val = (i 0).val % R → (y 1).val = (i 1).val → f y = g) :
    concatenate ⟨2, ![T, C]⟩ 0 [⟨⟨2, ![R, C]⟩, f⟩, ⟨⟨2, ![R, C]⟩, f⟩] h i = g := by
  have hlt : (i 0).val < T := (i 0).isLt
  by_cases hc : (i 0).val < R
  · refine (concatenate_pair_apply_left (s₁ := ⟨2, ![R, C]⟩) (s₂ := ⟨2, ![R, C]⟩) (0 : Fin 2) _ _ _ i rfl
      (ix2 (⟨(i 0).val, hc⟩ : Fin R) (i 1) : (⟨2, ![R, C]⟩ : Shape).Idx) (fun b => by match b with | ⟨0, _⟩ => rfl | ⟨1, _⟩ => rfl)).trans ?_
    exact e _ (Nat.mod_eq_of_lt hc).symm rfl
  · refine (concatenate_pair_apply_right (s₁ := ⟨2, ![R, C]⟩) (s₂ := ⟨2, ![R, C]⟩) (0 : Fin 2) _ _ _ i rfl rfl
      (ix2 (⟨(i 0).val - R, by omega⟩ : Fin R) (i 1) : (⟨2, ![R, C]⟩ : Shape).Idx)
      (fun b hb => by match b, hb with | ⟨0, _⟩, hb => exact absurd rfl hb | ⟨1, _⟩, _ => rfl)
      (by show ((i 0).val - R) + R = (i 0).val; omega)).trans ?_
    refine e _ ?_ rfl
    show (i 0).val - R = (i 0).val % R
    rw [Nat.mod_eq_sub_mod (by omega), Nat.mod_eq_of_lt (by omega)]

end Cert.Chips
-- ==== Proof.SumIn.lean ====
module

public import proofs.«01_k».proof.Proof.Chips
public import proofs.«01_k».proof.Proof.Gen.Kernel31Ideal.Frame
public import proofs.«01_k».proof.Proof.Gen.Reference31Ideal.Read
public import proofs.«01_k».proof.Proof.Gen.Pre_place31
public import proofs.«01_k».proof.Proof.Gen.On_core_half31
public import Idealize.ShloMosaic.Lib.Pipeline.ValueKit
public import Idealize.ShloMosaic.Lib.Pipeline.ReadBack
public import Idealize.ShloMosaic.Lib.Pointwise

/-!
# `sum_chips_w_in`

The call adds the slabs of the four chips in the chips' order: the chip's own from one array, the three others' from the array
they were sent into.  It writes the half of the rows that is its core's.
-/

@[expose] public section

set_option maxRecDepth 16384

noncomputable section

namespace Cert.SumIn

open Idealize.ShloMosaic Idealize.ShloMosaic.TcCoe

/-- The precondition, decoded. -/
theorem place_of {F : FTy → Type} [FloatOps F] (w : IVec Cert.Pre_place31.S2 32) (x y : FVec F Cert.Pre_place31.S4x512x1792 .bf16)
    (h : Cert.Pre_place31.fn (F := F) w x y = fun _ => 1#1) : (w (Chips.at_ 0)).toNat < 4 ∧ (w (Chips.at_ 1)).toNat < 2 := by
  have h := congrFun h (fun a => a.elim0)
  have e := Chips.place (w (Chips.at_ 0)) (w (Chips.at_ 1))
  refine e (Eq.trans ?_ h)
  dsimp only [Cert.Pre_place31.fn]
  simp only [andi, cmpi, constantI]
  have e0 (h) (hc) (j) : shapeCast Cert.Pre_place31.S_ (extractStridedSlice Cert.Pre_place31.S1 ![0] w h) hc j = w (Chips.at_ 0) :=
    Chips.word_slice w 0 h hc j
  have e1 (h) (hc) (j) : shapeCast Cert.Pre_place31.S_ (extractStridedSlice Cert.Pre_place31.S1 ![1] w h) hc j = w (Chips.at_ 1) :=
    Chips.word_slice w 1 h hc j
  rw [e0, e1]

end Cert.SumIn

namespace Cert.Kernel31Ideal.SumIn
open Cert.Kernel31Ideal Cert.Kernel31Ideal.Gen Idealize.ShloMosaic Idealize.ShloMosaic.TcCoe Idealize.SL.Sem

variable {F : FTy → Type} [FloatOps F]

/-- The word of the table a slab is named from. -/
theorem word0 (pf : pre0.Contents (Elt F)) : pf.at 0 (Rect.unit (s := S2) ![0] S1.size inb_S2_S1_0) numel1_S1 = pf 0 (Chips.at_ 0) :=
  congrArg (pf 0) (funext fun a => Fin.ext (by match a with | ⟨0, _⟩ => rfl))
/-- The word of the table the half is named from. -/
theorem word1 (pf : pre0.Contents (Elt F)) : pf.at 0 (Rect.unit (s := S2) ![1] S1.size inb_S2_S1_1) numel1_S1 = pf 0 (Chips.at_ 1) :=
  congrArg (pf 0) (funext fun a => Fin.ext (by match a with | ⟨0, _⟩ => rfl))

/-- There is one grid point, at coordinate 0. -/
theorem coord (i : grid0.Coords) : (BitVec.ofNat 32 (i 0).val).toNat = 0 := by
  have h : (i 0).val < 1 := (i 0).isLt
  rw [show (i 0).val = 0 by omega]; rfl

/-- The windows lie inside their arrays. -/
theorem ok (m : (ℓ : Loc nD τ sig) → Buf (Elt F) ℓ)
    (h0 : (tbl m 0 (Chips.at_ 0)).toNat < 4) (h1 : (tbl m 0 (Chips.at_ 1)).toNat < 2) : Ok m := by
  have hx (d : Fin 4) := Chips.xor_lt (tbl m 0 (Chips.at_ 0)) d h0
  have hs (d : Fin 4) (i : grid0.Coords) := Chips.slab_le 512 1792 _ _ (hx d) (coord i)
  refine ⟨fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩,
    fun i => ⟨?_, .inl rfl⟩⟩
  · unfold cc0_transform_0; rw [word0]; exact hs 0 i
  · unfold cc0_transform_1; rw [word0]; exact hs 1 i
  · unfold cc0_transform_2; rw [word0]; exact hs 2 i
  · unfold cc0_transform_3; rw [word0]; exact hs 3 i
  · unfold cc0_transform_4; rw [word1]
    exact Chips.half_le 512 1792 _ (Chips.half_lt (tbl m 0 (Chips.at_ 1)) (i 0) h1)

section Value

variable (m : (ℓ : Loc nD τ sig) → Buf (Elt Ideal) ℓ) (hO : Ok m)

/-- The chip's own slabs, and those that came from the others. -/
abbrev SU (c : Dev nD) : S4x512x1792.Idx → EReal := m ((c : Thread nD τ).loc main_arg1)
abbrev SL (c : Dev nD) : S4x512x1792.Idx → EReal := m ((c : Thread nD τ).loc main_arg2)

/-- What the call leaves at row `i 0`: the four chips' slabs at that row of the half, added. -/
def G4 (c : Dev nD) : S1024x1792.Idx → EReal :=
  Chips.total (R := 512) (by norm_num) ((tbl m 0 : S2.Idx → BitVec 32) (Chips.at_ 0)) (SU m c) (SL m c)

/-- Window 0 names the slab at distance 0. -/
theorem emb0 (t : Fin (cfgM m hO).N) (y : S1x512x1792.Idx) (a : Fin 3) :
    ((((cfgM m hO).win 0).blk t).view.emb y a).val
      = cc0_transform_0 inb_S2_S1_0 numel1_S1 (tbl m) ((cfgM m hO).grid.coords t) a * S1x512x1792.size a + 1 * (y a).val := rfl

theorem blk0 (c : Dev nD) (t : Fin (cfgM m hO).N) (r : Fin 512) (k : Fin 1792) (p : Fin 4)
    (hp : (Scalar.xori (tbl m 0 (Chips.at_ 0)) 0#32).toNat = p.val) :
    (iblk m hO c 0 t : S1x512x1792.Idx → EReal) (ix3 0 r k) = SU m c (ix3 p r k) := by
  have hc := coord ((cfgM m hO).grid.coords t)
  refine Eq.trans (b := SU m c ((((cfgM m hO).win 0).blk t).view.emb (ix3 0 r k : S1x512x1792.Idx))) rfl ?_
  refine congrArg (SU m c) (funext fun a => Fin.ext ?_)
  refine (emb0 m hO t (ix3 0 r k) a).trans ?_
  unfold cc0_transform_0
  rw [word0]
  exact Chips.slab_at _ _ p hp hc r k a

/-- Window 1 names the slab at distance 1. -/
theorem emb1 (t : Fin (cfgM m hO).N) (y : S1x512x1792.Idx) (a : Fin 3) :
    ((((cfgM m hO).win 1).blk t).view.emb y a).val
      = cc0_transform_1 inb_S2_S1_0 numel1_S1 (tbl m) ((cfgM m hO).grid.coords t) a * S1x512x1792.size a + 1 * (y a).val := rfl

theorem blk1 (c : Dev nD) (t : Fin (cfgM m hO).N) (r : Fin 512) (k : Fin 1792) (p : Fin 4)
    (hp : (Scalar.xori (tbl m 0 (Chips.at_ 0)) 1#32).toNat = p.val) :
    (iblk m hO c 1 t : S1x512x1792.Idx → EReal) (ix3 0 r k) = SL m c (ix3 p r k) := by
  have hc := coord ((cfgM m hO).grid.coords t)
  refine Eq.trans (b := SL m c ((((cfgM m hO).win 1).blk t).view.emb (ix3 0 r k : S1x512x1792.Idx))) rfl ?_
  refine congrArg (SL m c) (funext fun a => Fin.ext ?_)
  refine (emb1 m hO t (ix3 0 r k) a).trans ?_
  unfold cc0_transform_1
  rw [word0]
  exact Chips.slab_at _ _ p hp hc r k a

/-- Window 2 names the slab at distance 2. -/
theorem emb2 (t : Fin (cfgM m hO).N) (y : S1x512x1792.Idx) (a : Fin 3) :
    ((((cfgM m hO).win 2).blk t).view.emb y a).val
      = cc0_transform_2 inb_S2_S1_0 numel1_S1 (tbl m) ((cfgM m hO).grid.coords t) a * S1x512x1792.size a + 1 * (y a).val := rfl

theorem blk2 (c : Dev nD) (t : Fin (cfgM m hO).N) (r : Fin 512) (k : Fin 1792) (p : Fin 4)
    (hp : (Scalar.xori (tbl m 0 (Chips.at_ 0)) 2#32).toNat = p.val) :
    (iblk m hO c 2 t : S1x512x1792.Idx → EReal) (ix3 0 r k) = SL m c (ix3 p r k) := by
  have hc := coord ((cfgM m hO).grid.coords t)
  refine Eq.trans (b := SL m c ((((cfgM m hO).win 2).blk t).view.emb (ix3 0 r k : S1x512x1792.Idx))) rfl ?_
  refine congrArg (SL m c) (funext fun a => Fin.ext ?_)
  refine (emb2 m hO t (ix3 0 r k) a).trans ?_
  unfold cc0_transform_2
  rw [word0]
  exact Chips.slab_at _ _ p hp hc r k a

/-- The chip's number of the quarter, as the table holds it. -/
def word : BitVec 32 := (tbl m 0 : S2.Idx → BitVec 32) (Chips.at_ 0)

/-- Window 3 names the slab at distance 3. -/
theorem emb3 (t : Fin (cfgM m hO).N) (y : S1x512x1792.Idx) (a : Fin 3) :
    ((((cfgM m hO).win 3).blk t).view.emb y a).val
      = cc0_transform_3 inb_S2_S1_0 numel1_S1 (tbl m) ((cfgM m hO).grid.coords t) a * S1x512x1792.size a + 1 * (y a).val := rfl

theorem blk3 (c : Dev nD) (t : Fin (cfgM m hO).N) (r : Fin 512) (k : Fin 1792) (p : Fin 4)
    (hp : (Scalar.xori (tbl m 0 (Chips.at_ 0)) 3#32).toNat = p.val) :
    (iblk m hO c 3 t : S1x512x1792.Idx → EReal) (ix3 0 r k) = SL m c (ix3 p r k) := by
  have hc := coord ((cfgM m hO).grid.coords t)
  refine Eq.trans (b := SL m c ((((cfgM m hO).win 3).blk t).view.emb (ix3 0 r k : S1x512x1792.Idx))) rfl ?_
  refine congrArg (SL m c) (funext fun a => Fin.ext ?_)
  refine (emb3 m hO t (ix3 0 r k) a).trans ?_
  unfold cc0_transform_3
  rw [word0]
  exact Chips.slab_at _ _ p hp hc r k a

/-- One entry of the block the call writes, from the blocks it reads. -/
theorem out4 (c : Dev nD) (i : grid0.Coords)
    (arg2 : Memref sig .tc .vmem S1x512x1792 .bf16) (harg2 : arg2.IsWhole) (arg3 : Memref sig .tc .vmem S1x512x1792 .bf16) (harg3 : arg3.IsWhole)
    (arg4 : Memref sig .tc .vmem S1x512x1792 .bf16) (harg4 : arg4.IsWhole) (arg5 : Memref sig .tc .vmem S1x512x1792 .bf16) (harg5 : arg5.IsWhole)
    (arg6 : Memref sig .tc .vmem S512x1792 .f32) (harg6 : arg6.IsWhole)
    (x0 x1 x2 x3 : FVec Ideal S1x512x1792 .bf16) (xt0 : TbBuf0 (F := Ideal) c tbM0_0) (w : BitVec 32)
    (hw : View.read (Elt Ideal) (View.whole main_arg0) xt0 (ix1 (0 : Fin 2)) = w)
    (r : Fin 512) (k : Fin 1792) :
    (out0_A_4 c i arg2 harg2 arg3 harg3 arg4 harg4 arg5 harg5 arg6 harg6 x0 x1 x2 x3 xt0 : S512x1792.Idx → EReal) (ix2 r k)
      = ∑ j : Fin 4, Chips.chain w j (fun d : Fin 4 => match d with
          | 0 => (x0 : S1x512x1792.Idx → EReal) (ix3 0 r k) | 1 => x1 (ix3 0 r k) | 2 => x2 (ix3 0 r k) | 3 => x3 (ix3 0 r k)) := by
  rw [Fin.sum_univ_four]
  unfold out0_A_4
  frame_out
  unfold_payloads
  pointwise []
  simp only [hw]
  rfl

/-- One entry of the block the call writes. -/
theorem pay (h0 : (word m).toNat < 4) (c : Dev nD) (t : Fin (cfgM m hO).N) (r : Fin 512) (k : Fin 1792) :
    (outsAt0 m hO c t : S512x1792.Idx → EReal) (ix2 r k)
      = ∑ j : Fin 4, if (word m).toNat = j.val then SU m c (ix3 j r k) else SL m c (ix3 j r k) := by
  have hw : View.read (Elt Ideal) (View.whole main_arg0) (tbl m 0) (ix1 (0 : Fin 2)) = word m :=
    congrArg (tbl m 0 : S2.Idx → BitVec 32) (funext fun a => Fin.ext (by match a with | ⟨0, _⟩ => rfl))
  refine (out4 c _ _ _ _ _ _ _ _ _ _ _ _ _ _ _ _ _ hw r k).trans (Finset.sum_congr rfl fun j _ => ?_)
  exact Chips.pick (word m) h0 j _
    (fun q => SU m c (ix3 q r k)) (fun q => SL m c (ix3 q r k)) (fun q hq => blk0 m hO c t r k q hq)
    (fun d hd q hq => match d, hd, hq with
      | 0, hd, _ => absurd rfl hd
      | 1, _, hq => blk1 m hO c t r k q hq
      | 2, _, hq => blk2 m hO c t r k q hq
      | 3, _, hq => blk3 m hO c t r k q hq)

/-- Window 4 names the half of the rows. -/
theorem emb4 (t : Fin (cfgM m hO).N) (y : S512x1792.Idx) (a : Fin 2) :
    ((((cfgM m hO).win 4).blk t).view.emb y a).val
      = cc0_transform_4 inb_S2_S1_1 numel1_S1 (tbl m) ((cfgM m hO).grid.coords t) a * S512x1792.size a + 1 * (y a).val := rfl

/-- The half a row must lie in is the one the call writes. -/
theorem row4 (h1 : (tbl m 0 (Chips.at_ 1)).toNat < 2) (t : Fin (cfgM m hO).N) (r : Fin 512) (k : Fin 1792) (i : S1024x1792.Idx)
    (hr : (i 0).val = (tbl m 0 (Chips.at_ 1)).toNat * 512 + r.val) (hk : (i 1).val = k.val) :
    (((cfgM m hO).win 4).blk t).view.emb (ix2 r k : S512x1792.Idx) = i := by
  have hc := Chips.half_eq (tbl m 0 (Chips.at_ 1)) ((cfgM m hO).grid.coords t 0) h1
  refine funext fun a => Fin.ext ((emb4 m hO t (ix2 r k) a).trans ?_)
  unfold cc0_transform_4
  rw [word1]
  match a with
  | ⟨0, _⟩ =>
    show (Scalar.addi (Scalar.muli (tbl m 0 (Chips.at_ 1)) 1#32) (BitVec.ofNat 32 ((cfgM m hO).grid.coords t 0).val)).toNat * 512
      + 1 * r.val = (i 0).val
    rw [hc, hr]; omega
  | ⟨1, _⟩ => show 0 * 1792 + 1 * k.val = (i 1).val; omega

/-- The rows the call writes hold what its one grid point left. -/
theorem left4 (c : Dev nD) (t : Fin (cfgM m hO).N) (y : S512x1792.Idx) :
    ((dats m hO 0 c).arrAt 4 (cfgM m hO).N : S1024x1792.Idx → EReal) ((((cfgM m hO).win 4).blk t).view.emb y)
      = (outsAt0 m hO c t : S512x1792.Idx → EReal) y := by
  have hN (t t' : Fin (cfgM m hO).N) : t = t' := (fin_N0 t).trans (fin_N0 t').symm
  have hf : ((cfgM m hO).win 4).flush t = true := by
    rw [fin_N0 t]; unfold Pipeline.Window.flush
    refine Bool.and_eq_true_iff.mpr ⟨rfl, Bool.or_eq_true_iff.mpr (.inl ?_)⟩
    exact decide_eq_true N_0.symm
  have a := congrFun ((dats m hO 0 c).read_blk_arrAt_eq_flushed 4 (fun t t' _ _ h => absurd (hN t t') h) (cfgM m hO).N t t.isLt hf) y
  have b : (dats m hO 0 c).flushed 4 t y = (outsAt0 m hO c t : S512x1792.Idx → EReal) y := by
    refine (Pipeline.Dat.flushed_apply (dats m hO 0 c) 4 t y).trans ?_
    rw [after0_4]
    rfl
  refine Eq.trans ?_ (a.trans b)
  generalize (dats m hO 0 c).arrAt 4 (cfgM m hO).N = f
  rfl

/-- What the call leaves in the half it writes. -/
theorem final4 (h0 : (word m).toNat < 4) (h1 : (tbl m 0 (Chips.at_ 1)).toNat < 2) (c : Dev nD) (i : S1024x1792.Idx)
    (hi : (i 0).val = (tbl m 0 (Chips.at_ 1)).toNat * 512 + (i 0).val % 512) :
    ((dats m hO 0 c).arrAt 4 (cfgM m hO).N : S1024x1792.Idx → EReal) i = G4 m c i := by
  have e := row4 m hO h1 t0_0 ⟨(i 0).val % 512, Nat.mod_lt _ (by norm_num)⟩ (i 1) i hi rfl
  have a := (left4 m hO c t0_0 (ix2 ⟨(i 0).val % 512, Nat.mod_lt _ (by norm_num)⟩ (i 1))).trans (pay m hO h0 c t0_0 _ _)
  rw [e] at a
  exact a

/-- The mask is the half of the rows the core writes. -/
theorem mask (w : IVec Cert.On_core_half31.S2 32) (x y : FVec Ideal Cert.On_core_half31.S4x512x1792 .bf16)
    (h1 : (w (Chips.at_ 1)).toNat < 2) (i : S1024x1792.Idx) (h : Cert.On_core_half31.fn (F := Ideal) w x y i = 1#1) :
    (i 0).val = (w (Chips.at_ 1)).toNat * 512 + (i 0).val % 512 := by
  refine Chips.half_row 512 (by norm_num) _ h1 _ (i 0).isLt (Eq.trans ?_ h)
  have e1 (h) (hc) (j) : shapeCast Cert.On_core_half31.S_ (extractStridedSlice Cert.On_core_half31.S1 ![1] w h) hc j = w (Chips.at_ 1) :=
    Chips.word_slice w 1 h hc j
  dsimp only [Cert.On_core_half31.fn]
  simp only [cmpi, iotaInDim, broadcastInDim, constantI]
  rw [e1]

/-- The reference at a row of either half. -/
theorem ref4 (c : Dev nD) (w : S2.Idx → BitVec 32) (hw : w (Chips.at_ 0) = word m) (i : S1024x1792.Idx) :
    (Cert.Reference31Ideal.Read.val_main_v8 (F := Ideal) w (SU m c) (SL m c) : S1024x1792.Idx → EReal) i = G4 m c i := by
  have e0 (h) (hc) (j) : shapeCast Cert.Reference31Ideal.S_ (extractStridedSlice Cert.Reference31Ideal.S1 ![0] w h) hc j = w (Chips.at_ 0) :=
    Chips.word_slice w 0 h hc j
  have v (q : Cert.Reference31Ideal.S4x512x1792.Idx) :
      (Cert.Reference31Ideal.Read.val_main_v6 (F := Ideal) w (SU m c) (SL m c) : S4x512x1792.Idx → EReal) q
        = Scalar.select (IntOp.cmpi .eq (BitVec.ofNat 32 (q 0).val) (word m)) (SU m c q) (SL m c q) := by
    rw [Cert.Reference31Ideal.Read.val_main_v6_apply, Cert.Reference31Ideal.Read.val_main_v5_apply,
      Cert.Reference31Ideal.Read.val_main_v4_apply, Cert.Reference31Ideal.Read.val_main_v3_apply, Cert.Reference31Ideal.Read.val_main_v0_apply]
    unfold Cert.Reference31Ideal.Read.val_main_v2 Cert.Reference31Ideal.Read.val_main_v1
    rw [e0, hw]
    rfl
  have e (y : Cert.Reference31Ideal.S512x1792.Idx) (hr : (y 0).val = (i 0).val % 512) (hk : (y 1).val = (i 1).val) :
      (Cert.Reference31Ideal.Read.val_main_v7 (F := Ideal) w (SU m c) (SL m c) : S512x1792.Idx → EReal) y = G4 m c i := by
    rw [Cert.Reference31Ideal.Read.val_main_v7_apply]
    rw [show (Cert.Reference31Ideal.Read.val_main_cst (F := Ideal)) (Shape.Idx.first Cert.Reference31Ideal.Gen.h_S_) = (0 : EReal) from Ideal.ofBits_zero_f32, zero_add]
    unfold G4 Chips.total
    refine Finset.sum_congr rfl fun j _ => ?_
    have hi : Cert.Reference31Ideal.Read.idx_main_v7 y j = ix3 j ⟨(i 0).val % 512, Nat.mod_lt _ (by norm_num)⟩ (i 1) :=
      funext fun a => Fin.ext (by match a with | ⟨0, _⟩ => rfl | ⟨1, _⟩ => exact hr | ⟨2, _⟩ => exact hk)
    refine (v _).trans ((Chips.own (word m) j _ _).trans ?_)
    exact congrArg (fun q => if (word m).toNat = j.val then SU m c q else SL m c q) hi
  unfold Cert.Reference31Ideal.Read.val_main_v8
  exact Chips.halves 512 1024 1792 rfl _ _ i _ e

end Value

end Cert.Kernel31Ideal.SumIn
-- ==== Proof.SumUp.lean ====
module

public import proofs.«01_k».proof.Proof.Chips
public import proofs.«01_k».proof.Proof.Gen.Kernel32Ideal.Frame
public import proofs.«01_k».proof.Proof.Gen.Reference32Ideal.Read
public import proofs.«01_k».proof.Proof.Gen.Pre_place32
public import proofs.«01_k».proof.Proof.Gen.On_core_half32
public import Idealize.ShloMosaic.Lib.Pipeline.ValueKit
public import Idealize.ShloMosaic.Lib.Pipeline.ReadBack
public import Idealize.ShloMosaic.Lib.Pointwise

/-!
# `sum_chips_w_up`

The call adds the slabs of the four chips in the chips' order: the chip's own from one array, the three others' from the array
they were sent into.  It writes the half of the rows that is its core's.
-/

@[expose] public section

set_option maxRecDepth 16384

noncomputable section

namespace Cert.SumUp

open Idealize.ShloMosaic Idealize.ShloMosaic.TcCoe

/-- The precondition, decoded. -/
theorem place_of {F : FTy → Type} [FloatOps F] (w : IVec Cert.Pre_place32.S2 32) (x y : FVec F Cert.Pre_place32.S4x512x1408 .bf16)
    (h : Cert.Pre_place32.fn (F := F) w x y = fun _ => 1#1) : (w (Chips.at_ 0)).toNat < 4 ∧ (w (Chips.at_ 1)).toNat < 2 := by
  have h := congrFun h (fun a => a.elim0)
  have e := Chips.place (w (Chips.at_ 0)) (w (Chips.at_ 1))
  refine e (Eq.trans ?_ h)
  dsimp only [Cert.Pre_place32.fn]
  simp only [andi, cmpi, constantI]
  have e0 (h) (hc) (j) : shapeCast Cert.Pre_place32.S_ (extractStridedSlice Cert.Pre_place32.S1 ![0] w h) hc j = w (Chips.at_ 0) :=
    Chips.word_slice w 0 h hc j
  have e1 (h) (hc) (j) : shapeCast Cert.Pre_place32.S_ (extractStridedSlice Cert.Pre_place32.S1 ![1] w h) hc j = w (Chips.at_ 1) :=
    Chips.word_slice w 1 h hc j
  rw [e0, e1]

end Cert.SumUp

namespace Cert.Kernel32Ideal.SumUp
open Cert.Kernel32Ideal Cert.Kernel32Ideal.Gen Idealize.ShloMosaic Idealize.ShloMosaic.TcCoe Idealize.SL.Sem

variable {F : FTy → Type} [FloatOps F]

/-- The word of the table a slab is named from. -/
theorem word0 (pf : pre0.Contents (Elt F)) : pf.at 0 (Rect.unit (s := S2) ![0] S1.size inb_S2_S1_0) numel1_S1 = pf 0 (Chips.at_ 0) :=
  congrArg (pf 0) (funext fun a => Fin.ext (by match a with | ⟨0, _⟩ => rfl))
/-- The word of the table the half is named from. -/
theorem word1 (pf : pre0.Contents (Elt F)) : pf.at 0 (Rect.unit (s := S2) ![1] S1.size inb_S2_S1_1) numel1_S1 = pf 0 (Chips.at_ 1) :=
  congrArg (pf 0) (funext fun a => Fin.ext (by match a with | ⟨0, _⟩ => rfl))

/-- There is one grid point, at coordinate 0. -/
theorem coord (i : grid0.Coords) : (BitVec.ofNat 32 (i 0).val).toNat = 0 := by
  have h : (i 0).val < 1 := (i 0).isLt
  rw [show (i 0).val = 0 by omega]; rfl

/-- The windows lie inside their arrays. -/
theorem ok (m : (ℓ : Loc nD τ sig) → Buf (Elt F) ℓ)
    (h0 : (tbl m 0 (Chips.at_ 0)).toNat < 4) (h1 : (tbl m 0 (Chips.at_ 1)).toNat < 2) : Ok m := by
  have hx (d : Fin 4) := Chips.xor_lt (tbl m 0 (Chips.at_ 0)) d h0
  have hs (d : Fin 4) (i : grid0.Coords) := Chips.slab_le 512 1408 _ _ (hx d) (coord i)
  refine ⟨fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩,
    fun i => ⟨?_, .inl rfl⟩⟩
  · unfold cc0_transform_0; rw [word0]; exact hs 0 i
  · unfold cc0_transform_1; rw [word0]; exact hs 1 i
  · unfold cc0_transform_2; rw [word0]; exact hs 2 i
  · unfold cc0_transform_3; rw [word0]; exact hs 3 i
  · unfold cc0_transform_4; rw [word1]
    exact Chips.half_le 512 1408 _ (Chips.half_lt (tbl m 0 (Chips.at_ 1)) (i 0) h1)

section Value

variable (m : (ℓ : Loc nD τ sig) → Buf (Elt Ideal) ℓ) (hO : Ok m)

/-- The chip's own slabs, and those that came from the others. -/
abbrev SU (c : Dev nD) : S4x512x1408.Idx → EReal := m ((c : Thread nD τ).loc main_arg1)
abbrev SL (c : Dev nD) : S4x512x1408.Idx → EReal := m ((c : Thread nD τ).loc main_arg2)

/-- What the call leaves at row `i 0`: the four chips' slabs at that row of the half, added. -/
def G4 (c : Dev nD) : S1024x1408.Idx → EReal :=
  Chips.total (R := 512) (by norm_num) ((tbl m 0 : S2.Idx → BitVec 32) (Chips.at_ 0)) (SU m c) (SL m c)

/-- Window 0 names the slab at distance 0. -/
theorem emb0 (t : Fin (cfgM m hO).N) (y : S1x512x1408.Idx) (a : Fin 3) :
    ((((cfgM m hO).win 0).blk t).view.emb y a).val
      = cc0_transform_0 inb_S2_S1_0 numel1_S1 (tbl m) ((cfgM m hO).grid.coords t) a * S1x512x1408.size a + 1 * (y a).val := rfl

theorem blk0 (c : Dev nD) (t : Fin (cfgM m hO).N) (r : Fin 512) (k : Fin 1408) (p : Fin 4)
    (hp : (Scalar.xori (tbl m 0 (Chips.at_ 0)) 0#32).toNat = p.val) :
    (iblk m hO c 0 t : S1x512x1408.Idx → EReal) (ix3 0 r k) = SU m c (ix3 p r k) := by
  have hc := coord ((cfgM m hO).grid.coords t)
  refine Eq.trans (b := SU m c ((((cfgM m hO).win 0).blk t).view.emb (ix3 0 r k : S1x512x1408.Idx))) rfl ?_
  refine congrArg (SU m c) (funext fun a => Fin.ext ?_)
  refine (emb0 m hO t (ix3 0 r k) a).trans ?_
  unfold cc0_transform_0
  rw [word0]
  exact Chips.slab_at _ _ p hp hc r k a

/-- Window 1 names the slab at distance 1. -/
theorem emb1 (t : Fin (cfgM m hO).N) (y : S1x512x1408.Idx) (a : Fin 3) :
    ((((cfgM m hO).win 1).blk t).view.emb y a).val
      = cc0_transform_1 inb_S2_S1_0 numel1_S1 (tbl m) ((cfgM m hO).grid.coords t) a * S1x512x1408.size a + 1 * (y a).val := rfl

theorem blk1 (c : Dev nD) (t : Fin (cfgM m hO).N) (r : Fin 512) (k : Fin 1408) (p : Fin 4)
    (hp : (Scalar.xori (tbl m 0 (Chips.at_ 0)) 1#32).toNat = p.val) :
    (iblk m hO c 1 t : S1x512x1408.Idx → EReal) (ix3 0 r k) = SL m c (ix3 p r k) := by
  have hc := coord ((cfgM m hO).grid.coords t)
  refine Eq.trans (b := SL m c ((((cfgM m hO).win 1).blk t).view.emb (ix3 0 r k : S1x512x1408.Idx))) rfl ?_
  refine congrArg (SL m c) (funext fun a => Fin.ext ?_)
  refine (emb1 m hO t (ix3 0 r k) a).trans ?_
  unfold cc0_transform_1
  rw [word0]
  exact Chips.slab_at _ _ p hp hc r k a

/-- Window 2 names the slab at distance 2. -/
theorem emb2 (t : Fin (cfgM m hO).N) (y : S1x512x1408.Idx) (a : Fin 3) :
    ((((cfgM m hO).win 2).blk t).view.emb y a).val
      = cc0_transform_2 inb_S2_S1_0 numel1_S1 (tbl m) ((cfgM m hO).grid.coords t) a * S1x512x1408.size a + 1 * (y a).val := rfl

theorem blk2 (c : Dev nD) (t : Fin (cfgM m hO).N) (r : Fin 512) (k : Fin 1408) (p : Fin 4)
    (hp : (Scalar.xori (tbl m 0 (Chips.at_ 0)) 2#32).toNat = p.val) :
    (iblk m hO c 2 t : S1x512x1408.Idx → EReal) (ix3 0 r k) = SL m c (ix3 p r k) := by
  have hc := coord ((cfgM m hO).grid.coords t)
  refine Eq.trans (b := SL m c ((((cfgM m hO).win 2).blk t).view.emb (ix3 0 r k : S1x512x1408.Idx))) rfl ?_
  refine congrArg (SL m c) (funext fun a => Fin.ext ?_)
  refine (emb2 m hO t (ix3 0 r k) a).trans ?_
  unfold cc0_transform_2
  rw [word0]
  exact Chips.slab_at _ _ p hp hc r k a

/-- The chip's number of the quarter, as the table holds it. -/
def word : BitVec 32 := (tbl m 0 : S2.Idx → BitVec 32) (Chips.at_ 0)

/-- Window 3 names the slab at distance 3. -/
theorem emb3 (t : Fin (cfgM m hO).N) (y : S1x512x1408.Idx) (a : Fin 3) :
    ((((cfgM m hO).win 3).blk t).view.emb y a).val
      = cc0_transform_3 inb_S2_S1_0 numel1_S1 (tbl m) ((cfgM m hO).grid.coords t) a * S1x512x1408.size a + 1 * (y a).val := rfl

theorem blk3 (c : Dev nD) (t : Fin (cfgM m hO).N) (r : Fin 512) (k : Fin 1408) (p : Fin 4)
    (hp : (Scalar.xori (tbl m 0 (Chips.at_ 0)) 3#32).toNat = p.val) :
    (iblk m hO c 3 t : S1x512x1408.Idx → EReal) (ix3 0 r k) = SL m c (ix3 p r k) := by
  have hc := coord ((cfgM m hO).grid.coords t)
  refine Eq.trans (b := SL m c ((((cfgM m hO).win 3).blk t).view.emb (ix3 0 r k : S1x512x1408.Idx))) rfl ?_
  refine congrArg (SL m c) (funext fun a => Fin.ext ?_)
  refine (emb3 m hO t (ix3 0 r k) a).trans ?_
  unfold cc0_transform_3
  rw [word0]
  exact Chips.slab_at _ _ p hp hc r k a

/-- One entry of the block the call writes, from the blocks it reads. -/
theorem out4 (c : Dev nD) (i : grid0.Coords)
    (arg2 : Memref sig .tc .vmem S1x512x1408 .bf16) (harg2 : arg2.IsWhole) (arg3 : Memref sig .tc .vmem S1x512x1408 .bf16) (harg3 : arg3.IsWhole)
    (arg4 : Memref sig .tc .vmem S1x512x1408 .bf16) (harg4 : arg4.IsWhole) (arg5 : Memref sig .tc .vmem S1x512x1408 .bf16) (harg5 : arg5.IsWhole)
    (arg6 : Memref sig .tc .vmem S512x1408 .f32) (harg6 : arg6.IsWhole)
    (x0 x1 x2 x3 : FVec Ideal S1x512x1408 .bf16) (xt0 : TbBuf0 (F := Ideal) c tbM0_0) (w : BitVec 32)
    (hw : View.read (Elt Ideal) (View.whole main_arg0) xt0 (ix1 (0 : Fin 2)) = w)
    (r : Fin 512) (k : Fin 1408) :
    (out0_A_4 c i arg2 harg2 arg3 harg3 arg4 harg4 arg5 harg5 arg6 harg6 x0 x1 x2 x3 xt0 : S512x1408.Idx → EReal) (ix2 r k)
      = ∑ j : Fin 4, Chips.chain w j (fun d : Fin 4 => match d with
          | 0 => (x0 : S1x512x1408.Idx → EReal) (ix3 0 r k) | 1 => x1 (ix3 0 r k) | 2 => x2 (ix3 0 r k) | 3 => x3 (ix3 0 r k)) := by
  rw [Fin.sum_univ_four]
  unfold out0_A_4
  frame_out
  unfold_payloads
  pointwise []
  simp only [hw]
  rfl

/-- One entry of the block the call writes. -/
theorem pay (h0 : (word m).toNat < 4) (c : Dev nD) (t : Fin (cfgM m hO).N) (r : Fin 512) (k : Fin 1408) :
    (outsAt0 m hO c t : S512x1408.Idx → EReal) (ix2 r k)
      = ∑ j : Fin 4, if (word m).toNat = j.val then SU m c (ix3 j r k) else SL m c (ix3 j r k) := by
  have hw : View.read (Elt Ideal) (View.whole main_arg0) (tbl m 0) (ix1 (0 : Fin 2)) = word m :=
    congrArg (tbl m 0 : S2.Idx → BitVec 32) (funext fun a => Fin.ext (by match a with | ⟨0, _⟩ => rfl))
  refine (out4 c _ _ _ _ _ _ _ _ _ _ _ _ _ _ _ _ _ hw r k).trans (Finset.sum_congr rfl fun j _ => ?_)
  exact Chips.pick (word m) h0 j _
    (fun q => SU m c (ix3 q r k)) (fun q => SL m c (ix3 q r k)) (fun q hq => blk0 m hO c t r k q hq)
    (fun d hd q hq => match d, hd, hq with
      | 0, hd, _ => absurd rfl hd
      | 1, _, hq => blk1 m hO c t r k q hq
      | 2, _, hq => blk2 m hO c t r k q hq
      | 3, _, hq => blk3 m hO c t r k q hq)

/-- Window 4 names the half of the rows. -/
theorem emb4 (t : Fin (cfgM m hO).N) (y : S512x1408.Idx) (a : Fin 2) :
    ((((cfgM m hO).win 4).blk t).view.emb y a).val
      = cc0_transform_4 inb_S2_S1_1 numel1_S1 (tbl m) ((cfgM m hO).grid.coords t) a * S512x1408.size a + 1 * (y a).val := rfl

/-- The half a row must lie in is the one the call writes. -/
theorem row4 (h1 : (tbl m 0 (Chips.at_ 1)).toNat < 2) (t : Fin (cfgM m hO).N) (r : Fin 512) (k : Fin 1408) (i : S1024x1408.Idx)
    (hr : (i 0).val = (tbl m 0 (Chips.at_ 1)).toNat * 512 + r.val) (hk : (i 1).val = k.val) :
    (((cfgM m hO).win 4).blk t).view.emb (ix2 r k : S512x1408.Idx) = i := by
  have hc := Chips.half_eq (tbl m 0 (Chips.at_ 1)) ((cfgM m hO).grid.coords t 0) h1
  refine funext fun a => Fin.ext ((emb4 m hO t (ix2 r k) a).trans ?_)
  unfold cc0_transform_4
  rw [word1]
  match a with
  | ⟨0, _⟩ =>
    show (Scalar.addi (Scalar.muli (tbl m 0 (Chips.at_ 1)) 1#32) (BitVec.ofNat 32 ((cfgM m hO).grid.coords t 0).val)).toNat * 512
      + 1 * r.val = (i 0).val
    rw [hc, hr]; omega
  | ⟨1, _⟩ => show 0 * 1408 + 1 * k.val = (i 1).val; omega

/-- The rows the call writes hold what its one grid point left. -/
theorem left4 (c : Dev nD) (t : Fin (cfgM m hO).N) (y : S512x1408.Idx) :
    ((dats m hO 0 c).arrAt 4 (cfgM m hO).N : S1024x1408.Idx → EReal) ((((cfgM m hO).win 4).blk t).view.emb y)
      = (outsAt0 m hO c t : S512x1408.Idx → EReal) y := by
  have hN (t t' : Fin (cfgM m hO).N) : t = t' := (fin_N0 t).trans (fin_N0 t').symm
  have hf : ((cfgM m hO).win 4).flush t = true := by
    rw [fin_N0 t]; unfold Pipeline.Window.flush
    refine Bool.and_eq_true_iff.mpr ⟨rfl, Bool.or_eq_true_iff.mpr (.inl ?_)⟩
    exact decide_eq_true N_0.symm
  have a := congrFun ((dats m hO 0 c).read_blk_arrAt_eq_flushed 4 (fun t t' _ _ h => absurd (hN t t') h) (cfgM m hO).N t t.isLt hf) y
  have b : (dats m hO 0 c).flushed 4 t y = (outsAt0 m hO c t : S512x1408.Idx → EReal) y := by
    refine (Pipeline.Dat.flushed_apply (dats m hO 0 c) 4 t y).trans ?_
    rw [after0_4]
    rfl
  refine Eq.trans ?_ (a.trans b)
  generalize (dats m hO 0 c).arrAt 4 (cfgM m hO).N = f
  rfl

/-- What the call leaves in the half it writes. -/
theorem final4 (h0 : (word m).toNat < 4) (h1 : (tbl m 0 (Chips.at_ 1)).toNat < 2) (c : Dev nD) (i : S1024x1408.Idx)
    (hi : (i 0).val = (tbl m 0 (Chips.at_ 1)).toNat * 512 + (i 0).val % 512) :
    ((dats m hO 0 c).arrAt 4 (cfgM m hO).N : S1024x1408.Idx → EReal) i = G4 m c i := by
  have e := row4 m hO h1 t0_0 ⟨(i 0).val % 512, Nat.mod_lt _ (by norm_num)⟩ (i 1) i hi rfl
  have a := (left4 m hO c t0_0 (ix2 ⟨(i 0).val % 512, Nat.mod_lt _ (by norm_num)⟩ (i 1))).trans (pay m hO h0 c t0_0 _ _)
  rw [e] at a
  exact a

/-- The mask is the half of the rows the core writes. -/
theorem mask (w : IVec Cert.On_core_half32.S2 32) (x y : FVec Ideal Cert.On_core_half32.S4x512x1408 .bf16)
    (h1 : (w (Chips.at_ 1)).toNat < 2) (i : S1024x1408.Idx) (h : Cert.On_core_half32.fn (F := Ideal) w x y i = 1#1) :
    (i 0).val = (w (Chips.at_ 1)).toNat * 512 + (i 0).val % 512 := by
  refine Chips.half_row 512 (by norm_num) _ h1 _ (i 0).isLt (Eq.trans ?_ h)
  have e1 (h) (hc) (j) : shapeCast Cert.On_core_half32.S_ (extractStridedSlice Cert.On_core_half32.S1 ![1] w h) hc j = w (Chips.at_ 1) :=
    Chips.word_slice w 1 h hc j
  dsimp only [Cert.On_core_half32.fn]
  simp only [cmpi, iotaInDim, broadcastInDim, constantI]
  rw [e1]

/-- The reference at a row of either half. -/
theorem ref4 (c : Dev nD) (w : S2.Idx → BitVec 32) (hw : w (Chips.at_ 0) = word m) (i : S1024x1408.Idx) :
    (Cert.Reference32Ideal.Read.val_main_v8 (F := Ideal) w (SU m c) (SL m c) : S1024x1408.Idx → EReal) i = G4 m c i := by
  have e0 (h) (hc) (j) : shapeCast Cert.Reference32Ideal.S_ (extractStridedSlice Cert.Reference32Ideal.S1 ![0] w h) hc j = w (Chips.at_ 0) :=
    Chips.word_slice w 0 h hc j
  have v (q : Cert.Reference32Ideal.S4x512x1408.Idx) :
      (Cert.Reference32Ideal.Read.val_main_v6 (F := Ideal) w (SU m c) (SL m c) : S4x512x1408.Idx → EReal) q
        = Scalar.select (IntOp.cmpi .eq (BitVec.ofNat 32 (q 0).val) (word m)) (SU m c q) (SL m c q) := by
    rw [Cert.Reference32Ideal.Read.val_main_v6_apply, Cert.Reference32Ideal.Read.val_main_v5_apply,
      Cert.Reference32Ideal.Read.val_main_v4_apply, Cert.Reference32Ideal.Read.val_main_v3_apply, Cert.Reference32Ideal.Read.val_main_v0_apply]
    unfold Cert.Reference32Ideal.Read.val_main_v2 Cert.Reference32Ideal.Read.val_main_v1
    rw [e0, hw]
    rfl
  have e (y : Cert.Reference32Ideal.S512x1408.Idx) (hr : (y 0).val = (i 0).val % 512) (hk : (y 1).val = (i 1).val) :
      (Cert.Reference32Ideal.Read.val_main_v7 (F := Ideal) w (SU m c) (SL m c) : S512x1408.Idx → EReal) y = G4 m c i := by
    rw [Cert.Reference32Ideal.Read.val_main_v7_apply]
    rw [show (Cert.Reference32Ideal.Read.val_main_cst (F := Ideal)) (Shape.Idx.first Cert.Reference32Ideal.Gen.h_S_) = (0 : EReal) from Ideal.ofBits_zero_f32, zero_add]
    unfold G4 Chips.total
    refine Finset.sum_congr rfl fun j _ => ?_
    have hi : Cert.Reference32Ideal.Read.idx_main_v7 y j = ix3 j ⟨(i 0).val % 512, Nat.mod_lt _ (by norm_num)⟩ (i 1) :=
      funext fun a => Fin.ext (by match a with | ⟨0, _⟩ => rfl | ⟨1, _⟩ => exact hr | ⟨2, _⟩ => exact hk)
    refine (v _).trans ((Chips.own (word m) j _ _).trans ?_)
    exact congrArg (fun q => if (word m).toNat = j.val then SU m c q else SL m c q) hi
  unfold Cert.Reference32Ideal.Read.val_main_v8
  exact Chips.halves 512 1024 1408 rfl _ _ i _ e

end Value

end Cert.Kernel32Ideal.SumUp
-- ==== Proof.SumDown.lean ====
module

public import proofs.«01_k».proof.Proof.Chips
public import proofs.«01_k».proof.Proof.Gen.Kernel33Ideal.Frame
public import proofs.«01_k».proof.Proof.Gen.Reference33Ideal.Read
public import proofs.«01_k».proof.Proof.Gen.Pre_place33
public import proofs.«01_k».proof.Proof.Gen.On_core_half33
public import Idealize.ShloMosaic.Lib.Pipeline.ValueKit
public import Idealize.ShloMosaic.Lib.Pipeline.ReadBack
public import Idealize.ShloMosaic.Lib.Pointwise

/-!
# `sum_chips_w_down`

The call adds the slabs of the four chips in the chips' order: the chip's own from one array, the three others' from the array
they were sent into.  It writes the half of the rows that is its core's.
-/

@[expose] public section

set_option maxRecDepth 16384

noncomputable section

namespace Cert.SumDown

open Idealize.ShloMosaic Idealize.ShloMosaic.TcCoe

/-- The precondition, decoded. -/
theorem place_of {F : FTy → Type} [FloatOps F] (w : IVec Cert.Pre_place33.S2 32) (x y : FVec F Cert.Pre_place33.S4x352x1024 .bf16)
    (h : Cert.Pre_place33.fn (F := F) w x y = fun _ => 1#1) : (w (Chips.at_ 0)).toNat < 4 ∧ (w (Chips.at_ 1)).toNat < 2 := by
  have h := congrFun h (fun a => a.elim0)
  have e := Chips.place (w (Chips.at_ 0)) (w (Chips.at_ 1))
  refine e (Eq.trans ?_ h)
  dsimp only [Cert.Pre_place33.fn]
  simp only [andi, cmpi, constantI]
  have e0 (h) (hc) (j) : shapeCast Cert.Pre_place33.S_ (extractStridedSlice Cert.Pre_place33.S1 ![0] w h) hc j = w (Chips.at_ 0) :=
    Chips.word_slice w 0 h hc j
  have e1 (h) (hc) (j) : shapeCast Cert.Pre_place33.S_ (extractStridedSlice Cert.Pre_place33.S1 ![1] w h) hc j = w (Chips.at_ 1) :=
    Chips.word_slice w 1 h hc j
  rw [e0, e1]

end Cert.SumDown

namespace Cert.Kernel33Ideal.SumDown
open Cert.Kernel33Ideal Cert.Kernel33Ideal.Gen Idealize.ShloMosaic Idealize.ShloMosaic.TcCoe Idealize.SL.Sem

variable {F : FTy → Type} [FloatOps F]

/-- The word of the table a slab is named from. -/
theorem word0 (pf : pre0.Contents (Elt F)) : pf.at 0 (Rect.unit (s := S2) ![0] S1.size inb_S2_S1_0) numel1_S1 = pf 0 (Chips.at_ 0) :=
  congrArg (pf 0) (funext fun a => Fin.ext (by match a with | ⟨0, _⟩ => rfl))
/-- The word of the table the half is named from. -/
theorem word1 (pf : pre0.Contents (Elt F)) : pf.at 0 (Rect.unit (s := S2) ![1] S1.size inb_S2_S1_1) numel1_S1 = pf 0 (Chips.at_ 1) :=
  congrArg (pf 0) (funext fun a => Fin.ext (by match a with | ⟨0, _⟩ => rfl))

/-- There is one grid point, at coordinate 0. -/
theorem coord (i : grid0.Coords) : (BitVec.ofNat 32 (i 0).val).toNat = 0 := by
  have h : (i 0).val < 1 := (i 0).isLt
  rw [show (i 0).val = 0 by omega]; rfl

/-- The windows lie inside their arrays. -/
theorem ok (m : (ℓ : Loc nD τ sig) → Buf (Elt F) ℓ)
    (h0 : (tbl m 0 (Chips.at_ 0)).toNat < 4) (h1 : (tbl m 0 (Chips.at_ 1)).toNat < 2) : Ok m := by
  have hx (d : Fin 4) := Chips.xor_lt (tbl m 0 (Chips.at_ 0)) d h0
  have hs (d : Fin 4) (i : grid0.Coords) := Chips.slab_le 352 1024 _ _ (hx d) (coord i)
  refine ⟨fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩,
    fun i => ⟨?_, .inl rfl⟩⟩
  · unfold cc0_transform_0; rw [word0]; exact hs 0 i
  · unfold cc0_transform_1; rw [word0]; exact hs 1 i
  · unfold cc0_transform_2; rw [word0]; exact hs 2 i
  · unfold cc0_transform_3; rw [word0]; exact hs 3 i
  · unfold cc0_transform_4; rw [word1]
    exact Chips.half_le 352 1024 _ (Chips.half_lt (tbl m 0 (Chips.at_ 1)) (i 0) h1)

section Value

variable (m : (ℓ : Loc nD τ sig) → Buf (Elt Ideal) ℓ) (hO : Ok m)

/-- The chip's own slabs, and those that came from the others. -/
abbrev SU (c : Dev nD) : S4x352x1024.Idx → EReal := m ((c : Thread nD τ).loc main_arg1)
abbrev SL (c : Dev nD) : S4x352x1024.Idx → EReal := m ((c : Thread nD τ).loc main_arg2)

/-- What the call leaves at row `i 0`: the four chips' slabs at that row of the half, added. -/
def G4 (c : Dev nD) : S704x1024.Idx → EReal :=
  Chips.total (R := 352) (by norm_num) ((tbl m 0 : S2.Idx → BitVec 32) (Chips.at_ 0)) (SU m c) (SL m c)

/-- Window 0 names the slab at distance 0. -/
theorem emb0 (t : Fin (cfgM m hO).N) (y : S1x352x1024.Idx) (a : Fin 3) :
    ((((cfgM m hO).win 0).blk t).view.emb y a).val
      = cc0_transform_0 inb_S2_S1_0 numel1_S1 (tbl m) ((cfgM m hO).grid.coords t) a * S1x352x1024.size a + 1 * (y a).val := rfl

theorem blk0 (c : Dev nD) (t : Fin (cfgM m hO).N) (r : Fin 352) (k : Fin 1024) (p : Fin 4)
    (hp : (Scalar.xori (tbl m 0 (Chips.at_ 0)) 0#32).toNat = p.val) :
    (iblk m hO c 0 t : S1x352x1024.Idx → EReal) (ix3 0 r k) = SU m c (ix3 p r k) := by
  have hc := coord ((cfgM m hO).grid.coords t)
  refine Eq.trans (b := SU m c ((((cfgM m hO).win 0).blk t).view.emb (ix3 0 r k : S1x352x1024.Idx))) rfl ?_
  refine congrArg (SU m c) (funext fun a => Fin.ext ?_)
  refine (emb0 m hO t (ix3 0 r k) a).trans ?_
  unfold cc0_transform_0
  rw [word0]
  exact Chips.slab_at _ _ p hp hc r k a

/-- Window 1 names the slab at distance 1. -/
theorem emb1 (t : Fin (cfgM m hO).N) (y : S1x352x1024.Idx) (a : Fin 3) :
    ((((cfgM m hO).win 1).blk t).view.emb y a).val
      = cc0_transform_1 inb_S2_S1_0 numel1_S1 (tbl m) ((cfgM m hO).grid.coords t) a * S1x352x1024.size a + 1 * (y a).val := rfl

theorem blk1 (c : Dev nD) (t : Fin (cfgM m hO).N) (r : Fin 352) (k : Fin 1024) (p : Fin 4)
    (hp : (Scalar.xori (tbl m 0 (Chips.at_ 0)) 1#32).toNat = p.val) :
    (iblk m hO c 1 t : S1x352x1024.Idx → EReal) (ix3 0 r k) = SL m c (ix3 p r k) := by
  have hc := coord ((cfgM m hO).grid.coords t)
  refine Eq.trans (b := SL m c ((((cfgM m hO).win 1).blk t).view.emb (ix3 0 r k : S1x352x1024.Idx))) rfl ?_
  refine congrArg (SL m c) (funext fun a => Fin.ext ?_)
  refine (emb1 m hO t (ix3 0 r k) a).trans ?_
  unfold cc0_transform_1
  rw [word0]
  exact Chips.slab_at _ _ p hp hc r k a

/-- Window 2 names the slab at distance 2. -/
theorem emb2 (t : Fin (cfgM m hO).N) (y : S1x352x1024.Idx) (a : Fin 3) :
    ((((cfgM m hO).win 2).blk t).view.emb y a).val
      = cc0_transform_2 inb_S2_S1_0 numel1_S1 (tbl m) ((cfgM m hO).grid.coords t) a * S1x352x1024.size a + 1 * (y a).val := rfl

theorem blk2 (c : Dev nD) (t : Fin (cfgM m hO).N) (r : Fin 352) (k : Fin 1024) (p : Fin 4)
    (hp : (Scalar.xori (tbl m 0 (Chips.at_ 0)) 2#32).toNat = p.val) :
    (iblk m hO c 2 t : S1x352x1024.Idx → EReal) (ix3 0 r k) = SL m c (ix3 p r k) := by
  have hc := coord ((cfgM m hO).grid.coords t)
  refine Eq.trans (b := SL m c ((((cfgM m hO).win 2).blk t).view.emb (ix3 0 r k : S1x352x1024.Idx))) rfl ?_
  refine congrArg (SL m c) (funext fun a => Fin.ext ?_)
  refine (emb2 m hO t (ix3 0 r k) a).trans ?_
  unfold cc0_transform_2
  rw [word0]
  exact Chips.slab_at _ _ p hp hc r k a

/-- The chip's number of the quarter, as the table holds it. -/
def word : BitVec 32 := (tbl m 0 : S2.Idx → BitVec 32) (Chips.at_ 0)

/-- Window 3 names the slab at distance 3. -/
theorem emb3 (t : Fin (cfgM m hO).N) (y : S1x352x1024.Idx) (a : Fin 3) :
    ((((cfgM m hO).win 3).blk t).view.emb y a).val
      = cc0_transform_3 inb_S2_S1_0 numel1_S1 (tbl m) ((cfgM m hO).grid.coords t) a * S1x352x1024.size a + 1 * (y a).val := rfl

theorem blk3 (c : Dev nD) (t : Fin (cfgM m hO).N) (r : Fin 352) (k : Fin 1024) (p : Fin 4)
    (hp : (Scalar.xori (tbl m 0 (Chips.at_ 0)) 3#32).toNat = p.val) :
    (iblk m hO c 3 t : S1x352x1024.Idx → EReal) (ix3 0 r k) = SL m c (ix3 p r k) := by
  have hc := coord ((cfgM m hO).grid.coords t)
  refine Eq.trans (b := SL m c ((((cfgM m hO).win 3).blk t).view.emb (ix3 0 r k : S1x352x1024.Idx))) rfl ?_
  refine congrArg (SL m c) (funext fun a => Fin.ext ?_)
  refine (emb3 m hO t (ix3 0 r k) a).trans ?_
  unfold cc0_transform_3
  rw [word0]
  exact Chips.slab_at _ _ p hp hc r k a

/-- One entry of the block the call writes, from the blocks it reads. -/
theorem out4 (c : Dev nD) (i : grid0.Coords)
    (arg2 : Memref sig .tc .vmem S1x352x1024 .bf16) (harg2 : arg2.IsWhole) (arg3 : Memref sig .tc .vmem S1x352x1024 .bf16) (harg3 : arg3.IsWhole)
    (arg4 : Memref sig .tc .vmem S1x352x1024 .bf16) (harg4 : arg4.IsWhole) (arg5 : Memref sig .tc .vmem S1x352x1024 .bf16) (harg5 : arg5.IsWhole)
    (arg6 : Memref sig .tc .vmem S352x1024 .f32) (harg6 : arg6.IsWhole)
    (x0 x1 x2 x3 : FVec Ideal S1x352x1024 .bf16) (xt0 : TbBuf0 (F := Ideal) c tbM0_0) (w : BitVec 32)
    (hw : View.read (Elt Ideal) (View.whole main_arg0) xt0 (ix1 (0 : Fin 2)) = w)
    (r : Fin 352) (k : Fin 1024) :
    (out0_A_4 c i arg2 harg2 arg3 harg3 arg4 harg4 arg5 harg5 arg6 harg6 x0 x1 x2 x3 xt0 : S352x1024.Idx → EReal) (ix2 r k)
      = ∑ j : Fin 4, Chips.chain w j (fun d : Fin 4 => match d with
          | 0 => (x0 : S1x352x1024.Idx → EReal) (ix3 0 r k) | 1 => x1 (ix3 0 r k) | 2 => x2 (ix3 0 r k) | 3 => x3 (ix3 0 r k)) := by
  rw [Fin.sum_univ_four]
  unfold out0_A_4
  frame_out
  unfold_payloads
  pointwise []
  simp only [hw]
  rfl

/-- One entry of the block the call writes. -/
theorem pay (h0 : (word m).toNat < 4) (c : Dev nD) (t : Fin (cfgM m hO).N) (r : Fin 352) (k : Fin 1024) :
    (outsAt0 m hO c t : S352x1024.Idx → EReal) (ix2 r k)
      = ∑ j : Fin 4, if (word m).toNat = j.val then SU m c (ix3 j r k) else SL m c (ix3 j r k) := by
  have hw : View.read (Elt Ideal) (View.whole main_arg0) (tbl m 0) (ix1 (0 : Fin 2)) = word m :=
    congrArg (tbl m 0 : S2.Idx → BitVec 32) (funext fun a => Fin.ext (by match a with | ⟨0, _⟩ => rfl))
  refine (out4 c _ _ _ _ _ _ _ _ _ _ _ _ _ _ _ _ _ hw r k).trans (Finset.sum_congr rfl fun j _ => ?_)
  exact Chips.pick (word m) h0 j _
    (fun q => SU m c (ix3 q r k)) (fun q => SL m c (ix3 q r k)) (fun q hq => blk0 m hO c t r k q hq)
    (fun d hd q hq => match d, hd, hq with
      | 0, hd, _ => absurd rfl hd
      | 1, _, hq => blk1 m hO c t r k q hq
      | 2, _, hq => blk2 m hO c t r k q hq
      | 3, _, hq => blk3 m hO c t r k q hq)

/-- Window 4 names the half of the rows. -/
theorem emb4 (t : Fin (cfgM m hO).N) (y : S352x1024.Idx) (a : Fin 2) :
    ((((cfgM m hO).win 4).blk t).view.emb y a).val
      = cc0_transform_4 inb_S2_S1_1 numel1_S1 (tbl m) ((cfgM m hO).grid.coords t) a * S352x1024.size a + 1 * (y a).val := rfl

/-- The half a row must lie in is the one the call writes. -/
theorem row4 (h1 : (tbl m 0 (Chips.at_ 1)).toNat < 2) (t : Fin (cfgM m hO).N) (r : Fin 352) (k : Fin 1024) (i : S704x1024.Idx)
    (hr : (i 0).val = (tbl m 0 (Chips.at_ 1)).toNat * 352 + r.val) (hk : (i 1).val = k.val) :
    (((cfgM m hO).win 4).blk t).view.emb (ix2 r k : S352x1024.Idx) = i := by
  have hc := Chips.half_eq (tbl m 0 (Chips.at_ 1)) ((cfgM m hO).grid.coords t 0) h1
  refine funext fun a => Fin.ext ((emb4 m hO t (ix2 r k) a).trans ?_)
  unfold cc0_transform_4
  rw [word1]
  match a with
  | ⟨0, _⟩ =>
    show (Scalar.addi (Scalar.muli (tbl m 0 (Chips.at_ 1)) 1#32) (BitVec.ofNat 32 ((cfgM m hO).grid.coords t 0).val)).toNat * 352
      + 1 * r.val = (i 0).val
    rw [hc, hr]; omega
  | ⟨1, _⟩ => show 0 * 1024 + 1 * k.val = (i 1).val; omega

/-- The rows the call writes hold what its one grid point left. -/
theorem left4 (c : Dev nD) (t : Fin (cfgM m hO).N) (y : S352x1024.Idx) :
    ((dats m hO 0 c).arrAt 4 (cfgM m hO).N : S704x1024.Idx → EReal) ((((cfgM m hO).win 4).blk t).view.emb y)
      = (outsAt0 m hO c t : S352x1024.Idx → EReal) y := by
  have hN (t t' : Fin (cfgM m hO).N) : t = t' := (fin_N0 t).trans (fin_N0 t').symm
  have hf : ((cfgM m hO).win 4).flush t = true := by
    rw [fin_N0 t]; unfold Pipeline.Window.flush
    refine Bool.and_eq_true_iff.mpr ⟨rfl, Bool.or_eq_true_iff.mpr (.inl ?_)⟩
    exact decide_eq_true N_0.symm
  have a := congrFun ((dats m hO 0 c).read_blk_arrAt_eq_flushed 4 (fun t t' _ _ h => absurd (hN t t') h) (cfgM m hO).N t t.isLt hf) y
  have b : (dats m hO 0 c).flushed 4 t y = (outsAt0 m hO c t : S352x1024.Idx → EReal) y := by
    refine (Pipeline.Dat.flushed_apply (dats m hO 0 c) 4 t y).trans ?_
    rw [after0_4]
    rfl
  refine Eq.trans ?_ (a.trans b)
  generalize (dats m hO 0 c).arrAt 4 (cfgM m hO).N = f
  rfl

/-- What the call leaves in the half it writes. -/
theorem final4 (h0 : (word m).toNat < 4) (h1 : (tbl m 0 (Chips.at_ 1)).toNat < 2) (c : Dev nD) (i : S704x1024.Idx)
    (hi : (i 0).val = (tbl m 0 (Chips.at_ 1)).toNat * 352 + (i 0).val % 352) :
    ((dats m hO 0 c).arrAt 4 (cfgM m hO).N : S704x1024.Idx → EReal) i = G4 m c i := by
  have e := row4 m hO h1 t0_0 ⟨(i 0).val % 352, Nat.mod_lt _ (by norm_num)⟩ (i 1) i hi rfl
  have a := (left4 m hO c t0_0 (ix2 ⟨(i 0).val % 352, Nat.mod_lt _ (by norm_num)⟩ (i 1))).trans (pay m hO h0 c t0_0 _ _)
  rw [e] at a
  exact a

/-- The mask is the half of the rows the core writes. -/
theorem mask (w : IVec Cert.On_core_half33.S2 32) (x y : FVec Ideal Cert.On_core_half33.S4x352x1024 .bf16)
    (h1 : (w (Chips.at_ 1)).toNat < 2) (i : S704x1024.Idx) (h : Cert.On_core_half33.fn (F := Ideal) w x y i = 1#1) :
    (i 0).val = (w (Chips.at_ 1)).toNat * 352 + (i 0).val % 352 := by
  refine Chips.half_row 352 (by norm_num) _ h1 _ (i 0).isLt (Eq.trans ?_ h)
  have e1 (h) (hc) (j) : shapeCast Cert.On_core_half33.S_ (extractStridedSlice Cert.On_core_half33.S1 ![1] w h) hc j = w (Chips.at_ 1) :=
    Chips.word_slice w 1 h hc j
  dsimp only [Cert.On_core_half33.fn]
  simp only [cmpi, iotaInDim, broadcastInDim, constantI]
  rw [e1]

/-- The reference at a row of either half. -/
theorem ref4 (c : Dev nD) (w : S2.Idx → BitVec 32) (hw : w (Chips.at_ 0) = word m) (i : S704x1024.Idx) :
    (Cert.Reference33Ideal.Read.val_main_v8 (F := Ideal) w (SU m c) (SL m c) : S704x1024.Idx → EReal) i = G4 m c i := by
  have e0 (h) (hc) (j) : shapeCast Cert.Reference33Ideal.S_ (extractStridedSlice Cert.Reference33Ideal.S1 ![0] w h) hc j = w (Chips.at_ 0) :=
    Chips.word_slice w 0 h hc j
  have v (q : Cert.Reference33Ideal.S4x352x1024.Idx) :
      (Cert.Reference33Ideal.Read.val_main_v6 (F := Ideal) w (SU m c) (SL m c) : S4x352x1024.Idx → EReal) q
        = Scalar.select (IntOp.cmpi .eq (BitVec.ofNat 32 (q 0).val) (word m)) (SU m c q) (SL m c q) := by
    rw [Cert.Reference33Ideal.Read.val_main_v6_apply, Cert.Reference33Ideal.Read.val_main_v5_apply,
      Cert.Reference33Ideal.Read.val_main_v4_apply, Cert.Reference33Ideal.Read.val_main_v3_apply, Cert.Reference33Ideal.Read.val_main_v0_apply]
    unfold Cert.Reference33Ideal.Read.val_main_v2 Cert.Reference33Ideal.Read.val_main_v1
    rw [e0, hw]
    rfl
  have e (y : Cert.Reference33Ideal.S352x1024.Idx) (hr : (y 0).val = (i 0).val % 352) (hk : (y 1).val = (i 1).val) :
      (Cert.Reference33Ideal.Read.val_main_v7 (F := Ideal) w (SU m c) (SL m c) : S352x1024.Idx → EReal) y = G4 m c i := by
    rw [Cert.Reference33Ideal.Read.val_main_v7_apply]
    rw [show (Cert.Reference33Ideal.Read.val_main_cst (F := Ideal)) (Shape.Idx.first Cert.Reference33Ideal.Gen.h_S_) = (0 : EReal) from Ideal.ofBits_zero_f32, zero_add]
    unfold G4 Chips.total
    refine Finset.sum_congr rfl fun j _ => ?_
    have hi : Cert.Reference33Ideal.Read.idx_main_v7 y j = ix3 j ⟨(i 0).val % 352, Nat.mod_lt _ (by norm_num)⟩ (i 1) :=
      funext fun a => Fin.ext (by match a with | ⟨0, _⟩ => rfl | ⟨1, _⟩ => exact hr | ⟨2, _⟩ => exact hk)
    refine (v _).trans ((Chips.own (word m) j _ _).trans ?_)
    exact congrArg (fun q => if (word m).toNat = j.val then SU m c q else SL m c q) hi
  unfold Cert.Reference33Ideal.Read.val_main_v8
  exact Chips.halves 352 704 1024 rfl _ _ i _ e

end Value

end Cert.Kernel33Ideal.SumDown
-- ==== Proof.SumSq.lean ====
module

public import proofs.«01_k».proof.Proof.Chips
public import proofs.«01_k».proof.Proof.Gen.Kernel34Ideal.Frame
public import proofs.«01_k».proof.Proof.Gen.Reference34Ideal.Read
public import proofs.«01_k».proof.Proof.Gen.Pre_place34
public import proofs.«01_k».proof.Proof.Gen.On_core_half34
public import Idealize.ShloMosaic.Lib.Pipeline.ValueKit
public import Idealize.ShloMosaic.Lib.Pipeline.ReadBack
public import Idealize.ShloMosaic.Lib.Pointwise

/-!
# `sum_chips_sq`

The call adds the slabs of the four chips in the chips' order: the chip's own from one array, the three others' from the array
they were sent into.  It writes the half of the rows that is its core's.
-/

@[expose] public section

set_option maxRecDepth 16384

noncomputable section

namespace Cert.SumSq

open Idealize.ShloMosaic Idealize.ShloMosaic.TcCoe

/-- The precondition, decoded. -/
theorem place_of {F : FTy → Type} [FloatOps F] (w : IVec Cert.Pre_place34.S2 32) (x y : FVec F Cert.Pre_place34.S4x128x1024 .bf16)
    (h : Cert.Pre_place34.fn (F := F) w x y = fun _ => 1#1) : (w (Chips.at_ 0)).toNat < 4 ∧ (w (Chips.at_ 1)).toNat < 2 := by
  have h := congrFun h (fun a => a.elim0)
  have e := Chips.place (w (Chips.at_ 0)) (w (Chips.at_ 1))
  refine e (Eq.trans ?_ h)
  dsimp only [Cert.Pre_place34.fn]
  simp only [andi, cmpi, constantI]
  have e0 (h) (hc) (j) : shapeCast Cert.Pre_place34.S_ (extractStridedSlice Cert.Pre_place34.S1 ![0] w h) hc j = w (Chips.at_ 0) :=
    Chips.word_slice w 0 h hc j
  have e1 (h) (hc) (j) : shapeCast Cert.Pre_place34.S_ (extractStridedSlice Cert.Pre_place34.S1 ![1] w h) hc j = w (Chips.at_ 1) :=
    Chips.word_slice w 1 h hc j
  rw [e0, e1]

end Cert.SumSq

namespace Cert.Kernel34Ideal.SumSq
open Cert.Kernel34Ideal Cert.Kernel34Ideal.Gen Idealize.ShloMosaic Idealize.ShloMosaic.TcCoe Idealize.SL.Sem

variable {F : FTy → Type} [FloatOps F]

/-- The word of the table a slab is named from. -/
theorem word0 (pf : pre0.Contents (Elt F)) : pf.at 0 (Rect.unit (s := S2) ![0] S1.size inb_S2_S1_0) numel1_S1 = pf 0 (Chips.at_ 0) :=
  congrArg (pf 0) (funext fun a => Fin.ext (by match a with | ⟨0, _⟩ => rfl))
/-- The word of the table the half is named from. -/
theorem word1 (pf : pre0.Contents (Elt F)) : pf.at 0 (Rect.unit (s := S2) ![1] S1.size inb_S2_S1_1) numel1_S1 = pf 0 (Chips.at_ 1) :=
  congrArg (pf 0) (funext fun a => Fin.ext (by match a with | ⟨0, _⟩ => rfl))

/-- There is one grid point, at coordinate 0. -/
theorem coord (i : grid0.Coords) : (BitVec.ofNat 32 (i 0).val).toNat = 0 := by
  have h : (i 0).val < 1 := (i 0).isLt
  rw [show (i 0).val = 0 by omega]; rfl

/-- The windows lie inside their arrays. -/
theorem ok (m : (ℓ : Loc nD τ sig) → Buf (Elt F) ℓ)
    (h0 : (tbl m 0 (Chips.at_ 0)).toNat < 4) (h1 : (tbl m 0 (Chips.at_ 1)).toNat < 2) : Ok m := by
  have hx (d : Fin 4) := Chips.xor_lt (tbl m 0 (Chips.at_ 0)) d h0
  have hs (d : Fin 4) (i : grid0.Coords) := Chips.slab_le 128 1024 _ _ (hx d) (coord i)
  refine ⟨fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩,
    fun i => ⟨?_, .inl rfl⟩⟩
  · unfold cc0_transform_0; rw [word0]; exact hs 0 i
  · unfold cc0_transform_1; rw [word0]; exact hs 1 i
  · unfold cc0_transform_2; rw [word0]; exact hs 2 i
  · unfold cc0_transform_3; rw [word0]; exact hs 3 i
  · unfold cc0_transform_4; rw [word1]
    exact Chips.half_le 128 1024 _ (Chips.half_lt (tbl m 0 (Chips.at_ 1)) (i 0) h1)

section Value

variable (m : (ℓ : Loc nD τ sig) → Buf (Elt Ideal) ℓ) (hO : Ok m)

/-- The chip's own slabs, and those that came from the others. -/
abbrev SU (c : Dev nD) : S4x128x1024.Idx → EReal := m ((c : Thread nD τ).loc main_arg1)
abbrev SL (c : Dev nD) : S4x128x1024.Idx → EReal := m ((c : Thread nD τ).loc main_arg2)

/-- What the call leaves at row `i 0`: the four chips' slabs at that row of the half, added. -/
def G4 (c : Dev nD) : S256x1024.Idx → EReal :=
  Chips.total (R := 128) (by norm_num) ((tbl m 0 : S2.Idx → BitVec 32) (Chips.at_ 0)) (SU m c) (SL m c)

/-- Window 0 names the slab at distance 0. -/
theorem emb0 (t : Fin (cfgM m hO).N) (y : S1x128x1024.Idx) (a : Fin 3) :
    ((((cfgM m hO).win 0).blk t).view.emb y a).val
      = cc0_transform_0 inb_S2_S1_0 numel1_S1 (tbl m) ((cfgM m hO).grid.coords t) a * S1x128x1024.size a + 1 * (y a).val := rfl

theorem blk0 (c : Dev nD) (t : Fin (cfgM m hO).N) (r : Fin 128) (k : Fin 1024) (p : Fin 4)
    (hp : (Scalar.xori (tbl m 0 (Chips.at_ 0)) 0#32).toNat = p.val) :
    (iblk m hO c 0 t : S1x128x1024.Idx → EReal) (ix3 0 r k) = SU m c (ix3 p r k) := by
  have hc := coord ((cfgM m hO).grid.coords t)
  refine Eq.trans (b := SU m c ((((cfgM m hO).win 0).blk t).view.emb (ix3 0 r k : S1x128x1024.Idx))) rfl ?_
  refine congrArg (SU m c) (funext fun a => Fin.ext ?_)
  refine (emb0 m hO t (ix3 0 r k) a).trans ?_
  unfold cc0_transform_0
  rw [word0]
  exact Chips.slab_at _ _ p hp hc r k a

/-- Window 1 names the slab at distance 1. -/
theorem emb1 (t : Fin (cfgM m hO).N) (y : S1x128x1024.Idx) (a : Fin 3) :
    ((((cfgM m hO).win 1).blk t).view.emb y a).val
      = cc0_transform_1 inb_S2_S1_0 numel1_S1 (tbl m) ((cfgM m hO).grid.coords t) a * S1x128x1024.size a + 1 * (y a).val := rfl

theorem blk1 (c : Dev nD) (t : Fin (cfgM m hO).N) (r : Fin 128) (k : Fin 1024) (p : Fin 4)
    (hp : (Scalar.xori (tbl m 0 (Chips.at_ 0)) 1#32).toNat = p.val) :
    (iblk m hO c 1 t : S1x128x1024.Idx → EReal) (ix3 0 r k) = SL m c (ix3 p r k) := by
  have hc := coord ((cfgM m hO).grid.coords t)
  refine Eq.trans (b := SL m c ((((cfgM m hO).win 1).blk t).view.emb (ix3 0 r k : S1x128x1024.Idx))) rfl ?_
  refine congrArg (SL m c) (funext fun a => Fin.ext ?_)
  refine (emb1 m hO t (ix3 0 r k) a).trans ?_
  unfold cc0_transform_1
  rw [word0]
  exact Chips.slab_at _ _ p hp hc r k a

/-- Window 2 names the slab at distance 2. -/
theorem emb2 (t : Fin (cfgM m hO).N) (y : S1x128x1024.Idx) (a : Fin 3) :
    ((((cfgM m hO).win 2).blk t).view.emb y a).val
      = cc0_transform_2 inb_S2_S1_0 numel1_S1 (tbl m) ((cfgM m hO).grid.coords t) a * S1x128x1024.size a + 1 * (y a).val := rfl

theorem blk2 (c : Dev nD) (t : Fin (cfgM m hO).N) (r : Fin 128) (k : Fin 1024) (p : Fin 4)
    (hp : (Scalar.xori (tbl m 0 (Chips.at_ 0)) 2#32).toNat = p.val) :
    (iblk m hO c 2 t : S1x128x1024.Idx → EReal) (ix3 0 r k) = SL m c (ix3 p r k) := by
  have hc := coord ((cfgM m hO).grid.coords t)
  refine Eq.trans (b := SL m c ((((cfgM m hO).win 2).blk t).view.emb (ix3 0 r k : S1x128x1024.Idx))) rfl ?_
  refine congrArg (SL m c) (funext fun a => Fin.ext ?_)
  refine (emb2 m hO t (ix3 0 r k) a).trans ?_
  unfold cc0_transform_2
  rw [word0]
  exact Chips.slab_at _ _ p hp hc r k a

/-- The chip's number of the quarter, as the table holds it. -/
def word : BitVec 32 := (tbl m 0 : S2.Idx → BitVec 32) (Chips.at_ 0)

/-- Window 3 names the slab at distance 3. -/
theorem emb3 (t : Fin (cfgM m hO).N) (y : S1x128x1024.Idx) (a : Fin 3) :
    ((((cfgM m hO).win 3).blk t).view.emb y a).val
      = cc0_transform_3 inb_S2_S1_0 numel1_S1 (tbl m) ((cfgM m hO).grid.coords t) a * S1x128x1024.size a + 1 * (y a).val := rfl

theorem blk3 (c : Dev nD) (t : Fin (cfgM m hO).N) (r : Fin 128) (k : Fin 1024) (p : Fin 4)
    (hp : (Scalar.xori (tbl m 0 (Chips.at_ 0)) 3#32).toNat = p.val) :
    (iblk m hO c 3 t : S1x128x1024.Idx → EReal) (ix3 0 r k) = SL m c (ix3 p r k) := by
  have hc := coord ((cfgM m hO).grid.coords t)
  refine Eq.trans (b := SL m c ((((cfgM m hO).win 3).blk t).view.emb (ix3 0 r k : S1x128x1024.Idx))) rfl ?_
  refine congrArg (SL m c) (funext fun a => Fin.ext ?_)
  refine (emb3 m hO t (ix3 0 r k) a).trans ?_
  unfold cc0_transform_3
  rw [word0]
  exact Chips.slab_at _ _ p hp hc r k a

/-- One entry of the block the call writes, from the blocks it reads. -/
theorem out4 (c : Dev nD) (i : grid0.Coords)
    (arg2 : Memref sig .tc .vmem S1x128x1024 .bf16) (harg2 : arg2.IsWhole) (arg3 : Memref sig .tc .vmem S1x128x1024 .bf16) (harg3 : arg3.IsWhole)
    (arg4 : Memref sig .tc .vmem S1x128x1024 .bf16) (harg4 : arg4.IsWhole) (arg5 : Memref sig .tc .vmem S1x128x1024 .bf16) (harg5 : arg5.IsWhole)
    (arg6 : Memref sig .tc .vmem S128x1024 .f32) (harg6 : arg6.IsWhole)
    (x0 x1 x2 x3 : FVec Ideal S1x128x1024 .bf16) (xt0 : TbBuf0 (F := Ideal) c tbM0_0) (w : BitVec 32)
    (hw : View.read (Elt Ideal) (View.whole main_arg0) xt0 (ix1 (0 : Fin 2)) = w)
    (r : Fin 128) (k : Fin 1024) :
    (out0_A_4 c i arg2 harg2 arg3 harg3 arg4 harg4 arg5 harg5 arg6 harg6 x0 x1 x2 x3 xt0 : S128x1024.Idx → EReal) (ix2 r k)
      = ∑ j : Fin 4, Chips.chain w j (fun d : Fin 4 => match d with
          | 0 => (x0 : S1x128x1024.Idx → EReal) (ix3 0 r k) | 1 => x1 (ix3 0 r k) | 2 => x2 (ix3 0 r k) | 3 => x3 (ix3 0 r k)) := by
  rw [Fin.sum_univ_four]
  unfold out0_A_4
  frame_out
  unfold_payloads
  pointwise []
  simp only [hw]
  rfl

/-- One entry of the block the call writes. -/
theorem pay (h0 : (word m).toNat < 4) (c : Dev nD) (t : Fin (cfgM m hO).N) (r : Fin 128) (k : Fin 1024) :
    (outsAt0 m hO c t : S128x1024.Idx → EReal) (ix2 r k)
      = ∑ j : Fin 4, if (word m).toNat = j.val then SU m c (ix3 j r k) else SL m c (ix3 j r k) := by
  have hw : View.read (Elt Ideal) (View.whole main_arg0) (tbl m 0) (ix1 (0 : Fin 2)) = word m :=
    congrArg (tbl m 0 : S2.Idx → BitVec 32) (funext fun a => Fin.ext (by match a with | ⟨0, _⟩ => rfl))
  refine (out4 c _ _ _ _ _ _ _ _ _ _ _ _ _ _ _ _ _ hw r k).trans (Finset.sum_congr rfl fun j _ => ?_)
  exact Chips.pick (word m) h0 j _
    (fun q => SU m c (ix3 q r k)) (fun q => SL m c (ix3 q r k)) (fun q hq => blk0 m hO c t r k q hq)
    (fun d hd q hq => match d, hd, hq with
      | 0, hd, _ => absurd rfl hd
      | 1, _, hq => blk1 m hO c t r k q hq
      | 2, _, hq => blk2 m hO c t r k q hq
      | 3, _, hq => blk3 m hO c t r k q hq)

/-- Window 4 names the half of the rows. -/
theorem emb4 (t : Fin (cfgM m hO).N) (y : S128x1024.Idx) (a : Fin 2) :
    ((((cfgM m hO).win 4).blk t).view.emb y a).val
      = cc0_transform_4 inb_S2_S1_1 numel1_S1 (tbl m) ((cfgM m hO).grid.coords t) a * S128x1024.size a + 1 * (y a).val := rfl

/-- The half a row must lie in is the one the call writes. -/
theorem row4 (h1 : (tbl m 0 (Chips.at_ 1)).toNat < 2) (t : Fin (cfgM m hO).N) (r : Fin 128) (k : Fin 1024) (i : S256x1024.Idx)
    (hr : (i 0).val = (tbl m 0 (Chips.at_ 1)).toNat * 128 + r.val) (hk : (i 1).val = k.val) :
    (((cfgM m hO).win 4).blk t).view.emb (ix2 r k : S128x1024.Idx) = i := by
  have hc := Chips.half_eq (tbl m 0 (Chips.at_ 1)) ((cfgM m hO).grid.coords t 0) h1
  refine funext fun a => Fin.ext ((emb4 m hO t (ix2 r k) a).trans ?_)
  unfold cc0_transform_4
  rw [word1]
  match a with
  | ⟨0, _⟩ =>
    show (Scalar.addi (Scalar.muli (tbl m 0 (Chips.at_ 1)) 1#32) (BitVec.ofNat 32 ((cfgM m hO).grid.coords t 0).val)).toNat * 128
      + 1 * r.val = (i 0).val
    rw [hc, hr]; omega
  | ⟨1, _⟩ => show 0 * 1024 + 1 * k.val = (i 1).val; omega

/-- The rows the call writes hold what its one grid point left. -/
theorem left4 (c : Dev nD) (t : Fin (cfgM m hO).N) (y : S128x1024.Idx) :
    ((dats m hO 0 c).arrAt 4 (cfgM m hO).N : S256x1024.Idx → EReal) ((((cfgM m hO).win 4).blk t).view.emb y)
      = (outsAt0 m hO c t : S128x1024.Idx → EReal) y := by
  have hN (t t' : Fin (cfgM m hO).N) : t = t' := (fin_N0 t).trans (fin_N0 t').symm
  have hf : ((cfgM m hO).win 4).flush t = true := by
    rw [fin_N0 t]; unfold Pipeline.Window.flush
    refine Bool.and_eq_true_iff.mpr ⟨rfl, Bool.or_eq_true_iff.mpr (.inl ?_)⟩
    exact decide_eq_true N_0.symm
  have a := congrFun ((dats m hO 0 c).read_blk_arrAt_eq_flushed 4 (fun t t' _ _ h => absurd (hN t t') h) (cfgM m hO).N t t.isLt hf) y
  have b : (dats m hO 0 c).flushed 4 t y = (outsAt0 m hO c t : S128x1024.Idx → EReal) y := by
    refine (Pipeline.Dat.flushed_apply (dats m hO 0 c) 4 t y).trans ?_
    rw [after0_4]
    rfl
  refine Eq.trans ?_ (a.trans b)
  generalize (dats m hO 0 c).arrAt 4 (cfgM m hO).N = f
  rfl

/-- What the call leaves in the half it writes. -/
theorem final4 (h0 : (word m).toNat < 4) (h1 : (tbl m 0 (Chips.at_ 1)).toNat < 2) (c : Dev nD) (i : S256x1024.Idx)
    (hi : (i 0).val = (tbl m 0 (Chips.at_ 1)).toNat * 128 + (i 0).val % 128) :
    ((dats m hO 0 c).arrAt 4 (cfgM m hO).N : S256x1024.Idx → EReal) i = G4 m c i := by
  have e := row4 m hO h1 t0_0 ⟨(i 0).val % 128, Nat.mod_lt _ (by norm_num)⟩ (i 1) i hi rfl
  have a := (left4 m hO c t0_0 (ix2 ⟨(i 0).val % 128, Nat.mod_lt _ (by norm_num)⟩ (i 1))).trans (pay m hO h0 c t0_0 _ _)
  rw [e] at a
  exact a

/-- The mask is the half of the rows the core writes. -/
theorem mask (w : IVec Cert.On_core_half34.S2 32) (x y : FVec Ideal Cert.On_core_half34.S4x128x1024 .bf16)
    (h1 : (w (Chips.at_ 1)).toNat < 2) (i : S256x1024.Idx) (h : Cert.On_core_half34.fn (F := Ideal) w x y i = 1#1) :
    (i 0).val = (w (Chips.at_ 1)).toNat * 128 + (i 0).val % 128 := by
  refine Chips.half_row 128 (by norm_num) _ h1 _ (i 0).isLt (Eq.trans ?_ h)
  have e1 (h) (hc) (j) : shapeCast Cert.On_core_half34.S_ (extractStridedSlice Cert.On_core_half34.S1 ![1] w h) hc j = w (Chips.at_ 1) :=
    Chips.word_slice w 1 h hc j
  dsimp only [Cert.On_core_half34.fn]
  simp only [cmpi, iotaInDim, broadcastInDim, constantI]
  rw [e1]

/-- The reference at a row of either half. -/
theorem ref4 (c : Dev nD) (w : S2.Idx → BitVec 32) (hw : w (Chips.at_ 0) = word m) (i : S256x1024.Idx) :
    (Cert.Reference34Ideal.Read.val_main_v8 (F := Ideal) w (SU m c) (SL m c) : S256x1024.Idx → EReal) i = G4 m c i := by
  have e0 (h) (hc) (j) : shapeCast Cert.Reference34Ideal.S_ (extractStridedSlice Cert.Reference34Ideal.S1 ![0] w h) hc j = w (Chips.at_ 0) :=
    Chips.word_slice w 0 h hc j
  have v (q : Cert.Reference34Ideal.S4x128x1024.Idx) :
      (Cert.Reference34Ideal.Read.val_main_v6 (F := Ideal) w (SU m c) (SL m c) : S4x128x1024.Idx → EReal) q
        = Scalar.select (IntOp.cmpi .eq (BitVec.ofNat 32 (q 0).val) (word m)) (SU m c q) (SL m c q) := by
    rw [Cert.Reference34Ideal.Read.val_main_v6_apply, Cert.Reference34Ideal.Read.val_main_v5_apply,
      Cert.Reference34Ideal.Read.val_main_v4_apply, Cert.Reference34Ideal.Read.val_main_v3_apply, Cert.Reference34Ideal.Read.val_main_v0_apply]
    unfold Cert.Reference34Ideal.Read.val_main_v2 Cert.Reference34Ideal.Read.val_main_v1
    rw [e0, hw]
    rfl
  have e (y : Cert.Reference34Ideal.S128x1024.Idx) (hr : (y 0).val = (i 0).val % 128) (hk : (y 1).val = (i 1).val) :
      (Cert.Reference34Ideal.Read.val_main_v7 (F := Ideal) w (SU m c) (SL m c) : S128x1024.Idx → EReal) y = G4 m c i := by
    rw [Cert.Reference34Ideal.Read.val_main_v7_apply]
    rw [show (Cert.Reference34Ideal.Read.val_main_cst (F := Ideal)) (Shape.Idx.first Cert.Reference34Ideal.Gen.h_S_) = (0 : EReal) from Ideal.ofBits_zero_f32, zero_add]
    unfold G4 Chips.total
    refine Finset.sum_congr rfl fun j _ => ?_
    have hi : Cert.Reference34Ideal.Read.idx_main_v7 y j = ix3 j ⟨(i 0).val % 128, Nat.mod_lt _ (by norm_num)⟩ (i 1) :=
      funext fun a => Fin.ext (by match a with | ⟨0, _⟩ => rfl | ⟨1, _⟩ => exact hr | ⟨2, _⟩ => exact hk)
    refine (v _).trans ((Chips.own (word m) j _ _).trans ?_)
    exact congrArg (fun q => if (word m).toNat = j.val then SU m c q else SL m c q) hi
  unfold Cert.Reference34Ideal.Read.val_main_v8
  exact Chips.halves 128 256 1024 rfl _ _ i _ e

end Value

end Cert.Kernel34Ideal.SumSq
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Reference27Ideal
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Reference28Ideal
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Reference30Ideal
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Reference31Ideal
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Reference32Ideal
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Reference33Ideal
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Reference34Ideal
public import proofs.«01_k».proof.Proof.Gen.Pre_finite3
public import proofs.«01_k».proof.Proof.Gen.Pre_finite4
public import proofs.«01_k».proof.Proof.Gen.Pre_place31
public import proofs.«01_k».proof.Proof.Gen.Pre_place32
public import proofs.«01_k».proof.Proof.Gen.Pre_place33
public import proofs.«01_k».proof.Proof.Gen.Pre_place34
public import proofs.«01_k».proof.Proof.Gen.On_gate_segments
public import proofs.«01_k».proof.Proof.Gen.On_core_half31
public import proofs.«01_k».proof.Proof.Gen.On_core_half32
public import proofs.«01_k».proof.Proof.Gen.On_core_half33
public import proofs.«01_k».proof.Proof.Gen.On_core_half34
public import Idealize.ShloMosaic.Adequacy
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel25Ideal.Value
public import proofs.«01_k».proof.Proof.Gen.Reference25Ideal.Run
public import proofs.«01_k».proof.Proof.Gen.Kernel26Ideal.Value
public import proofs.«01_k».proof.Proof.Gen.Reference26Ideal.Run
public import proofs.«01_k».proof.Proof.Gen.Kernel27Ideal.Value
public import proofs.«01_k».proof.Proof.Gen.Reference27Ideal.Run
public import proofs.«01_k».proof.Proof.Gen.Kernel28Ideal.Value
public import proofs.«01_k».proof.Proof.Gen.Reference28Ideal.Run
public import proofs.«01_k».proof.Proof.Gen.Kernel30Ideal.Value
public import proofs.«01_k».proof.Proof.Gen.Reference30Ideal.Run
public import proofs.«01_k».proof.Proof.Gen.Reference30Ideal.Read
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Reference31Ideal.Run
public import proofs.«01_k».proof.Proof.Gen.Reference31Ideal.Read
public import proofs.«01_k».proof.Proof.Gen.Reference32Ideal.Run
public import proofs.«01_k».proof.Proof.Gen.Reference32Ideal.Read
public import proofs.«01_k».proof.Proof.Gen.Reference33Ideal.Run
public import proofs.«01_k».proof.Proof.Gen.Reference33Ideal.Read
public import proofs.«01_k».proof.Proof.Gen.Reference34Ideal.Run
public import proofs.«01_k».proof.Proof.Gen.Reference34Ideal.Read
public import Idealize.ShloMosaic.Init
public import proofs.«01_k».proof.Proof.Merge
public import proofs.«01_k».proof.Proof.MergeRef
public import proofs.«01_k».proof.Proof.Glu
public import proofs.«01_k».proof.Proof.Norm
public import proofs.«01_k».proof.Proof.Dz1
public import proofs.«01_k».proof.Proof.Dz1Ref
public import proofs.«01_k».proof.Proof.Dz2
public import proofs.«01_k».proof.Proof.Dz2Ref
public import proofs.«01_k».proof.Proof.DwIn
public import proofs.«01_k».proof.Proof.DwUp
public import proofs.«01_k».proof.Proof.DFf
public import proofs.«01_k».proof.Proof.DwDown
public import proofs.«01_k».proof.Proof.DwOut
public import proofs.«01_k».proof.Proof.DwSp
public import proofs.«01_k».proof.Proof.DwHp
public import proofs.«01_k».proof.Proof.DwGlu
public import proofs.«01_k».proof.Proof.DYb
public import proofs.«01_k».proof.Proof.DYa0
public import proofs.«01_k».proof.Proof.UpProj
public import proofs.«01_k».proof.Proof.DownProj
public import proofs.«01_k».proof.Proof.GluProj
public import proofs.«01_k».proof.Proof.ProjMerge
public import proofs.«01_k».proof.Proof.OutProj
public import proofs.«01_k».proof.Proof.Adam
public import proofs.«01_k».proof.Proof.SumDevices
public import proofs.«01_k».proof.Proof.ConvFwd
public import proofs.«01_k».proof.Proof.Chips
public import proofs.«01_k».proof.Proof.SumIn
public import proofs.«01_k».proof.Proof.SumUp
public import proofs.«01_k».proof.Proof.SumDown
public import proofs.«01_k».proof.Proof.SumSq
public import Idealize.ShloMosaic.Lib.Quiescent

@[expose] public section

noncomputable section

namespace Cert.Proof

open Idealize.ShloMosaic Idealize.ShloMosaic.TcCoe Idealize.SL.Sem

theorem quiescent_ReferenceIdeal : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

open Cert.KernelIdeal.Merge in
/-- The gated merge's gradient: both programs end with `G6`, `G7` and, on the two gate segments, `G8`. -/
theorem algebraic_merge : Cert.algebraic_KernelIdeal_ReferenceIdeal_on_gate_segments := by
  intro m ρ m' ρ' _ hagree
  refine ⟨G6 m, G7 m, G8 m, ?_, ?_⟩
  · exact (θ_run Cert.KernelIdeal.defs _ _).mono (fun r h c => ⟨fun i _ => by rw [(h c).1, final6], fun i _ => by rw [(h c).2.1, final7],
      fun i hi => by rw [(h c).2.2.1]; exact final8 m c i (Cert.MergeRef.mask8 _ _ _ _ _ i hi), (h c).2.2.2⟩) (Cert.KernelIdeal.Value.run_blocks (F := Ideal) m ρ)
  · refine (θ_run Cert.ReferenceIdeal.defs _ _).mono (fun r h c => ?_) (Cert.ReferenceIdeal.Value.run (F := Ideal) m' ρ')
    obtain ⟨h0, h1, h2, hk⟩ := h c
    obtain ⟨e0, e1, e2, e3, e4⟩ := hagree c
    refine ⟨fun i _ => ?_, fun i _ => ?_, fun i hi => ?_, hk⟩
    · rw [h0, Cert.ReferenceIdeal.Read.val_main_v36_eq, e0, e1, e2]
      exact Cert.MergeRef.ref6 m c i
    · rw [h1, Cert.ReferenceIdeal.Read.val_main_v37_eq, e0, e1, e2]
      exact Cert.MergeRef.ref7 m c i
    · rw [h2, Cert.ReferenceIdeal.Read.val_main_v38_eq, e0, e1, e2, e3, e4]
      exact Cert.MergeRef.ref8 m c i (Cert.MergeRef.mask8 _ _ _ _ _ i hi)

theorem quiescent_Reference2Ideal : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

open Cert.Kernel2Ideal.Grad in
theorem algebraic_glu : Cert.algebraic_Kernel2Ideal_Reference2Ideal := by
  intro m ρ m' ρ' _ hagree
  refine ⟨G4 m, G5 m, (θ_run Cert.Kernel2Ideal.defs _ _).mono (fun r h c => ⟨((h c).1).trans (final4 m c), ((h c).2.1).trans (final5 m c), (h c).2.2⟩)
    (Cert.Kernel2Ideal.Value.run_blocks (F := Ideal) m ρ), (θ_run Cert.Reference2Ideal.defs _ _).mono (fun r h c => ?_) (Cert.Reference2Ideal.Value.run (F := Ideal) m' ρ')⟩
  obtain ⟨e0, e1, e2, e3⟩ := hagree c
  refine ⟨?_, ?_, (h c).2.2⟩
  · rw [(h c).1, Cert.Reference2Ideal.Read.val_main_v17_eq, e0, e1, e2, e3]
    exact ref4 m c
  · rw [(h c).2.1, Cert.Reference2Ideal.Read.val_main_v15_eq, e0, e1, e3]
    exact ref5 m c

theorem quiescent_Reference3Ideal : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

open Cert.Kernel3Ideal.Grad in
theorem algebraic_dz1 : Cert.algebraic_Kernel3Ideal_Reference3Ideal_pre_finite3 := by
  intro m ρ m' ρ' hpre hagree
  refine ⟨G5 m, G6 m, (θ_run Cert.Kernel3Ideal.defs _ _).mono (fun r h c => ⟨((h c).1).trans (final5 m c), ((h c).2.1).trans (final6 m c), (h c).2.2⟩)
    (Cert.Kernel3Ideal.Value.run_blocks (F := Ideal) m ρ), (θ_run Cert.Reference3Ideal.defs _ _).mono (fun r h c => ?_) (Cert.Reference3Ideal.Value.run (F := Ideal) m' ρ')⟩
  obtain ⟨e0, e1, e2, e3, e4⟩ := hagree c
  refine ⟨?_, ?_, (h c).2.2⟩
  · rw [(h c).1, Cert.Reference3Ideal.Read.val_main_v40_eq, e0, e1, e2, e3, e4]
    exact ref5 m c hpre
  · rw [(h c).2.1, Cert.Reference3Ideal.Read.val_main_v23_eq, e0, e1, e2]
    exact ref6 m c

theorem quiescent_Reference4Ideal : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

open Cert.Kernel4Ideal.Grad in
theorem algebraic_dz2 : Cert.algebraic_Kernel4Ideal_Reference4Ideal_pre_finite4 := by
  intro m ρ m' ρ' hpre hagree
  refine ⟨G5 m, G6 m, (θ_run Cert.Kernel4Ideal.defs _ _).mono (fun r h c => ⟨((h c).1).trans (final5 m c), ((h c).2.1).trans (final6 m c), (h c).2.2⟩)
    (Cert.Kernel4Ideal.Value.run_blocks (F := Ideal) m ρ), (θ_run Cert.Reference4Ideal.defs _ _).mono (fun r h c => ?_) (Cert.Reference4Ideal.Value.run (F := Ideal) m' ρ')⟩
  obtain ⟨e0, e1, e2, e3, e4⟩ := hagree c
  refine ⟨?_, ?_, (h c).2.2⟩
  · rw [(h c).1, Cert.Reference4Ideal.Read.val_main_v40_eq, e0, e1, e2, e3, e4]
    exact ref5 m c hpre
  · rw [(h c).2.1, Cert.Reference4Ideal.Read.val_main_v23_eq, e0, e1, e2]
    exact ref6 m c

theorem quiescent_Reference6Ideal : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

open Cert.Kernel6Ideal.Grad in
theorem algebraic_dw_in : Cert.algebraic_Kernel6Ideal_Reference6Ideal := by
  intro m ρ m' ρ' _ hagree
  refine ⟨G m, (θ_run Cert.Kernel6Ideal.defs _ _).mono (fun r h c => ⟨((h c).1).trans (final m c), (h c).2⟩)
    (Cert.Kernel6Ideal.Value.run_blocks (F := Ideal) m ρ), (θ_run Cert.Reference6Ideal.defs _ _).mono (fun r h c => ?_) (Cert.Reference6Ideal.Value.run (F := Ideal) m' ρ')⟩
  obtain ⟨e0, e1⟩ := hagree c
  refine ⟨?_, (h c).2⟩
  · rw [(h c).1, Cert.Reference6Ideal.Read.val_main_v9_eq, e0, e1]
    exact ref m c

theorem quiescent_Reference7Ideal : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

open Cert.Kernel7Ideal.Grad in
theorem algebraic_dw_up : Cert.algebraic_Kernel7Ideal_Reference7Ideal := by
  intro m ρ m' ρ' _ hagree
  refine ⟨G m, (θ_run Cert.Kernel7Ideal.defs _ _).mono (fun r h c => ⟨((h c).1).trans (final m c), (h c).2⟩)
    (Cert.Kernel7Ideal.Value.run_blocks (F := Ideal) m ρ), (θ_run Cert.Reference7Ideal.defs _ _).mono (fun r h c => ?_) (Cert.Reference7Ideal.Value.run (F := Ideal) m' ρ')⟩
  obtain ⟨e0, e1⟩ := hagree c
  refine ⟨?_, (h c).2⟩
  · rw [(h c).1, Cert.Reference7Ideal.Read.val_main_v9_eq, e0, e1]
    exact ref m c

theorem quiescent_Reference8Ideal : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

open Cert.Kernel8Ideal.Grad in
theorem algebraic_d_ff : Cert.algebraic_Kernel8Ideal_Reference8Ideal := by
  intro m ρ m' ρ' _ hagree
  refine ⟨G m, (θ_run Cert.Kernel8Ideal.defs _ _).mono (fun r h c => ⟨((h c).1).trans (final2 m c), (h c).2⟩)
    (Cert.Kernel8Ideal.Value.run_blocks (F := Ideal) m ρ), (θ_run Cert.Reference8Ideal.defs _ _).mono (fun r h c => ?_) (Cert.Reference8Ideal.Value.run (F := Ideal) m' ρ')⟩
  obtain ⟨e0, e1⟩ := hagree c
  refine ⟨?_, (h c).2⟩
  · rw [(h c).1, Cert.Reference8Ideal.Read.val_main_v3_eq, e0, e1]
    exact ref2 m c

theorem quiescent_Reference11Ideal : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

open Cert.Kernel11Ideal.Grad in
theorem algebraic_dw_down : Cert.algebraic_Kernel11Ideal_Reference11Ideal := by
  intro m ρ m' ρ' _ hagree
  refine ⟨G m, (θ_run Cert.Kernel11Ideal.defs _ _).mono (fun r h c => ⟨((h c).1).trans (final m c), (h c).2⟩)
    (Cert.Kernel11Ideal.Value.run_blocks (F := Ideal) m ρ), (θ_run Cert.Reference11Ideal.defs _ _).mono (fun r h c => ?_) (Cert.Reference11Ideal.Value.run (F := Ideal) m' ρ')⟩
  obtain ⟨e0, e1⟩ := hagree c
  refine ⟨?_, (h c).2⟩
  · rw [(h c).1, Cert.Reference11Ideal.Read.val_main_v4_eq, e0, e1]
    exact ref m c

theorem quiescent_Reference12Ideal : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

open Cert.Kernel12Ideal.Grad in
theorem algebraic_dw_out : Cert.algebraic_Kernel12Ideal_Reference12Ideal := by
  intro m ρ m' ρ' _ hagree
  refine ⟨G m, (θ_run Cert.Kernel12Ideal.defs _ _).mono (fun r h c => ⟨((h c).1).trans (final m c), (h c).2⟩)
    (Cert.Kernel12Ideal.Value.run_blocks (F := Ideal) m ρ), (θ_run Cert.Reference12Ideal.defs _ _).mono (fun r h c => ?_) (Cert.Reference12Ideal.Value.run (F := Ideal) m' ρ')⟩
  obtain ⟨e0, e1⟩ := hagree c
  refine ⟨?_, (h c).2⟩
  · rw [(h c).1, Cert.Reference12Ideal.Read.val_main_v4_eq, e0, e1]
    exact ref m c

theorem quiescent_Reference13Ideal : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

open Cert.Kernel13Ideal.Grad in
theorem algebraic_dw_sp : Cert.algebraic_Kernel13Ideal_Reference13Ideal := by
  intro m ρ m' ρ' _ hagree
  refine ⟨G m, (θ_run Cert.Kernel13Ideal.defs _ _).mono (fun r h c => ⟨((h c).1).trans (final m c), (h c).2⟩)
    (Cert.Kernel13Ideal.Value.run_blocks (F := Ideal) m ρ), (θ_run Cert.Reference13Ideal.defs _ _).mono (fun r h c => ?_) (Cert.Reference13Ideal.Value.run (F := Ideal) m' ρ')⟩
  obtain ⟨e0, e1⟩ := hagree c
  refine ⟨?_, (h c).2⟩
  · rw [(h c).1, Cert.Reference13Ideal.Read.val_main_v5_eq, e0, e1]
    exact ref m c

theorem quiescent_Reference14Ideal : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

open Cert.Kernel14Ideal.Grad in
theorem algebraic_dw_hp : Cert.algebraic_Kernel14Ideal_Reference14Ideal := by
  intro m ρ m' ρ' _ hagree
  refine ⟨G m, (θ_run Cert.Kernel14Ideal.defs _ _).mono (fun r h c => ⟨((h c).1).trans (final m c), (h c).2⟩)
    (Cert.Kernel14Ideal.Value.run_blocks (F := Ideal) m ρ), (θ_run Cert.Reference14Ideal.defs _ _).mono (fun r h c => ?_) (Cert.Reference14Ideal.Value.run (F := Ideal) m' ρ')⟩
  obtain ⟨e0, e1⟩ := hagree c
  refine ⟨?_, (h c).2⟩
  · rw [(h c).1, Cert.Reference14Ideal.Read.val_main_v5_eq, e0, e1]
    exact ref m c

theorem quiescent_Reference15Ideal : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

open Cert.Kernel15Ideal.Grad in
theorem algebraic_dw_glu : Cert.algebraic_Kernel15Ideal_Reference15Ideal := by
  intro m ρ m' ρ' _ hagree
  refine ⟨G m, (θ_run Cert.Kernel15Ideal.defs _ _).mono (fun r h c => ⟨((h c).1).trans (final m c), (h c).2⟩)
    (Cert.Kernel15Ideal.Value.run_blocks (F := Ideal) m ρ), (θ_run Cert.Reference15Ideal.defs _ _).mono (fun r h c => ?_) (Cert.Reference15Ideal.Value.run (F := Ideal) m' ρ')⟩
  obtain ⟨e0, e1⟩ := hagree c
  refine ⟨?_, (h c).2⟩
  · rw [(h c).1, Cert.Reference15Ideal.Read.val_main_v4_eq, e0, e1]
    exact ref m c

theorem quiescent_Reference16Ideal : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

open Cert.Kernel16Ideal.Grad in
theorem algebraic_d_yb : Cert.algebraic_Kernel16Ideal_Reference16Ideal := by
  intro m ρ m' ρ' _ hagree
  refine ⟨G m, (θ_run Cert.Kernel16Ideal.defs _ _).mono (fun r h c => ⟨((h c).1).trans (final2 m c), (h c).2⟩)
    (Cert.Kernel16Ideal.Value.run_blocks (F := Ideal) m ρ), (θ_run Cert.Reference16Ideal.defs _ _).mono (fun r h c => ?_) (Cert.Reference16Ideal.Value.run (F := Ideal) m' ρ')⟩
  obtain ⟨e0, e1⟩ := hagree c
  refine ⟨?_, (h c).2⟩
  · rw [(h c).1, Cert.Reference16Ideal.Read.val_main_v4_eq, e0, e1]
    exact ref2 m c

theorem quiescent_Reference17Ideal : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

open Cert.Kernel17Ideal.Grad in
theorem algebraic_d_ya0 : Cert.algebraic_Kernel17Ideal_Reference17Ideal := by
  intro m ρ m' ρ' _ hagree
  refine ⟨G m, (θ_run Cert.Kernel17Ideal.defs _ _).mono (fun r h c => ⟨((h c).1).trans (final3 m c), (h c).2⟩)
    (Cert.Kernel17Ideal.Value.run_blocks (F := Ideal) m ρ), (θ_run Cert.Reference17Ideal.defs _ _).mono (fun r h c => ?_) (Cert.Reference17Ideal.Value.run (F := Ideal) m' ρ')⟩
  obtain ⟨e0, e1, e2⟩ := hagree c
  refine ⟨?_, (h c).2⟩
  · rw [(h c).1, Cert.Reference17Ideal.Read.val_main_v5_eq, e0, e1, e2]
    exact ref3 m c

theorem quiescent_Reference9Ideal : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

open Cert.Kernel9Ideal.Grad in
theorem algebraic_up : Cert.algebraic_Kernel9Ideal_Reference9Ideal := by
  intro m ρ m' ρ' _ hagree
  refine ⟨G m, (θ_run Cert.Kernel9Ideal.defs _ _).mono (fun r h c => ⟨((h c).1).trans (final2 m c), (h c).2⟩)
    (Cert.Kernel9Ideal.Value.run_blocks (F := Ideal) m ρ), (θ_run Cert.Reference9Ideal.defs _ _).mono (fun r h c => ?_) (Cert.Reference9Ideal.Value.run (F := Ideal) m' ρ')⟩
  obtain ⟨e0, e1⟩ := hagree c
  refine ⟨?_, (h c).2⟩
  · rw [(h c).1, Cert.Reference9Ideal.Read.val_main_v2_eq, e0, e1]
    exact ref2 m c

theorem quiescent_Reference10Ideal : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

open Cert.Kernel10Ideal.Grad in
theorem algebraic_down : Cert.algebraic_Kernel10Ideal_Reference10Ideal := by
  intro m ρ m' ρ' _ hagree
  refine ⟨G m, (θ_run Cert.Kernel10Ideal.defs _ _).mono (fun r h c => ⟨((h c).1).trans (final m c), (h c).2⟩)
    (Cert.Kernel10Ideal.Value.run_blocks (F := Ideal) m ρ), (θ_run Cert.Reference10Ideal.defs _ _).mono (fun r h c => ?_) (Cert.Reference10Ideal.Value.run (F := Ideal) m' ρ')⟩
  obtain ⟨e0, e1, e2⟩ := hagree c
  refine ⟨?_, (h c).2⟩
  · rw [(h c).1, Cert.Reference10Ideal.Read.val_main_v3_eq, e0, e1, e2]
    exact ref m c

theorem quiescent_Reference18Ideal : Cert.quiescent_Reference18Ideal := fun m ρ _ =>
  (θ_run Cert.Reference18Ideal.defs _ _).mono (fun r h => ⟨fun c => (h c).2.2, sem_eq_zero_of_no_sems (by decide) r.2⟩)
    (Cert.Reference18Ideal.Value.run (F := Ideal) m ρ)

open Cert.Kernel18Ideal.Grad in
theorem algebraic_glu_proj : Cert.algebraic_Kernel18Ideal_Reference18Ideal := by
  intro m ρ m' ρ' _ hagree
  refine ⟨G3 m, G4 m, (θ_run Cert.Kernel18Ideal.defs _ _).mono (fun r h c => ⟨((h c).1).trans (final3 m c), ((h c).2.1).trans (final4 m c), (h c).2.2⟩)
    (Cert.Kernel18Ideal.Value.run_blocks (F := Ideal) m ρ), (θ_run Cert.Reference18Ideal.defs _ _).mono (fun r h c => ?_) (Cert.Reference18Ideal.Value.run (F := Ideal) m' ρ')⟩
  obtain ⟨e0, e1⟩ := hagree c
  refine ⟨?_, ?_, (h c).2.2⟩
  · rw [(h c).1, Cert.Reference18Ideal.Read.val_main_v1_eq, e0, e1]
    exact ref3 m c
  · rw [(h c).2.1, Cert.Reference18Ideal.Read.val_main_v9_eq, e0, e1]
    exact ref4 m c

theorem quiescent_Reference19Ideal : Cert.quiescent_Reference19Ideal := fun m ρ _ =>
  (θ_run Cert.Reference19Ideal.defs _ _).mono (fun r h => ⟨fun c => (h c).2.2.2, sem_eq_zero_of_no_sems (by decide) r.2⟩)
    (Cert.Reference19Ideal.Value.run (F := Ideal) m ρ)

open Cert.Kernel19Ideal.Grad in
theorem algebraic_proj_merge : Cert.algebraic_Kernel19Ideal_Reference19Ideal := by
  intro m ρ m' ρ' _ hagree
  refine ⟨G6 m, G7 m, G8 m, (θ_run Cert.Kernel19Ideal.defs _ _).mono (fun r h c => ⟨((h c).1).trans (final6 m c), ((h c).2.1).trans (final7 m c), ((h c).2.2.1).trans (final8 m c), (h c).2.2.2⟩)
    (Cert.Kernel19Ideal.Value.run_blocks (F := Ideal) m ρ), (θ_run Cert.Reference19Ideal.defs _ _).mono (fun r h c => ?_) (Cert.Reference19Ideal.Value.run (F := Ideal) m' ρ')⟩
  obtain ⟨e0, e1, e2, e3, e4⟩ := hagree c
  refine ⟨?_, ?_, ?_, (h c).2.2.2⟩
  · rw [(h c).1, Cert.Reference19Ideal.Read.val_main_v2_eq, e0, e2]
    exact ref6 m c
  · rw [(h c).2.1, Cert.Reference19Ideal.Read.val_main_v5_eq, e1, e3]
    exact ref7 m c
  · rw [(h c).2.2.1, Cert.Reference19Ideal.Read.val_main_v23_eq, e0, e1, e2, e3, e4]
    exact ref8 m c

theorem quiescent_Reference20Ideal : Cert.quiescent_Reference20Ideal := fun m ρ _ =>
  (θ_run Cert.Reference20Ideal.defs _ _).mono (fun r h => ⟨fun c => (h c).2.2, sem_eq_zero_of_no_sems (by decide) r.2⟩)
    (Cert.Reference20Ideal.Value.run (F := Ideal) m ρ)

open Cert.Kernel20Ideal.Grad in
theorem algebraic_out_proj : Cert.algebraic_Kernel20Ideal_Reference20Ideal := by
  intro m ρ m' ρ' _ hagree
  refine ⟨G4 m, G5 m, (θ_run Cert.Kernel20Ideal.defs _ _).mono (fun r h c => ⟨((h c).1).trans (final4 m c), ((h c).2.1).trans (final5 m c), (h c).2.2⟩)
    (Cert.Kernel20Ideal.Value.run_blocks (F := Ideal) m ρ), (θ_run Cert.Reference20Ideal.defs _ _).mono (fun r h c => ?_) (Cert.Reference20Ideal.Value.run (F := Ideal) m' ρ')⟩
  obtain ⟨e0, e1, e2, e3⟩ := hagree c
  refine ⟨?_, ?_, (h c).2.2⟩
  · rw [(h c).1, Cert.Reference20Ideal.Read.val_main_v3_eq, e0, e1, e2]
    exact ref4 m c
  · rw [(h c).2.1, Cert.Reference20Ideal.Read.val_main_v16_eq, e0, e1, e2, e3]
    exact ref5 m c

theorem quiescent_Reference25Ideal : Cert.quiescent_Reference25Ideal := fun m ρ _ =>
  (θ_run Cert.Reference25Ideal.defs _ _).mono (fun r h => ⟨fun c => (h c).2.2.2, sem_eq_zero_of_no_sems (by decide) r.2⟩)
    (Cert.Reference25Ideal.Value.run (F := Ideal) m ρ)

/-- The two reciprocals are named what they stand for. -/
theorem preserves_adam_in : Cert.preserves_Kernel25_Kernel25Ideal :=
  ⟨IdealRules.named_const.statement Cert.Kernel25Ideal.κ "corr1" .f32 0x3FC48605#32 ((8388608 / 5463681 : ℝ) : EReal) rfl,
    IdealRules.named_const.statement Cert.Kernel25Ideal.κ "corr2" .f32 0x42C8E6D3#32 ((268435456 / 2672307 : ℝ) : EReal) rfl⟩

theorem algebraic_adam_in : Cert.algebraic_Kernel25Ideal_Reference25Ideal := by
  intro m ρ m' ρ' _ hagree
  refine ⟨_, _, _, Cert.Kernel25Ideal.Value.run (F := Ideal) m ρ, (θ_run Cert.Reference25Ideal.defs _ _).mono (fun r h c => ?_) (Cert.Reference25Ideal.Value.run (F := Ideal) m' ρ')⟩
  obtain ⟨e0, e1, e2, e3⟩ := hagree c
  obtain ⟨h0, h1, h2, hk⟩ := h c
  rw [e0, e1, e2, e3] at h0
  rw [e1, e2] at h1
  rw [e1, e3] at h2
  exact ⟨h0.trans (Cert.Adam.ref_change _ _ _ (IdealRules.named_const.ideal_named_scalar _ _ _ _ rfl)
    (IdealRules.named_const.ideal_named_scalar _ _ _ _ rfl) _ _ _ _), h1.trans (Cert.Adam.ref_first _ _ _), h2.trans (Cert.Adam.ref_second _ _ _), hk⟩

theorem quiescent_Reference26Ideal : Cert.quiescent_Reference26Ideal := fun m ρ _ =>
  (θ_run Cert.Reference26Ideal.defs _ _).mono (fun r h => ⟨fun c => (h c).2.2.2, sem_eq_zero_of_no_sems (by decide) r.2⟩)
    (Cert.Reference26Ideal.Value.run (F := Ideal) m ρ)

/-- The two reciprocals are named what they stand for. -/
theorem preserves_adam_up : Cert.preserves_Kernel26_Kernel26Ideal :=
  ⟨IdealRules.named_const.statement Cert.Kernel26Ideal.κ "corr1" .f32 0x3FC48605#32 ((8388608 / 5463681 : ℝ) : EReal) rfl,
    IdealRules.named_const.statement Cert.Kernel26Ideal.κ "corr2" .f32 0x42C8E6D3#32 ((268435456 / 2672307 : ℝ) : EReal) rfl⟩

theorem algebraic_adam_up : Cert.algebraic_Kernel26Ideal_Reference26Ideal := by
  intro m ρ m' ρ' _ hagree
  refine ⟨_, _, _, Cert.Kernel26Ideal.Value.run (F := Ideal) m ρ, (θ_run Cert.Reference26Ideal.defs _ _).mono (fun r h c => ?_) (Cert.Reference26Ideal.Value.run (F := Ideal) m' ρ')⟩
  obtain ⟨e0, e1, e2, e3⟩ := hagree c
  obtain ⟨h0, h1, h2, hk⟩ := h c
  rw [e0, e1, e2, e3] at h0
  rw [e1, e2] at h1
  rw [e1, e3] at h2
  exact ⟨h0.trans (Cert.Adam.ref_change _ _ _ (IdealRules.named_const.ideal_named_scalar _ _ _ _ rfl)
    (IdealRules.named_const.ideal_named_scalar _ _ _ _ rfl) _ _ _ _), h1.trans (Cert.Adam.ref_first _ _ _), h2.trans (Cert.Adam.ref_second _ _ _), hk⟩

theorem quiescent_Reference27Ideal : Cert.quiescent_Reference27Ideal := fun m ρ _ =>
  (θ_run Cert.Reference27Ideal.defs _ _).mono (fun r h => ⟨fun c => (h c).2.2.2, sem_eq_zero_of_no_sems (by decide) r.2⟩)
    (Cert.Reference27Ideal.Value.run (F := Ideal) m ρ)

/-- The two reciprocals are named what they stand for. -/
theorem preserves_adam_down : Cert.preserves_Kernel27_Kernel27Ideal :=
  ⟨IdealRules.named_const.statement Cert.Kernel27Ideal.κ "corr1" .f32 0x3FC48605#32 ((8388608 / 5463681 : ℝ) : EReal) rfl,
    IdealRules.named_const.statement Cert.Kernel27Ideal.κ "corr2" .f32 0x42C8E6D3#32 ((268435456 / 2672307 : ℝ) : EReal) rfl⟩

theorem algebraic_adam_down : Cert.algebraic_Kernel27Ideal_Reference27Ideal := by
  intro m ρ m' ρ' _ hagree
  refine ⟨_, _, _, Cert.Kernel27Ideal.Value.run (F := Ideal) m ρ, (θ_run Cert.Reference27Ideal.defs _ _).mono (fun r h c => ?_) (Cert.Reference27Ideal.Value.run (F := Ideal) m' ρ')⟩
  obtain ⟨e0, e1, e2, e3⟩ := hagree c
  obtain ⟨h0, h1, h2, hk⟩ := h c
  rw [e0, e1, e2, e3] at h0
  rw [e1, e2] at h1
  rw [e1, e3] at h2
  exact ⟨h0.trans (Cert.Adam.ref_change _ _ _ (IdealRules.named_const.ideal_named_scalar _ _ _ _ rfl)
    (IdealRules.named_const.ideal_named_scalar _ _ _ _ rfl) _ _ _ _), h1.trans (Cert.Adam.ref_first _ _ _), h2.trans (Cert.Adam.ref_second _ _ _), hk⟩

theorem quiescent_Reference28Ideal : Cert.quiescent_Reference28Ideal := fun m ρ _ =>
  (θ_run Cert.Reference28Ideal.defs _ _).mono (fun r h => ⟨fun c => (h c).2.2.2, sem_eq_zero_of_no_sems (by decide) r.2⟩)
    (Cert.Reference28Ideal.Value.run (F := Ideal) m ρ)

/-- The two reciprocals are named what they stand for. -/
theorem preserves_adam_sq : Cert.preserves_Kernel28_Kernel28Ideal :=
  ⟨IdealRules.named_const.statement Cert.Kernel28Ideal.κ "corr1" .f32 0x3FC48605#32 ((8388608 / 5463681 : ℝ) : EReal) rfl,
    IdealRules.named_const.statement Cert.Kernel28Ideal.κ "corr2" .f32 0x42C8E6D3#32 ((268435456 / 2672307 : ℝ) : EReal) rfl⟩

theorem algebraic_adam_sq : Cert.algebraic_Kernel28Ideal_Reference28Ideal := by
  intro m ρ m' ρ' _ hagree
  refine ⟨_, _, _, Cert.Kernel28Ideal.Value.run (F := Ideal) m ρ, (θ_run Cert.Reference28Ideal.defs _ _).mono (fun r h c => ?_) (Cert.Reference28Ideal.Value.run (F := Ideal) m' ρ')⟩
  obtain ⟨e0, e1, e2, e3⟩ := hagree c
  obtain ⟨h0, h1, h2, hk⟩ := h c
  rw [e0, e1, e2, e3] at h0
  rw [e1, e2] at h1
  rw [e1, e3] at h2
  exact ⟨h0.trans (Cert.Adam.ref_change _ _ _ (IdealRules.named_const.ideal_named_scalar _ _ _ _ rfl)
    (IdealRules.named_const.ideal_named_scalar _ _ _ _ rfl) _ _ _ _), h1.trans (Cert.Adam.ref_first _ _ _), h2.trans (Cert.Adam.ref_second _ _ _), hk⟩

theorem quiescent_Reference30Ideal : Cert.quiescent_Reference30Ideal := fun m ρ _ =>
  (θ_run Cert.Reference30Ideal.defs _ _).mono (fun r h => ⟨fun c => (h c).2, sem_eq_zero_of_no_sems (by decide) r.2⟩)
    (Cert.Reference30Ideal.Value.run (F := Ideal) m ρ)

open Cert.Kernel30Ideal.Grad in
theorem algebraic_sum_dev : Cert.algebraic_Kernel30Ideal_Reference30Ideal := by
  intro m ρ m' ρ' _ hagree
  refine ⟨G1 m, (θ_run Cert.Kernel30Ideal.defs _ _).mono (fun r h c => ⟨((h c).1).trans (final1 m c), (h c).2⟩)
    (Cert.Kernel30Ideal.Value.run_blocks (F := Ideal) m ρ), (θ_run Cert.Reference30Ideal.defs _ _).mono (fun r h c => ?_) (Cert.Reference30Ideal.Value.run (F := Ideal) m' ρ')⟩
  have e0 := hagree c
  refine ⟨?_, (h c).2⟩
  · rw [(h c).1, Cert.Reference30Ideal.Read.val_main_v0_eq, e0]
    exact ref1 m c

theorem quiescent_Reference23Ideal : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

open Cert.Kernel23Ideal.Grad in
theorem algebraic_conv_fwd : Cert.algebraic_Kernel23Ideal_Reference23Ideal := by
  intro m ρ m' ρ' _ hagree
  refine ⟨G6 m, (θ_run Cert.Kernel23Ideal.defs _ _).mono (fun r h c => ⟨((h c).1).trans (final6 m c), (h c).2⟩)
    (Cert.Kernel23Ideal.Value.run_blocks (F := Ideal) m ρ), (θ_run Cert.Reference23Ideal.defs _ _).mono (fun r h c => ?_) (Cert.Reference23Ideal.Value.run (F := Ideal) m' ρ')⟩
  obtain ⟨e0, e1, e2⟩ := hagree c
  refine ⟨?_, (h c).2⟩
  · rw [(h c).1, Cert.Reference23Ideal.Read.val_main_v33_eq, e0, e1, e2]
    exact ref6 m c

theorem quiescent_Reference31Ideal : Cert.quiescent_Reference31Ideal := fun m ρ _ =>
  (θ_run Cert.Reference31Ideal.defs _ _).mono (fun r h => ⟨fun c => (h c).2, sem_eq_zero_of_no_sems (by decide) r.2⟩)
    (Cert.Reference31Ideal.Value.run (F := Ideal) m ρ)

/-- The frame of `sum_in`, whose windows are those of the idealized call. -/
theorem quiescent_sum_in : Cert.quiescent_Kernel31 := fun m ρ h =>
  Cert.Kernel31.Gen.frame m ρ (Cert.Kernel31Ideal.SumIn.ok (F := Bits) m (Cert.SumIn.place_of _ _ _ (h 0)).1 (Cert.SumIn.place_of _ _ _ (h 0)).2)

open Cert.Kernel31Ideal.Gen in
/-- The words of the table of `sum_in`, from the precondition. -/
theorem words_sum_in (m : (ℓ : Loc Cert.Kernel31Ideal.nD Cert.Kernel31Ideal.τ Cert.Kernel31Ideal.sig) → Buf (Elt Ideal) ℓ) (h : Cert.Pre_Kernel31Ideal m) :
    ((tbl m 0 : Cert.Kernel31Ideal.S2.Idx → BitVec 32) (Cert.Chips.at_ 0)).toNat < 4 ∧ ((tbl m 0 : Cert.Kernel31Ideal.S2.Idx → BitVec 32) (Cert.Chips.at_ 1)).toNat < 2 :=
  Cert.SumIn.place_of _ _ _ (h 0)

open Cert.Kernel31Ideal.Gen Cert.Kernel31Ideal.SumIn in
/-- `sum_in`: on the core's half of the rows both programs end with `G4`. -/
theorem algebraic_sum_in : Cert.algebraic_Kernel31Ideal_Reference31Ideal_on_core_half31 := by
  intro m ρ m' ρ' hpre hagree
  obtain ⟨h0, h1⟩ := words_sum_in m hpre
  have hO := ok m h0 h1
  refine ⟨G4 m, ?_, ?_⟩
  · refine (θ_run Cert.Kernel31Ideal.defs _ _).mono (fun r h c => ⟨fun i hi => ?_, h.2 c⟩) (θ_run_and (run_main m ρ hO) (unchanged m ρ hO))
    obtain rfl : c = 0 := Subsingleton.elim _ _
    exact (congrFun ((h.1 0).1 4) i).trans (final4 m hO h0 h1 0 i (mask _ _ _ h1 i hi))
  · refine (θ_run Cert.Reference31Ideal.defs _ _).mono (fun r h c => ?_) (Cert.Reference31Ideal.Value.run (F := Ideal) m' ρ')
    obtain ⟨e0, e1, e2⟩ := hagree c
    obtain rfl : c = 0 := Subsingleton.elim _ _
    refine ⟨fun i _ => ?_, (h 0).2⟩
    rw [(h 0).1, Cert.Reference31Ideal.Read.val_main_v8_eq, e0, e1, e2]
    exact ref4 m 0 _ rfl i

theorem quiescent_Reference32Ideal : Cert.quiescent_Reference32Ideal := fun m ρ _ =>
  (θ_run Cert.Reference32Ideal.defs _ _).mono (fun r h => ⟨fun c => (h c).2, sem_eq_zero_of_no_sems (by decide) r.2⟩)
    (Cert.Reference32Ideal.Value.run (F := Ideal) m ρ)

/-- The frame of `sum_up`, whose windows are those of the idealized call. -/
theorem quiescent_sum_up : Cert.quiescent_Kernel32 := fun m ρ h =>
  Cert.Kernel32.Gen.frame m ρ (Cert.Kernel32Ideal.SumUp.ok (F := Bits) m (Cert.SumUp.place_of _ _ _ (h 0)).1 (Cert.SumUp.place_of _ _ _ (h 0)).2)

open Cert.Kernel32Ideal.Gen in
/-- The words of the table of `sum_up`, from the precondition. -/
theorem words_sum_up (m : (ℓ : Loc Cert.Kernel32Ideal.nD Cert.Kernel32Ideal.τ Cert.Kernel32Ideal.sig) → Buf (Elt Ideal) ℓ) (h : Cert.Pre_Kernel32Ideal m) :
    ((tbl m 0 : Cert.Kernel32Ideal.S2.Idx → BitVec 32) (Cert.Chips.at_ 0)).toNat < 4 ∧ ((tbl m 0 : Cert.Kernel32Ideal.S2.Idx → BitVec 32) (Cert.Chips.at_ 1)).toNat < 2 :=
  Cert.SumUp.place_of _ _ _ (h 0)

open Cert.Kernel32Ideal.Gen Cert.Kernel32Ideal.SumUp in
/-- `sum_up`: on the core's half of the rows both programs end with `G4`. -/
theorem algebraic_sum_up : Cert.algebraic_Kernel32Ideal_Reference32Ideal_on_core_half32 := by
  intro m ρ m' ρ' hpre hagree
  obtain ⟨h0, h1⟩ := words_sum_up m hpre
  have hO := ok m h0 h1
  refine ⟨G4 m, ?_, ?_⟩
  · refine (θ_run Cert.Kernel32Ideal.defs _ _).mono (fun r h c => ⟨fun i hi => ?_, h.2 c⟩) (θ_run_and (run_main m ρ hO) (unchanged m ρ hO))
    obtain rfl : c = 0 := Subsingleton.elim _ _
    exact (congrFun ((h.1 0).1 4) i).trans (final4 m hO h0 h1 0 i (mask _ _ _ h1 i hi))
  · refine (θ_run Cert.Reference32Ideal.defs _ _).mono (fun r h c => ?_) (Cert.Reference32Ideal.Value.run (F := Ideal) m' ρ')
    obtain ⟨e0, e1, e2⟩ := hagree c
    obtain rfl : c = 0 := Subsingleton.elim _ _
    refine ⟨fun i _ => ?_, (h 0).2⟩
    rw [(h 0).1, Cert.Reference32Ideal.Read.val_main_v8_eq, e0, e1, e2]
    exact ref4 m 0 _ rfl i

theorem quiescent_Reference33Ideal : Cert.quiescent_Reference33Ideal := fun m ρ _ =>
  (θ_run Cert.Reference33Ideal.defs _ _).mono (fun r h => ⟨fun c => (h c).2, sem_eq_zero_of_no_sems (by decide) r.2⟩)
    (Cert.Reference33Ideal.Value.run (F := Ideal) m ρ)

/-- The frame of `sum_down`, whose windows are those of the idealized call. -/
theorem quiescent_sum_down : Cert.quiescent_Kernel33 := fun m ρ h =>
  Cert.Kernel33.Gen.frame m ρ (Cert.Kernel33Ideal.SumDown.ok (F := Bits) m (Cert.SumDown.place_of _ _ _ (h 0)).1 (Cert.SumDown.place_of _ _ _ (h 0)).2)

open Cert.Kernel33Ideal.Gen in
/-- The words of the table of `sum_down`, from the precondition. -/
theorem words_sum_down (m : (ℓ : Loc Cert.Kernel33Ideal.nD Cert.Kernel33Ideal.τ Cert.Kernel33Ideal.sig) → Buf (Elt Ideal) ℓ) (h : Cert.Pre_Kernel33Ideal m) :
    ((tbl m 0 : Cert.Kernel33Ideal.S2.Idx → BitVec 32) (Cert.Chips.at_ 0)).toNat < 4 ∧ ((tbl m 0 : Cert.Kernel33Ideal.S2.Idx → BitVec 32) (Cert.Chips.at_ 1)).toNat < 2 :=
  Cert.SumDown.place_of _ _ _ (h 0)

open Cert.Kernel33Ideal.Gen Cert.Kernel33Ideal.SumDown in
/-- `sum_down`: on the core's half of the rows both programs end with `G4`. -/
theorem algebraic_sum_down : Cert.algebraic_Kernel33Ideal_Reference33Ideal_on_core_half33 := by
  intro m ρ m' ρ' hpre hagree
  obtain ⟨h0, h1⟩ := words_sum_down m hpre
  have hO := ok m h0 h1
  refine ⟨G4 m, ?_, ?_⟩
  · refine (θ_run Cert.Kernel33Ideal.defs _ _).mono (fun r h c => ⟨fun i hi => ?_, h.2 c⟩) (θ_run_and (run_main m ρ hO) (unchanged m ρ hO))
    obtain rfl : c = 0 := Subsingleton.elim _ _
    exact (congrFun ((h.1 0).1 4) i).trans (final4 m hO h0 h1 0 i (mask _ _ _ h1 i hi))
  · refine (θ_run Cert.Reference33Ideal.defs _ _).mono (fun r h c => ?_) (Cert.Reference33Ideal.Value.run (F := Ideal) m' ρ')
    obtain ⟨e0, e1, e2⟩ := hagree c
    obtain rfl : c = 0 := Subsingleton.elim _ _
    refine ⟨fun i _ => ?_, (h 0).2⟩
    rw [(h 0).1, Cert.Reference33Ideal.Read.val_main_v8_eq, e0, e1, e2]
    exact ref4 m 0 _ rfl i

theorem quiescent_Reference34Ideal : Cert.quiescent_Reference34Ideal := fun m ρ _ =>
  (θ_run Cert.Reference34Ideal.defs _ _).mono (fun r h => ⟨fun c => (h c).2, sem_eq_zero_of_no_sems (by decide) r.2⟩)
    (Cert.Reference34Ideal.Value.run (F := Ideal) m ρ)

/-- The frame of `sum_sq`, whose windows are those of the idealized call. -/
theorem quiescent_sum_sq : Cert.quiescent_Kernel34 := fun m ρ h =>
  Cert.Kernel34.Gen.frame m ρ (Cert.Kernel34Ideal.SumSq.ok (F := Bits) m (Cert.SumSq.place_of _ _ _ (h 0)).1 (Cert.SumSq.place_of _ _ _ (h 0)).2)

open Cert.Kernel34Ideal.Gen in
/-- The words of the table of `sum_sq`, from the precondition. -/
theorem words_sum_sq (m : (ℓ : Loc Cert.Kernel34Ideal.nD Cert.Kernel34Ideal.τ Cert.Kernel34Ideal.sig) → Buf (Elt Ideal) ℓ) (h : Cert.Pre_Kernel34Ideal m) :
    ((tbl m 0 : Cert.Kernel34Ideal.S2.Idx → BitVec 32) (Cert.Chips.at_ 0)).toNat < 4 ∧ ((tbl m 0 : Cert.Kernel34Ideal.S2.Idx → BitVec 32) (Cert.Chips.at_ 1)).toNat < 2 :=
  Cert.SumSq.place_of _ _ _ (h 0)

open Cert.Kernel34Ideal.Gen Cert.Kernel34Ideal.SumSq in
/-- `sum_sq`: on the core's half of the rows both programs end with `G4`. -/
theorem algebraic_sum_sq : Cert.algebraic_Kernel34Ideal_Reference34Ideal_on_core_half34 := by
  intro m ρ m' ρ' hpre hagree
  obtain ⟨h0, h1⟩ := words_sum_sq m hpre
  have hO := ok m h0 h1
  refine ⟨G4 m, ?_, ?_⟩
  · refine (θ_run Cert.Kernel34Ideal.defs _ _).mono (fun r h c => ⟨fun i hi => ?_, h.2 c⟩) (θ_run_and (run_main m ρ hO) (unchanged m ρ hO))
    obtain rfl : c = 0 := Subsingleton.elim _ _
    exact (congrFun ((h.1 0).1 4) i).trans (final4 m hO h0 h1 0 i (mask _ _ _ h1 i hi))
  · refine (θ_run Cert.Reference34Ideal.defs _ _).mono (fun r h c => ?_) (Cert.Reference34Ideal.Value.run (F := Ideal) m' ρ')
    obtain ⟨e0, e1, e2⟩ := hagree c
    obtain rfl : c = 0 := Subsingleton.elim _ _
    refine ⟨fun i _ => ?_, (h 0).2⟩
    rw [(h 0).1, Cert.Reference34Ideal.Read.val_main_v8_eq, e0, e1, e2]
    exact ref4 m 0 _ rfl i

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel30.Gen.facts, Cert.Kernel30Ideal.Gen.facts, Cert.Reference30Ideal.Gen.facts, Cert.Kernel23.Gen.facts, Cert.Kernel23Ideal.Gen.facts, Cert.Reference23Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Pre_finite3.Gen.facts, Cert.Pre_finite4.Gen.facts, Cert.Pre_place31.Gen.facts, Cert.Pre_place32.Gen.facts, Cert.Pre_place33.Gen.facts, Cert.Pre_place34.Gen.facts, Cert.On_gate_segments.Gen.facts, Cert.On_core_half31.Gen.facts, Cert.On_core_half32.Gen.facts, Cert.On_core_half33.Gen.facts, Cert.On_core_half34.Gen.facts,
  fun m ρ _ => Cert.Kernel.Gen.frame m ρ,
  fun m ρ _ => Cert.KernelIdeal.Gen.frame m ρ,
  quiescent_ReferenceIdeal,
  fun m ρ _ => Cert.Kernel2.Gen.frame m ρ,
  fun m ρ _ => Cert.Kernel2Ideal.Gen.frame m ρ,
  quiescent_Reference2Ideal,
  fun m ρ _ => Cert.Kernel3.Gen.frame m ρ,
  fun m ρ _ => Cert.Kernel3Ideal.Gen.frame m ρ,
  fun m ρ _ => Cert.Kernel3Ideal.Gen.frame m ρ,
  quiescent_Reference3Ideal,
  fun m ρ _ => quiescent_Reference3Ideal m ρ trivial,
  fun m ρ _ => Cert.Kernel4.Gen.frame m ρ,
  fun m ρ _ => Cert.Kernel4Ideal.Gen.frame m ρ,
  fun m ρ _ => Cert.Kernel4Ideal.Gen.frame m ρ,
  quiescent_Reference4Ideal,
  fun m ρ _ => quiescent_Reference4Ideal m ρ trivial,
  fun m ρ _ => Cert.Kernel6.Gen.frame m ρ,
  fun m ρ _ => Cert.Kernel6Ideal.Gen.frame m ρ,
  quiescent_Reference6Ideal,
  fun m ρ _ => Cert.Kernel7.Gen.frame m ρ,
  fun m ρ _ => Cert.Kernel7Ideal.Gen.frame m ρ,
  quiescent_Reference7Ideal,
  fun m ρ _ => Cert.Kernel8.Gen.frame m ρ,
  fun m ρ _ => Cert.Kernel8Ideal.Gen.frame m ρ,
  quiescent_Reference8Ideal,
  fun m ρ _ => Cert.Kernel11.Gen.frame m ρ,
  fun m ρ _ => Cert.Kernel11Ideal.Gen.frame m ρ,
  quiescent_Reference11Ideal,
  fun m ρ _ => Cert.Kernel12.Gen.frame m ρ,
  fun m ρ _ => Cert.Kernel12Ideal.Gen.frame m ρ,
  quiescent_Reference12Ideal,
  fun m ρ _ => Cert.Kernel13.Gen.frame m ρ,
  fun m ρ _ => Cert.Kernel13Ideal.Gen.frame m ρ,
  quiescent_Reference13Ideal,
  fun m ρ _ => Cert.Kernel14.Gen.frame m ρ,
  fun m ρ _ => Cert.Kernel14Ideal.Gen.frame m ρ,
  quiescent_Reference14Ideal,
  fun m ρ _ => Cert.Kernel15.Gen.frame m ρ,
  fun m ρ _ => Cert.Kernel15Ideal.Gen.frame m ρ,
  quiescent_Reference15Ideal,
  fun m ρ _ => Cert.Kernel16.Gen.frame m ρ,
  fun m ρ _ => Cert.Kernel16Ideal.Gen.frame m ρ,
  quiescent_Reference16Ideal,
  fun m ρ _ => Cert.Kernel17.Gen.frame m ρ,
  fun m ρ _ => Cert.Kernel17Ideal.Gen.frame m ρ,
  quiescent_Reference17Ideal,
  fun m ρ _ => Cert.Kernel9.Gen.frame m ρ,
  fun m ρ _ => Cert.Kernel9Ideal.Gen.frame m ρ,
  quiescent_Reference9Ideal,
  fun m ρ _ => Cert.Kernel10.Gen.frame m ρ,
  fun m ρ _ => Cert.Kernel10Ideal.Gen.frame m ρ,
  quiescent_Reference10Ideal,
  fun m ρ _ => Cert.Kernel18.Gen.frame m ρ,
  fun m ρ _ => Cert.Kernel18Ideal.Gen.frame m ρ,
  quiescent_Reference18Ideal,
  fun m ρ _ => Cert.Kernel19.Gen.frame m ρ,
  fun m ρ _ => Cert.Kernel19Ideal.Gen.frame m ρ,
  quiescent_Reference19Ideal,
  fun m ρ _ => Cert.Kernel20.Gen.frame m ρ,
  fun m ρ _ => Cert.Kernel20Ideal.Gen.frame m ρ,
  quiescent_Reference20Ideal,
  fun m ρ _ => Cert.Kernel25.Gen.frame m ρ,
  fun m ρ _ => Cert.Kernel25Ideal.Gen.frame m ρ,
  quiescent_Reference25Ideal,
  fun m ρ _ => Cert.Kernel26.Gen.frame m ρ,
  fun m ρ _ => Cert.Kernel26Ideal.Gen.frame m ρ,
  quiescent_Reference26Ideal,
  fun m ρ _ => Cert.Kernel27.Gen.frame m ρ,
  fun m ρ _ => Cert.Kernel27Ideal.Gen.frame m ρ,
  quiescent_Reference27Ideal,
  fun m ρ _ => Cert.Kernel28.Gen.frame m ρ,
  fun m ρ _ => Cert.Kernel28Ideal.Gen.frame m ρ,
  quiescent_Reference28Ideal,
  fun m ρ _ => Cert.Kernel30.Gen.frame m ρ,
  fun m ρ _ => Cert.Kernel30Ideal.Gen.frame m ρ,
  quiescent_Reference30Ideal,
  fun m ρ _ => Cert.Kernel23.Gen.frame m ρ,
  fun m ρ _ => Cert.Kernel23Ideal.Gen.frame m ρ,
  quiescent_Reference23Ideal,
  quiescent_sum_in,
  fun m ρ h => Cert.Kernel31Ideal.Gen.frame m ρ (Cert.Kernel31Ideal.SumIn.ok m (words_sum_in m h).1 (words_sum_in m h).2),
  quiescent_Reference31Ideal,
  fun m ρ _ => quiescent_Reference31Ideal m ρ trivial,
  quiescent_sum_up,
  fun m ρ h => Cert.Kernel32Ideal.Gen.frame m ρ (Cert.Kernel32Ideal.SumUp.ok m (words_sum_up m h).1 (words_sum_up m h).2),
  quiescent_Reference32Ideal,
  fun m ρ _ => quiescent_Reference32Ideal m ρ trivial,
  quiescent_sum_down,
  fun m ρ h => Cert.Kernel33Ideal.Gen.frame m ρ (Cert.Kernel33Ideal.SumDown.ok m (words_sum_down m h).1 (words_sum_down m h).2),
  quiescent_Reference33Ideal,
  fun m ρ _ => quiescent_Reference33Ideal m ρ trivial,
  quiescent_sum_sq,
  fun m ρ h => Cert.Kernel34Ideal.Gen.frame m ρ (Cert.Kernel34Ideal.SumSq.ok m (words_sum_sq m h).1 (words_sum_sq m h).2),
  quiescent_Reference34Ideal,
  fun m ρ _ => quiescent_Reference34Ideal m ρ trivial,
  trivial,
  algebraic_merge,
  trivial,
  algebraic_glu,
  trivial,
  algebraic_dz1,
  trivial,
  algebraic_dz2,
  trivial,
  algebraic_dw_in,
  trivial,
  algebraic_dw_up,
  trivial,
  algebraic_d_ff,
  trivial,
  algebraic_dw_down,
  trivial,
  algebraic_dw_out,
  trivial,
  algebraic_dw_sp,
  trivial,
  algebraic_dw_hp,
  trivial,
  algebraic_dw_glu,
  trivial,
  algebraic_d_yb,
  trivial,
  algebraic_d_ya0,
  trivial,
  algebraic_up,
  trivial,
  algebraic_down,
  trivial,
  algebraic_glu_proj,
  trivial,
  algebraic_proj_merge,
  trivial,
  algebraic_out_proj,
  preserves_adam_in,
  algebraic_adam_in,
  preserves_adam_up,
  algebraic_adam_up,
  preserves_adam_down,
  algebraic_adam_down,
  preserves_adam_sq,
  algebraic_adam_sq,
  trivial,
  algebraic_sum_dev,
  trivial,
  algebraic_conv_fwd,
  trivial,
  algebraic_sum_in,
  trivial,
  algebraic_sum_up,
  trivial,
  algebraic_sum_down,
  trivial,
  algebraic_sum_sq⟩

end Cert.Proof

end
